-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_embedding [hPre_finite_embedding : Cert.Pre_finite_embedding.Facts] (m : (ℓ : Loc Cert.KernelIdeal.nD Cert.KernelIdeal.τ Cert.KernelIdeal.sig) → Buf (Elt Ideal) ℓ) : Prop :=
  ∀ c : Dev Cert.KernelIdeal.nD,
    (Cert.Pre_finite_embedding.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).1 = (fun _ => 1#1)
    ∧ (Cert.Pre_finite_embedding.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.1 = (fun _ => 1#1)
    ∧ (Cert.Pre_finite_embedding.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.1 = (fun _ => 1#1)
    ∧ (Cert.Pre_finite_embedding.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.1 = (fun _ => 1#1)
    ∧ (Cert.Pre_finite_embedding.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.1 = (fun _ => 1#1)
    ∧ (Cert.Pre_finite_embedding.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.1 = (fun _ => 1#1)
    ∧ (Cert.Pre_finite_embedding.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.1 = (fun _ => 1#1)
    ∧ (Cert.Pre_finite_embedding.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.1 = (fun _ => 1#1)
    ∧ (Cert.Pre_finite_embedding.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_embedding [hPre_finite_embedding : Cert.Pre_finite_embedding.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_embedding.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).1 = (fun _ => 1#1)
    ∧ (Cert.Pre_finite_embedding.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.1 = (fun _ => 1#1)
    ∧ (Cert.Pre_finite_embedding.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.1 = (fun _ => 1#1)
    ∧ (Cert.Pre_finite_embedding.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.1 = (fun _ => 1#1)
    ∧ (Cert.Pre_finite_embedding.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.1 = (fun _ => 1#1)
    ∧ (Cert.Pre_finite_embedding.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.1 = (fun _ => 1#1)
    ∧ (Cert.Pre_finite_embedding.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.1 = (fun _ => 1#1)
    ∧ (Cert.Pre_finite_embedding.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.1 = (fun _ => 1#1)
    ∧ (Cert.Pre_finite_embedding.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_finite_embedding [hKernelIdeal : Cert.KernelIdeal.Facts] [hPre_finite_embedding : Cert.Pre_finite_embedding.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_embedding m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_finite_embedding [hReferenceIdeal : Cert.ReferenceIdeal.Facts] [hPre_finite_embedding : Cert.Pre_finite_embedding.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_embedding m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  True

def algebraic_KernelIdeal_ReferenceIdeal_pre_finite_embedding [hKernelIdeal : Cert.KernelIdeal.Facts] [hReferenceIdeal : Cert.ReferenceIdeal.Facts] [hPre_finite_embedding : Cert.Pre_finite_embedding.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_embedding m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v8_2)) (v1 : (c : Dev Cert.KernelIdeal.nD) → Buf (Elt Ideal) ((c.tc : Thread Cert.KernelIdeal.nD Cert.KernelIdeal.τ).loc Cert.KernelIdeal.main_v8_3)) (v2 : (c : Dev Cert.KernelIdeal.nD) → Buf (Elt Ideal) ((c.tc : Thread Cert.KernelIdeal.nD Cert.KernelIdeal.τ).loc Cert.KernelIdeal.main_v8_0)) (v3 : (c : Dev Cert.KernelIdeal.nD) → Buf (Elt Ideal) ((c.tc : Thread Cert.KernelIdeal.nD Cert.KernelIdeal.τ).loc Cert.KernelIdeal.main_v8_1)) (v4 : (c : Dev Cert.KernelIdeal.nD) → Buf (Elt Ideal) ((c.tc : Thread Cert.KernelIdeal.nD Cert.KernelIdeal.τ).loc Cert.KernelIdeal.main_v8_4)) (v5 : (c : Dev Cert.KernelIdeal.nD) → Buf (Elt Ideal) ((c.tc : Thread Cert.KernelIdeal.nD Cert.KernelIdeal.τ).loc Cert.KernelIdeal.main_v8_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_2) = v0 c
          ∧ r.2.mem ((c.tc : Thread Cert.KernelIdeal.nD Cert.KernelIdeal.τ).loc Cert.KernelIdeal.main_v8_3) = v1 c
          ∧ r.2.mem ((c.tc : Thread Cert.KernelIdeal.nD Cert.KernelIdeal.τ).loc Cert.KernelIdeal.main_v8_0) = v2 c
          ∧ r.2.mem ((c.tc : Thread Cert.KernelIdeal.nD Cert.KernelIdeal.τ).loc Cert.KernelIdeal.main_v8_1) = v3 c
          ∧ r.2.mem ((c.tc : Thread Cert.KernelIdeal.nD Cert.KernelIdeal.τ).loc Cert.KernelIdeal.main_v8_4) = v4 c
          ∧ r.2.mem ((c.tc : Thread Cert.KernelIdeal.nD Cert.KernelIdeal.τ).loc Cert.KernelIdeal.main_v8_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_v82) = v2 c
          ∧ r.2.mem ((c.tc : Thread Cert.ReferenceIdeal.nD Cert.ReferenceIdeal.τ).loc Cert.ReferenceIdeal.main_v83) = v3 c
          ∧ r.2.mem ((c.tc : Thread Cert.ReferenceIdeal.nD Cert.ReferenceIdeal.τ).loc Cert.ReferenceIdeal.main_v58) = v4 c
          ∧ r.2.mem ((c.tc : Thread Cert.ReferenceIdeal.nD Cert.ReferenceIdeal.τ).loc Cert.ReferenceIdeal.main_v59) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_embedding : Cert.Pre_finite_embedding.Facts),
    quiescent_Kernel (hKernel := hKernel)
    ∧ quiescent_KernelIdeal (hKernelIdeal := hKernelIdeal)
    ∧ quiescent_KernelIdeal_pre_finite_embedding (hKernelIdeal := hKernelIdeal) (hPre_finite_embedding := hPre_finite_embedding)
    ∧ quiescent_ReferenceIdeal (hReferenceIdeal := hReferenceIdeal)
    ∧ quiescent_ReferenceIdeal_pre_finite_embedding (hReferenceIdeal := hReferenceIdeal) (hPre_finite_embedding := hPre_finite_embedding)
    ∧ preserves_Kernel_KernelIdeal
    ∧ algebraic_KernelIdeal_ReferenceIdeal_pre_finite_embedding (hKernelIdeal := hKernelIdeal) (hReferenceIdeal := hReferenceIdeal) (hPre_finite_embedding := hPre_finite_embedding)
-- ==== Pre_finite_embedding.lean ====
abbrev S1x4096x256 : Shape := ⟨3, ![1, 4096, 256]⟩
abbrev S1x4096x4096 : Shape := ⟨3, ![1, 4096, 4096]⟩
abbrev S4096x4096 : Shape := ⟨2, ![4096, 4096]⟩
abbrev S1x64 : Shape := ⟨2, ![1, 64]⟩
abbrev S256x64 : Shape := ⟨2, ![256, 64]⟩
abbrev S64 : Shape := ⟨1, ![64]⟩
abbrev S_ : Shape := ⟨0, ![]⟩
abbrev S64x64 : Shape := ⟨2, ![64, 64]⟩
abbrev S64x1 : Shape := ⟨2, ![64, 1]⟩

class Facts : Prop where
  bcast_S_S1x4096x256 : S_.BroadcastsInDim S1x4096x256 (![] : Fin 0 → Fin S1x4096x256.rank)
  bcast_S_S1x4096x4096 : S_.BroadcastsInDim S1x4096x4096 (![] : Fin 0 → Fin S1x4096x4096.rank)
  bcast_S_S4096x4096 : S_.BroadcastsInDim S4096x4096 (![] : Fin 0 → Fin S4096x4096.rank)
  bcast_S_S256x64 : S_.BroadcastsInDim S256x64 (![] : Fin 0 → Fin S256x64.rank)
  bcast_S_S64 : S_.BroadcastsInDim S64 (![] : Fin 0 → Fin S64.rank)
  bcast_S_S64x64 : S_.BroadcastsInDim S64x64 (![] : Fin 0 → Fin S64x64.rank)

variable [Facts]

def fn_part1 {F : FTy → Type} [FloatOps F] (main_arg10 : FVec F S64 .f32) (main_arg11 : FVec F S_ .f32) (main_v2 : IVec S1x4096x256 1) (main_v5 : IVec S1x4096x4096 1) (main_v8 : IVec S4096x4096 1) (main_v11 : IVec S256x64 1) (main_v14 : IVec S64 1) (main_v16 : IVec S_ 1) (main_v17 : FVec F S64x64 .f32) : IVec S1x4096x256 1 × IVec S1x4096x4096 1 × IVec S4096x4096 1 × IVec S256x64 1 × IVec S64 1 × IVec S_ 1 × IVec S64x64 1 × IVec S64 1 × IVec S_ 1 :=
  let main_cst_5 : FVec F S_ .f32 := constant S_ .f32 0x7F800000#32
  let main_v18 : FVec F S64x64 .f32 := broadcastInDim S64x64 ![] bcast_S_S64x64 main_cst_5
  let main_v19 : IVec S64x64 1 := cmpf .olt main_v17 main_v18
  let main_v20 : FVec F S64 .f32 := Host.absf main_arg10
  let main_cst_6 : FVec F S_ .f32 := constant S_ .f32 0x7F800000#32
  let main_v21 : FVec F S64 .f32 := broadcastInDim S64 ![] bcast_S_S64 main_cst_6
  let main_v22 : IVec S64 1 := cmpf .olt main_v20 main_v21
  let main_v23 : FVec F S_ .f32 := Host.absf main_arg11
  let main_cst_7 : FVec F S_ .f32 := constant S_ .f32 0x7F800000#32
  let main_v24 : IVec S_ 1 := cmpf .olt main_v23 main_cst_7
  (main_v2, main_v5, main_v8, main_v11, main_v14, main_v16, main_v19, main_v22, main_v24)

def fn {F : FTy → Type} [FloatOps F] (main_arg0 : FVec F S1x4096x256 .f32) (main_arg1 : FVec F S1x4096x256 .f32) (main_arg2 : FVec F S1x4096x4096 .f32) (main_arg3 : FVec F S4096x4096 .f32) (main_arg4 : FVec F S1x64 .f32) (main_arg5 : FVec F S1x64 .f32) (main_arg6 : FVec F S256x64 .f32) (main_arg7 : FVec F S64 .f32) (main_arg8 : FVec F S_ .f32) (main_arg9 : FVec F S64x64 .f32) (main_arg10 : FVec F S64 .f32) (main_arg11 : FVec F S_ .f32) (main_arg12 : FVec F S64x64 .f32) (main_arg13 : FVec F S_ .f32) (main_arg14 : FVec F S64x1 .f32) (main_arg15 : FVec F S64x64 .f32) (main_arg16 : FVec F S64x64 .f32) : IVec S1x4096x256 1 × IVec S1x4096x4096 1 × IVec S4096x4096 1 × IVec S256x64 1 × IVec S64 1 × IVec S_ 1 × IVec S64x64 1 × IVec S64 1 × IVec S_ 1 :=
  let main_v0 : FVec F S1x4096x256 .f32 := Host.absf main_arg0
  let main_cst : FVec F S_ .f32 := constant S_ .f32 0x7F800000#32
  let main_v1 : FVec F S1x4096x256 .f32 := broadcastInDim S1x4096x256 ![] bcast_S_S1x4096x256 main_cst
  let main_v2 : IVec S1x4096x256 1 := cmpf .olt main_v0 main_v1
  let main_v3 : FVec F S1x4096x4096 .f32 := Host.absf main_arg2
  let main_cst_0 : FVec F S_ .f32 := constant S_ .f32 0x7F800000#32
  let main_v4 : FVec F S1x4096x4096 .f32 := broadcastInDim S1x4096x4096 ![] bcast_S_S1x4096x4096 main_cst_0
  let main_v5 : IVec S1x4096x4096 1 := cmpf .olt main_v3 main_v4
  let main_v6 : FVec F S4096x4096 .f32 := Host.absf main_arg3
  let main_cst_1 : FVec F S_ .f32 := constant S_ .f32 0x7F800000#32
  let main_v7 : FVec F S4096x4096 .f32 := broadcastInDim S4096x4096 ![] bcast_S_S4096x4096 main_cst_1
  let main_v8 : IVec S4096x4096 1 := cmpf .olt main_v6 main_v7
  let main_v9 : FVec F S256x64 .f32 := Host.absf main_arg6
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_v12 : FVec F S64 .f32 := Host.absf main_arg7
  let main_cst_3 : FVec F S_ .f32 := constant S_ .f32 0x7F800000#32
  let main_v13 : FVec F S64 .f32 := broadcastInDim S64 ![] bcast_S_S64 main_cst_3
  let main_v14 : IVec S64 1 := cmpf .olt main_v12 main_v13
  let main_v15 : FVec F S_ .f32 := Host.absf main_arg8
  let main_cst_4 : FVec F S_ .f32 := constant S_ .f32 0x7F800000#32
  let main_v16 : IVec S_ 1 := cmpf .olt main_v15 main_cst_4
  let main_v17 : FVec F S64x64 .f32 := Host.absf main_arg9
  fn_part1 (F := F) main_arg10 main_arg11 main_v2 main_v5 main_v8 main_v11 main_v14 main_v16 main_v17
-- ==== Kernel.lean ====
abbrev S1x4096x256 : Shape := ⟨3, ![1, 4096, 256]⟩
abbrev S1x4096x4096 : Shape := ⟨3, ![1, 4096, 4096]⟩
abbrev S4096x4096 : Shape := ⟨2, ![4096, 4096]⟩
abbrev S1x64 : Shape := ⟨2, ![1, 64]⟩
abbrev S256x64 : Shape := ⟨2, ![256, 64]⟩
abbrev S64 : Shape := ⟨1, ![64]⟩
abbrev S_ : Shape := ⟨0, ![]⟩
abbrev S64x64 : Shape := ⟨2, ![64, 64]⟩
abbrev S64x1 : Shape := ⟨2, ![64, 1]⟩
abbrev S4096x256 : Shape := ⟨2, ![4096, 256]⟩
abbrev S1x1 : Shape := ⟨2, ![1, 1]⟩
abbrev S4096x64 : Shape := ⟨2, ![4096, 64]⟩
abbrev S1x8192 : Shape := ⟨2, ![1, 8192]⟩
abbrev S1x4096 : Shape := ⟨2, ![1, 4096]⟩
abbrev S512x256 : Shape := ⟨2, ![512, 256]⟩
abbrev S512x4096 : Shape := ⟨2, ![512, 4096]⟩
abbrev S512x64 : Shape := ⟨2, ![512, 64]⟩
abbrev S1024x4096 : Shape := ⟨2, ![1024, 4096]⟩
abbrev S4096x128 : Shape := ⟨2, ![4096, 128]⟩
abbrev S512x128 : Shape := ⟨2, ![512, 128]⟩
abbrev S1x128 : Shape := ⟨2, ![1, 128]⟩
abbrev S1x512 : Shape := ⟨2, ![1, 512]⟩
abbrev S512x512 : Shape := ⟨2, ![512, 512]⟩
abbrev S512 : Shape := ⟨1, ![512]⟩
abbrev S512x1 : Shape := ⟨2, ![512, 1]⟩

abbrev nBuf : Space → Nat
  | .hbm => 31
  | .vmem => 35
  | .smem => 0
  | _ => 0

abbrev bufTy : (tb : Table) → Fin (tcTables nBuf tb) → BufTy
  | .hbm, ⟨0, _⟩ => ⟨S1x4096x256, .f32⟩
  | .hbm, ⟨1, _⟩ => ⟨S1x4096x256, .f32⟩
  | .hbm, ⟨2, _⟩ => ⟨S1x4096x4096, .f32⟩
  | .hbm, ⟨3, _⟩ => ⟨S4096x4096, .f32⟩
  | .hbm, ⟨4, _⟩ => ⟨S1x64, .f32⟩
  | .hbm, ⟨5, _⟩ => ⟨S1x64, .f32⟩
  | .hbm, ⟨6, _⟩ => ⟨S256x64, .f32⟩
  | .hbm, ⟨7, _⟩ => ⟨S64, .f32⟩
  | .hbm, ⟨8, _⟩ => ⟨S_, .f32⟩
  | .hbm, ⟨9, _⟩ => ⟨S64x64, .f32⟩
  | .hbm, ⟨10, _⟩ => ⟨S64, .f32⟩
  | .hbm, ⟨11, _⟩ => ⟨S_, .f32⟩
  | .hbm, ⟨12, _⟩ => ⟨S64x64, .f32⟩
  | .hbm, ⟨13, _⟩ => ⟨S_, .f32⟩
  | .hbm, ⟨14, _⟩ => ⟨S64x1, .f32⟩
  | .hbm, ⟨15, _⟩ => ⟨S64x64, .f32⟩
  | .hbm, ⟨16, _⟩ => ⟨S64x64, .f32⟩
  | .hbm, ⟨17, _⟩ => ⟨S4096x256, .f32⟩
  | .hbm, ⟨18, _⟩ => ⟨S4096x256, .f32⟩
  | .hbm, ⟨19, _⟩ => ⟨S4096x4096, .f32⟩
  | .hbm, ⟨20, _⟩ => ⟨S1x64, .f32⟩
  | .hbm, ⟨21, _⟩ => ⟨S1x64, .f32⟩
  | .hbm, ⟨22, _⟩ => ⟨S1x1, .f32⟩
  | .hbm, ⟨23, _⟩ => ⟨S1x1, .f32⟩
  | .hbm, ⟨24, _⟩ => ⟨S1x1, .f32⟩
  | .hbm, ⟨25, _⟩ => ⟨S4096x64, .f32⟩
  | .hbm, ⟨26, _⟩ => ⟨S4096x64, .f32⟩
  | .hbm, ⟨27, _⟩ => ⟨S1x8192, .f32⟩
  | .hbm, ⟨28, _⟩ => ⟨S1x4096, .f32⟩
  | .hbm, ⟨29, _⟩ => ⟨S1x64, .f32⟩
  | .hbm, ⟨30, _⟩ => ⟨S1x64, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x4096, .f32⟩
  | .local _ .vmem, ⟨5, _⟩ => ⟨S512x4096, .f32⟩
  | .local _ .vmem, ⟨6, _⟩ => ⟨S512x4096, .f32⟩
  | .local _ .vmem, ⟨7, _⟩ => ⟨S512x4096, .f32⟩
  | .local _ .vmem, ⟨8, _⟩ => ⟨S256x64, .f32⟩
  | .local _ .vmem, ⟨9, _⟩ => ⟨S1x64, .f32⟩
  | .local _ .vmem, ⟨10, _⟩ => ⟨S1x1, .f32⟩
  | .local _ .vmem, ⟨11, _⟩ => ⟨S64x64, .f32⟩
  | .local _ .vmem, ⟨12, _⟩ => ⟨S1x64, .f32⟩
  | .local _ .vmem, ⟨13, _⟩ => ⟨S1x1, .f32⟩
  | .local _ .vmem, ⟨14, _⟩ => ⟨S64x64, .f32⟩
  | .local _ .vmem, ⟨15, _⟩ => ⟨S1x1, .f32⟩
  | .local _ .vmem, ⟨16, _⟩ => ⟨S64x1, .f32⟩
  | .local _ .vmem, ⟨17, _⟩ => ⟨S1x64, .f32⟩
  | .local _ .vmem, ⟨18, _⟩ => ⟨S64x64, .f32⟩
  | .local _ .vmem, ⟨19, _⟩ => ⟨S1x64, .f32⟩
  | .local _ .vmem, ⟨20, _⟩ => ⟨S64x64, .f32⟩
  | .local _ .vmem, ⟨21, _⟩ => ⟨S512x64, .f32⟩
  | .local _ .vmem, ⟨22, _⟩ => ⟨S512x64, .f32⟩
  | .local _ .vmem, ⟨23, _⟩ => ⟨S512x64, .f32⟩
  | .local _ .vmem, ⟨24, _⟩ => ⟨S512x64, .f32⟩
  | .local _ .vmem, ⟨25, _⟩ => ⟨S1x8192, .f32⟩
  | .local _ .vmem, ⟨26, _⟩ => ⟨S1x4096, .f32⟩
  | .local _ .vmem, ⟨27, _⟩ => ⟨S1x64, .f32⟩
  | .local _ .vmem, ⟨28, _⟩ => ⟨S1x64, .f32⟩
  | .local _ .vmem, ⟨29, _⟩ => ⟨S1024x4096, .f32⟩
  | .local _ .vmem, ⟨30, _⟩ => ⟨S4096x128, .f32⟩
  | .local _ .vmem, ⟨31, _⟩ => ⟨S4096x64, .f32⟩
  | .local _ .vmem, ⟨32, _⟩ => ⟨S4096x128, .f32⟩
  | .local _ .vmem, ⟨33, _⟩ => ⟨S1x64, .f32⟩
  | .local _ .vmem, ⟨34, _⟩ => ⟨S64x1, .f32⟩
  | _, _ => ⟨S1x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8_0 : Ref sig .tc := ⟨.hbm, 25, rfl⟩
abbrev main_v8_1 : Ref sig .tc := ⟨.hbm, 26, rfl⟩
abbrev main_v8_2 : Ref sig .tc := ⟨.hbm, 27, rfl⟩
abbrev main_v8_3 : Ref sig .tc := ⟨.hbm, 28, rfl⟩
abbrev main_v8_4 : Ref sig .tc := ⟨.hbm, 29, rfl⟩
abbrev main_v8_5 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg17_1 : Ref sig .tc := ⟨.vmem, 22, rfl⟩
abbrev cc0_stg18_0 : Ref sig .tc := ⟨.vmem, 23, rfl⟩
abbrev cc0_stg18_1 : Ref sig .tc := ⟨.vmem, 24, rfl⟩
abbrev cc0_stg19_0 : Ref sig .tc := ⟨.vmem, 25, rfl⟩
abbrev cc0_stg20_0 : Ref sig .tc := ⟨.vmem, 26, rfl⟩
abbrev cc0_stg21_0 : Ref sig .tc := ⟨.vmem, 27, rfl⟩
abbrev cc0_stg22_0 : Ref sig .tc := ⟨.vmem, 28, rfl⟩
abbrev cc0_scratch0 : Ref sig .tc := ⟨.vmem, 29, rfl⟩
abbrev cc0_scratch1 : Ref sig .tc := ⟨.vmem, 30, rfl⟩
abbrev cc0_scratch2 : Ref sig .tc := ⟨.vmem, 31, rfl⟩
abbrev cc0_scratch3 : Ref sig .tc := ⟨.vmem, 32, rfl⟩
abbrev cc0_scratch4 : Ref sig .tc := ⟨.vmem, 33, rfl⟩
abbrev cc0_scratch5 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem17_1 : DmaSem sig := 22
abbrev cc0_sem18_0 : DmaSem sig := 23
abbrev cc0_sem18_1 : DmaSem sig := 24
abbrev cc0_sem19_0 : DmaSem sig := 25
abbrev cc0_sem20_0 : DmaSem sig := 26
abbrev cc0_sem21_0 : DmaSem sig := 27
abbrev cc0_sem22_0 : DmaSem sig := 28

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def k0_off1 (i : grid0.Coords) : Fin 2 → Nat :=
  let arg1 : BitVec 32 := BitVec.ofNat 32 (i 1).val
  let c512_i32 : BitVec 32 := 512#32
  let v0 : BitVec 32 := Scalar.muli arg1 c512_i32
  let v22 : Index := Scalar.indexCast v0
  let c0_12 : Index := 0#32
  ![v22.toNat, 0]
def k0_cond3 (i : grid0.Coords) : BitVec 1 :=
  let arg0 : BitVec 32 := BitVec.ofNat 32 (i 0).val
  let c1_i32 : BitVec 32 := 1#32
  let v4 : BitVec 1 := Scalar.cmpi .eq arg0 c1_i32
  let v5 : BitVec 32 := Scalar.extui v4
  let c0_i32_1 : BitVec 32 := 0#32
  let v6 : BitVec 1 := Scalar.cmpi .ne v5 c0_i32_1
  v6

def k0_cond4 (i : grid0.Coords) : BitVec 1 :=
  let arg1 : BitVec 32 := BitVec.ofNat 32 (i 1).val
  let c6_i32 : BitVec 32 := 6#32
  let v13 : BitVec 1 := Scalar.cmpi .sge arg1 c6_i32
  let v14 : BitVec 32 := Scalar.extui v13
  let c0_i32_4 : BitVec 32 := 0#32
  let v15 : BitVec 1 := Scalar.cmpi .ne v14 c0_i32_4
  v15

def k0_off2 (i : grid0.Coords) : Fin 2 → Nat :=
  let arg1 : BitVec 32 := BitVec.ofNat 32 (i 1).val
  let c6_i32_32 : BitVec 32 := 6#32
  let v63 : BitVec 32 := Scalar.subi arg1 c6_i32_32
  let c512_i32_33 : BitVec 32 := 512#32
  let v64 : BitVec 32 := Scalar.muli v63 c512_i32_33
  let v65 : Index := Scalar.indexCast v64
  let c0_34 : Index := 0#32
  ![v65.toNat, 0]
def k0_off3 (i : grid0.Coords) : Fin 2 → Nat :=
  let arg1 : BitVec 32 := BitVec.ofNat 32 (i 1).val
  let c512_i32 : BitVec 32 := 512#32
  let v0 : BitVec 32 := Scalar.muli arg1 c512_i32
  let v35 : Index := Scalar.indexCast v0
  let c0_15 : Index := 0#32
  ![v35.toNat, 0]
def k0_off4 (i : grid0.Coords) : Fin 2 → Nat :=
  let arg1 : BitVec 32 := BitVec.ofNat 32 (i 1).val
  let c512_i32 : BitVec 32 := 512#32
  let v0 : BitVec 32 := Scalar.muli arg1 c512_i32
  let v46 : Index := Scalar.indexCast v0
  let c0_22 : Index := 0#32
  ![v46.toNat, 0]
def k0_cond6 (i : grid0.Coords) : BitVec 1 :=
  let arg0 : BitVec 32 := BitVec.ofNat 32 (i 0).val
  let c2_i32 : BitVec 32 := 2#32
  let v7 : BitVec 1 := Scalar.cmpi .eq arg0 c2_i32
  let v8 : BitVec 32 := Scalar.extui v7
  let c0_i32_2 : BitVec 32 := 0#32
  let v9 : BitVec 1 := Scalar.cmpi .ne v8 c0_i32_2
  v9

def k0_cond8 (i : grid0.Coords) : BitVec 1 :=
  let arg1 : BitVec 32 := BitVec.ofNat 32 (i 1).val
  let c4_i32 : BitVec 32 := 4#32
  let v16 : BitVec 1 := Scalar.cmpi .slt arg1 c4_i32
  let c2_i32_6 : BitVec 32 := 2#32
  let c0_i32_7 : BitVec 32 := 0#32
  let v17 : BitVec 1 := Scalar.cmpi .eq c2_i32_6 c0_i32_7
  let c1_i32_8 : BitVec 32 := 1#32
  let v18 : BitVec 32 := Scalar.select v17 c1_i32_8 c2_i32_6
  let v19 : BitVec 32 := Scalar.remsi arg1 v18
  let c0_i32_10 : BitVec 32 := 0#32
  let v21 : BitVec 1 := Scalar.cmpi .slt v19 c0_i32_10
  let c0_i32_11 : BitVec 32 := 0#32
  let v22 : BitVec 1 := Scalar.cmpi .slt v18 c0_i32_11
  let v23 : BitVec 1 := Scalar.xori v21 v22
  let c0_i32_9 : BitVec 32 := 0#32
  let v20 : BitVec 1 := Scalar.cmpi .ne v19 c0_i32_9
  let v24 : BitVec 1 := Scalar.andi v23 v20
  let v25 : BitVec 32 := Scalar.addi v19 v18
  let v26 : BitVec 32 := Scalar.select v24 v25 v19
  let c1_i32_12 : BitVec 32 := 1#32
  let v27 : BitVec 1 := Scalar.cmpi .eq v26 c1_i32_12
  let v28 : BitVec 1 := Scalar.andi v16 v27
  let v_true : BitVec 1 := 1#1
  let v29 : BitVec 1 := Scalar.xori v28 v_true
  let v30 : BitVec 32 := Scalar.extui v29
  let c0_i32_13 : BitVec 32 := 0#32
  let v31 : BitVec 1 := Scalar.cmpi .ne v30 c0_i32_13
  v31

def k0_off5 (i : grid0.Coords) : Fin 2 → Nat :=
  let arg1 : BitVec 32 := BitVec.ofNat 32 (i 1).val
  let c4_i32_16 : BitVec 32 := 4#32
  let v36 : BitVec 1 := Scalar.cmpi .slt arg1 c4_i32_16
  let c2_i32_17 : BitVec 32 := 2#32
  let c0_i32_18 : BitVec 32 := 0#32
  let v37 : BitVec 1 := Scalar.cmpi .eq c2_i32_17 c0_i32_18
  let c1_i32_19 : BitVec 32 := 1#32
  let v38 : BitVec 32 := Scalar.select v37 c1_i32_19 c2_i32_17
  let v39 : BitVec 32 := Scalar.remsi arg1 v38
  let c0_i32_21 : BitVec 32 := 0#32
  let v41 : BitVec 1 := Scalar.cmpi .slt v39 c0_i32_21
  let c0_i32_22 : BitVec 32 := 0#32
  let v42 : BitVec 1 := Scalar.cmpi .slt v38 c0_i32_22
  let v43 : BitVec 1 := Scalar.xori v41 v42
  let c0_i32_20 : BitVec 32 := 0#32
  let v40 : BitVec 1 := Scalar.cmpi .ne v39 c0_i32_20
  let v44 : BitVec 1 := Scalar.andi v43 v40
  let v45 : BitVec 32 := Scalar.addi v39 v38
  let v46 : BitVec 32 := Scalar.select v44 v45 v39
  let c0_i32_23 : BitVec 32 := 0#32
  let v47 : BitVec 1 := Scalar.cmpi .eq v46 c0_i32_23
  let c0_i32_25 : BitVec 32 := 0#32
  let v49 : BitVec 1 := Scalar.cmpi .sgt arg1 c0_i32_25
  let v50 : BitVec 32 := Scalar.extui v49
  let c0_i32_26 : BitVec 32 := 0#32
  let v51 : BitVec 1 := Scalar.cmpi .slt arg1 c0_i32_26
  let v52 : BitVec 32 := Scalar.extui v51
  let v53 : BitVec 32 := Scalar.subi v50 v52
  let c2_i32_24 : BitVec 32 := 2#32
  let c0_i32_27 : BitVec 32 := 0#32
  let v54 : BitVec 1 := Scalar.cmpi .sgt c2_i32_24 c0_i32_27
  let v55 : BitVec 32 := Scalar.extui v54
  let c0_i32_28 : BitVec 32 := 0#32
  let v56 : BitVec 1 := Scalar.cmpi .slt c2_i32_24 c0_i32_28
  let v57 : BitVec 32 := Scalar.extui v56
  let v58 : BitVec 32 := Scalar.subi v55 v57
  let v59 : BitVec 1 := Scalar.cmpi .ne v53 v58
  let v60 : BitVec 32 := Scalar.remsi arg1 c2_i32_24
  let c0_i32_29 : BitVec 32 := 0#32
  let v61 : BitVec 1 := Scalar.cmpi .ne v60 c0_i32_29
  let v62 : BitVec 1 := Scalar.andi v59 v61
  let v48 : BitVec 32 := Scalar.divsi arg1 c2_i32_24
  let c1_i32_30 : BitVec 32 := 1#32
  let v63 : BitVec 32 := Scalar.subi v48 c1_i32_30
  let v64 : BitVec 32 := Scalar.select v62 v63 v48
  let c6_i32 : BitVec 32 := 6#32
  let c0_i32_32 : BitVec 32 := 0#32
  let v66 : BitVec 1 := Scalar.cmpi .sgt arg1 c0_i32_32
  let v67 : BitVec 32 := Scalar.extui v66
  let c0_i32_33 : BitVec 32 := 0#32
  let v68 : BitVec 1 := Scalar.cmpi .slt arg1 c0_i32_33
  let v69 : BitVec 32 := Scalar.extui v68
  let v70 : BitVec 32 := Scalar.subi v67 v69
  let c2_i32_31 : BitVec 32 := 2#32
  let c0_i32_34 : BitVec 32 := 0#32
  let v71 : BitVec 1 := Scalar.cmpi .sgt c2_i32_31 c0_i32_34
  let v72 : BitVec 32 := Scalar.extui v71
  let c0_i32_35 : BitVec 32 := 0#32
  let v73 : BitVec 1 := Scalar.cmpi .slt c2_i32_31 c0_i32_35
  let v74 : BitVec 32 := Scalar.extui v73
  let v75 : BitVec 32 := Scalar.subi v72 v74
  let v76 : BitVec 1 := Scalar.cmpi .ne v70 v75
  let v77 : BitVec 32 := Scalar.remsi arg1 c2_i32_31
  let c0_i32_36 : BitVec 32 := 0#32
  let v78 : BitVec 1 := Scalar.cmpi .ne v77 c0_i32_36
  let v79 : BitVec 1 := Scalar.andi v76 v78
  let v65 : BitVec 32 := Scalar.divsi arg1 c2_i32_31
  let c1_i32_37 : BitVec 32 := 1#32
  let v80 : BitVec 32 := Scalar.subi v65 c1_i32_37
  let v81 : BitVec 32 := Scalar.select v79 v80 v65
  let v82 : BitVec 32 := Scalar.addi c6_i32 v81
  let v83 : BitVec 32 := Scalar.select v47 v64 v82
  let c2_i32_38 : BitVec 32 := 2#32
  let v84 : BitVec 32 := Scalar.subi arg1 c2_i32_38
  let v85 : BitVec 32 := Scalar.select v36 v83 v84
  let c512_i32_39 : BitVec 32 := 512#32
  let v86 : BitVec 32 := Scalar.muli v85 c512_i32_39
  let v108 : Index := Scalar.indexCast v86
  let c0_52 : Index := 0#32
  ![v108.toNat, 0]
def k0_off6 (i : grid0.Coords) : Fin 2 → Nat :=
  let arg1 : BitVec 32 := BitVec.ofNat 32 (i 1).val
  let c4_i32_16 : BitVec 32 := 4#32
  let v36 : BitVec 1 := Scalar.cmpi .slt arg1 c4_i32_16
  let c2_i32_17 : BitVec 32 := 2#32
  let c0_i32_18 : BitVec 32 := 0#32
  let v37 : BitVec 1 := Scalar.cmpi .eq c2_i32_17 c0_i32_18
  let c1_i32_19 : BitVec 32 := 1#32
  let v38 : BitVec 32 := Scalar.select v37 c1_i32_19 c2_i32_17
  let v39 : BitVec 32 := Scalar.remsi arg1 v38
  let c0_i32_21 : BitVec 32 := 0#32
  let v41 : BitVec 1 := Scalar.cmpi .slt v39 c0_i32_21
  let c0_i32_22 : BitVec 32 := 0#32
  let v42 : BitVec 1 := Scalar.cmpi .slt v38 c0_i32_22
  let v43 : BitVec 1 := Scalar.xori v41 v42
  let c0_i32_20 : BitVec 32 := 0#32
  let v40 : BitVec 1 := Scalar.cmpi .ne v39 c0_i32_20
  let v44 : BitVec 1 := Scalar.andi v43 v40
  let v45 : BitVec 32 := Scalar.addi v39 v38
  let v46 : BitVec 32 := Scalar.select v44 v45 v39
  let c0_i32_23 : BitVec 32 := 0#32
  let v47 : BitVec 1 := Scalar.cmpi .eq v46 c0_i32_23
  let c0_i32_25 : BitVec 32 := 0#32
  let v49 : BitVec 1 := Scalar.cmpi .sgt arg1 c0_i32_25
  let v50 : BitVec 32 := Scalar.extui v49
  let c0_i32_26 : BitVec 32 := 0#32
  let v51 : BitVec 1 := Scalar.cmpi .slt arg1 c0_i32_26
  let v52 : BitVec 32 := Scalar.extui v51
  let v53 : BitVec 32 := Scalar.subi v50 v52
  let c2_i32_24 : BitVec 32 := 2#32
  let c0_i32_27 : BitVec 32 := 0#32
  let v54 : BitVec 1 := Scalar.cmpi .sgt c2_i32_24 c0_i32_27
  let v55 : BitVec 32 := Scalar.extui v54
  let c0_i32_28 : BitVec 32 := 0#32
  let v56 : BitVec 1 := Scalar.cmpi .slt c2_i32_24 c0_i32_28
  let v57 : BitVec 32 := Scalar.extui v56
  let v58 : BitVec 32 := Scalar.subi v55 v57
  let v59 : BitVec 1 := Scalar.cmpi .ne v53 v58
  let v60 : BitVec 32 := Scalar.remsi arg1 c2_i32_24
  let c0_i32_29 : BitVec 32 := 0#32
  let v61 : BitVec 1 := Scalar.cmpi .ne v60 c0_i32_29
  let v62 : BitVec 1 := Scalar.andi v59 v61
  let v48 : BitVec 32 := Scalar.divsi arg1 c2_i32_24
  let c1_i32_30 : BitVec 32 := 1#32
  let v63 : BitVec 32 := Scalar.subi v48 c1_i32_30
  let v64 : BitVec 32 := Scalar.select v62 v63 v48
  let c6_i32 : BitVec 32 := 6#32
  let c0_i32_32 : BitVec 32 := 0#32
  let v66 : BitVec 1 := Scalar.cmpi .sgt arg1 c0_i32_32
  let v67 : BitVec 32 := Scalar.extui v66
  let c0_i32_33 : BitVec 32 := 0#32
  let v68 : BitVec 1 := Scalar.cmpi .slt arg1 c0_i32_33
  let v69 : BitVec 32 := Scalar.extui v68
  let v70 : BitVec 32 := Scalar.subi v67 v69
  let c2_i32_31 : BitVec 32 := 2#32
  let c0_i32_34 : BitVec 32 := 0#32
  let v71 : BitVec 1 := Scalar.cmpi .sgt c2_i32_31 c0_i32_34
  let v72 : BitVec 32 := Scalar.extui v71
  let c0_i32_35 : BitVec 32 := 0#32
  let v73 : BitVec 1 := Scalar.cmpi .slt c2_i32_31 c0_i32_35
  let v74 : BitVec 32 := Scalar.extui v73
  let v75 : BitVec 32 := Scalar.subi v72 v74
  let v76 : BitVec 1 := Scalar.cmpi .ne v70 v75
  let v77 : BitVec 32 := Scalar.remsi arg1 c2_i32_31
  let c0_i32_36 : BitVec 32 := 0#32
  let v78 : BitVec 1 := Scalar.cmpi .ne v77 c0_i32_36
  let v79 : BitVec 1 := Scalar.andi v76 v78
  let v65 : BitVec 32 := Scalar.divsi arg1 c2_i32_31
  let c1_i32_37 : BitVec 32 := 1#32
  let v80 : BitVec 32 := Scalar.subi v65 c1_i32_37
  let v81 : BitVec 32 := Scalar.select v79 v80 v65
  let v82 : BitVec 32 := Scalar.addi c6_i32 v81
  let v83 : BitVec 32 := Scalar.select v47 v64 v82
  let c2_i32_38 : BitVec 32 := 2#32
  let v84 : BitVec 32 := Scalar.subi arg1 c2_i32_38
  let v85 : BitVec 32 := Scalar.select v36 v83 v84
  let c512_i32_39 : BitVec 32 := 512#32
  let v86 : BitVec 32 := Scalar.muli v85 c512_i32_39
  let v115 : Index := Scalar.indexCast v86
  let c0_57 : Index := 0#32
  ![v115.toNat, 0]
def k0_off7 (i : grid0.Coords) : Fin 2 → Nat :=
  let c0_60 : Index := 0#32
  let arg1 : BitVec 32 := BitVec.ofNat 32 (i 1).val
  let c4_i32_16 : BitVec 32 := 4#32
  let v36 : BitVec 1 := Scalar.cmpi .slt arg1 c4_i32_16
  let c2_i32_17 : BitVec 32 := 2#32
  let c0_i32_18 : BitVec 32 := 0#32
  let v37 : BitVec 1 := Scalar.cmpi .eq c2_i32_17 c0_i32_18
  let c1_i32_19 : BitVec 32 := 1#32
  let v38 : BitVec 32 := Scalar.select v37 c1_i32_19 c2_i32_17
  let v39 : BitVec 32 := Scalar.remsi arg1 v38
  let c0_i32_21 : BitVec 32 := 0#32
  let v41 : BitVec 1 := Scalar.cmpi .slt v39 c0_i32_21
  let c0_i32_22 : BitVec 32 := 0#32
  let v42 : BitVec 1 := Scalar.cmpi .slt v38 c0_i32_22
  let v43 : BitVec 1 := Scalar.xori v41 v42
  let c0_i32_20 : BitVec 32 := 0#32
  let v40 : BitVec 1 := Scalar.cmpi .ne v39 c0_i32_20
  let v44 : BitVec 1 := Scalar.andi v43 v40
  let v45 : BitVec 32 := Scalar.addi v39 v38
  let v46 : BitVec 32 := Scalar.select v44 v45 v39
  let c0_i32_23 : BitVec 32 := 0#32
  let v47 : BitVec 1 := Scalar.cmpi .eq v46 c0_i32_23
  let c0_i32_25 : BitVec 32 := 0#32
  let v49 : BitVec 1 := Scalar.cmpi .sgt arg1 c0_i32_25
  let v50 : BitVec 32 := Scalar.extui v49
  let c0_i32_26 : BitVec 32 := 0#32
  let v51 : BitVec 1 := Scalar.cmpi .slt arg1 c0_i32_26
  let v52 : BitVec 32 := Scalar.extui v51
  let v53 : BitVec 32 := Scalar.subi v50 v52
  let c2_i32_24 : BitVec 32 := 2#32
  let c0_i32_27 : BitVec 32 := 0#32
  let v54 : BitVec 1 := Scalar.cmpi .sgt c2_i32_24 c0_i32_27
  let v55 : BitVec 32 := Scalar.extui v54
  let c0_i32_28 : BitVec 32 := 0#32
  let v56 : BitVec 1 := Scalar.cmpi .slt c2_i32_24 c0_i32_28
  let v57 : BitVec 32 := Scalar.extui v56
  let v58 : BitVec 32 := Scalar.subi v55 v57
  let v59 : BitVec 1 := Scalar.cmpi .ne v53 v58
  let v60 : BitVec 32 := Scalar.remsi arg1 c2_i32_24
  let c0_i32_29 : BitVec 32 := 0#32
  let v61 : BitVec 1 := Scalar.cmpi .ne v60 c0_i32_29
  let v62 : BitVec 1 := Scalar.andi v59 v61
  let v48 : BitVec 32 := Scalar.divsi arg1 c2_i32_24
  let c1_i32_30 : BitVec 32 := 1#32
  let v63 : BitVec 32 := Scalar.subi v48 c1_i32_30
  let v64 : BitVec 32 := Scalar.select v62 v63 v48
  let c6_i32 : BitVec 32 := 6#32
  let c0_i32_32 : BitVec 32 := 0#32
  let v66 : BitVec 1 := Scalar.cmpi .sgt arg1 c0_i32_32
  let v67 : BitVec 32 := Scalar.extui v66
  let c0_i32_33 : BitVec 32 := 0#32
  let v68 : BitVec 1 := Scalar.cmpi .slt arg1 c0_i32_33
  let v69 : BitVec 32 := Scalar.extui v68
  let v70 : BitVec 32 := Scalar.subi v67 v69
  let c2_i32_31 : BitVec 32 := 2#32
  let c0_i32_34 : BitVec 32 := 0#32
  let v71 : BitVec 1 := Scalar.cmpi .sgt c2_i32_31 c0_i32_34
  let v72 : BitVec 32 := Scalar.extui v71
  let c0_i32_35 : BitVec 32 := 0#32
  let v73 : BitVec 1 := Scalar.cmpi .slt c2_i32_31 c0_i32_35
  let v74 : BitVec 32 := Scalar.extui v73
  let v75 : BitVec 32 := Scalar.subi v72 v74
  let v76 : BitVec 1 := Scalar.cmpi .ne v70 v75
  let v77 : BitVec 32 := Scalar.remsi arg1 c2_i32_31
  let c0_i32_36 : BitVec 32 := 0#32
  let v78 : BitVec 1 := Scalar.cmpi .ne v77 c0_i32_36
  let v79 : BitVec 1 := Scalar.andi v76 v78
  let v65 : BitVec 32 := Scalar.divsi arg1 c2_i32_31
  let c1_i32_37 : BitVec 32 := 1#32
  let v80 : BitVec 32 := Scalar.subi v65 c1_i32_37
  let v81 : BitVec 32 := Scalar.select v79 v80 v65
  let v82 : BitVec 32 := Scalar.addi c6_i32 v81
  let v83 : BitVec 32 := Scalar.select v47 v64 v82
  let c2_i32_38 : BitVec 32 := 2#32
  let v84 : BitVec 32 := Scalar.subi arg1 c2_i32_38
  let v85 : BitVec 32 := Scalar.select v36 v83 v84
  let c512_i32_39 : BitVec 32 := 512#32
  let v86 : BitVec 32 := Scalar.muli v85 c512_i32_39
  let v124 : Index := Scalar.indexCast v86
  ![0, v124.toNat]
def k0_off8 (i : grid0.Coords) : Fin 2 → Nat :=
  let c0_61 : Index := 0#32
  let c4096_i32 : BitVec 32 := 4096#32
  let arg1 : BitVec 32 := BitVec.ofNat 32 (i 1).val
  let c4_i32_16 : BitVec 32 := 4#32
  let v36 : BitVec 1 := Scalar.cmpi .slt arg1 c4_i32_16
  let c2_i32_17 : BitVec 32 := 2#32
  let c0_i32_18 : BitVec 32 := 0#32
  let v37 : BitVec 1 := Scalar.cmpi .eq c2_i32_17 c0_i32_18
  let c1_i32_19 : BitVec 32 := 1#32
  let v38 : BitVec 32 := Scalar.select v37 c1_i32_19 c2_i32_17
  let v39 : BitVec 32 := Scalar.remsi arg1 v38
  let c0_i32_21 : BitVec 32 := 0#32
  let v41 : BitVec 1 := Scalar.cmpi .slt v39 c0_i32_21
  let c0_i32_22 : BitVec 32 := 0#32
  let v42 : BitVec 1 := Scalar.cmpi .slt v38 c0_i32_22
  let v43 : BitVec 1 := Scalar.xori v41 v42
  let c0_i32_20 : BitVec 32 := 0#32
  let v40 : BitVec 1 := Scalar.cmpi .ne v39 c0_i32_20
  let v44 : BitVec 1 := Scalar.andi v43 v40
  let v45 : BitVec 32 := Scalar.addi v39 v38
  let v46 : BitVec 32 := Scalar.select v44 v45 v39
  let c0_i32_23 : BitVec 32 := 0#32
  let v47 : BitVec 1 := Scalar.cmpi .eq v46 c0_i32_23
  let c0_i32_25 : BitVec 32 := 0#32
  let v49 : BitVec 1 := Scalar.cmpi .sgt arg1 c0_i32_25
  let v50 : BitVec 32 := Scalar.extui v49
  let c0_i32_26 : BitVec 32 := 0#32
  let v51 : BitVec 1 := Scalar.cmpi .slt arg1 c0_i32_26
  let v52 : BitVec 32 := Scalar.extui v51
  let v53 : BitVec 32 := Scalar.subi v50 v52
  let c2_i32_24 : BitVec 32 := 2#32
  let c0_i32_27 : BitVec 32 := 0#32
  let v54 : BitVec 1 := Scalar.cmpi .sgt c2_i32_24 c0_i32_27
  let v55 : BitVec 32 := Scalar.extui v54
  let c0_i32_28 : BitVec 32 := 0#32
  let v56 : BitVec 1 := Scalar.cmpi .slt c2_i32_24 c0_i32_28
  let v57 : BitVec 32 := Scalar.extui v56
  let v58 : BitVec 32 := Scalar.subi v55 v57
  let v59 : BitVec 1 := Scalar.cmpi .ne v53 v58
  let v60 : BitVec 32 := Scalar.remsi arg1 c2_i32_24
  let c0_i32_29 : BitVec 32 := 0#32
  let v61 : BitVec 1 := Scalar.cmpi .ne v60 c0_i32_29
  let v62 : BitVec 1 := Scalar.andi v59 v61
  let v48 : BitVec 32 := Scalar.divsi arg1 c2_i32_24
  let c1_i32_30 : BitVec 32 := 1#32
  let v63 : BitVec 32 := Scalar.subi v48 c1_i32_30
  let v64 : BitVec 32 := Scalar.select v62 v63 v48
  let c6_i32 : BitVec 32 := 6#32
  let c0_i32_32 : BitVec 32 := 0#32
  let v66 : BitVec 1 := Scalar.cmpi .sgt arg1 c0_i32_32
  let v67 : BitVec 32 := Scalar.extui v66
  let c0_i32_33 : BitVec 32 := 0#32
  let v68 : BitVec 1 := Scalar.cmpi .slt arg1 c0_i32_33
  let v69 : BitVec 32 := Scalar.extui v68
  let v70 : BitVec 32 := Scalar.subi v67 v69
  let c2_i32_31 : BitVec 32 := 2#32
  let c0_i32_34 : BitVec 32 := 0#32
  let v71 : BitVec 1 := Scalar.cmpi .sgt c2_i32_31 c0_i32_34
  let v72 : BitVec 32 := Scalar.extui v71
  let c0_i32_35 : BitVec 32 := 0#32
  let v73 : BitVec 1 := Scalar.cmpi .slt c2_i32_31 c0_i32_35
  let v74 : BitVec 32 := Scalar.extui v73
  let v75 : BitVec 32 := Scalar.subi v72 v74
  let v76 : BitVec 1 := Scalar.cmpi .ne v70 v75
  let v77 : BitVec 32 := Scalar.remsi arg1 c2_i32_31
  let c0_i32_36 : BitVec 32 := 0#32
  let v78 : BitVec 1 := Scalar.cmpi .ne v77 c0_i32_36
  let v79 : BitVec 1 := Scalar.andi v76 v78
  let v65 : BitVec 32 := Scalar.divsi arg1 c2_i32_31
  let c1_i32_37 : BitVec 32 := 1#32
  let v80 : BitVec 32 := Scalar.subi v65 c1_i32_37
  let v81 : BitVec 32 := Scalar.select v79 v80 v65
  let v82 : BitVec 32 := Scalar.addi c6_i32 v81
  let v83 : BitVec 32 := Scalar.select v47 v64 v82
  let c2_i32_38 : BitVec 32 := 2#32
  let v84 : BitVec 32 := Scalar.subi arg1 c2_i32_38
  let v85 : BitVec 32 := Scalar.select v36 v83 v84
  let c512_i32_39 : BitVec 32 := 512#32
  let v86 : BitVec 32 := Scalar.muli v85 c512_i32_39
  let v126 : BitVec 32 := Scalar.addi c4096_i32 v86
  let v127 : Index := Scalar.indexCast v126
  ![0, v127.toNat]
def k0_cond9 (i : grid0.Coords) : BitVec 1 :=
  let arg1 : BitVec 32 := BitVec.ofNat 32 (i 1).val
  let c4_i32 : BitVec 32 := 4#32
  let v16 : BitVec 1 := Scalar.cmpi .slt arg1 c4_i32
  let c2_i32_6 : BitVec 32 := 2#32
  let c0_i32_7 : BitVec 32 := 0#32
  let v17 : BitVec 1 := Scalar.cmpi .eq c2_i32_6 c0_i32_7
  let c1_i32_8 : BitVec 32 := 1#32
  let v18 : BitVec 32 := Scalar.select v17 c1_i32_8 c2_i32_6
  let v19 : BitVec 32 := Scalar.remsi arg1 v18
  let c0_i32_10 : BitVec 32 := 0#32
  let v21 : BitVec 1 := Scalar.cmpi .slt v19 c0_i32_10
  let c0_i32_11 : BitVec 32 := 0#32
  let v22 : BitVec 1 := Scalar.cmpi .slt v18 c0_i32_11
  let v23 : BitVec 1 := Scalar.xori v21 v22
  let c0_i32_9 : BitVec 32 := 0#32
  let v20 : BitVec 1 := Scalar.cmpi .ne v19 c0_i32_9
  let v24 : BitVec 1 := Scalar.andi v23 v20
  let v25 : BitVec 32 := Scalar.addi v19 v18
  let v26 : BitVec 32 := Scalar.select v24 v25 v19
  let c1_i32_12 : BitVec 32 := 1#32
  let v27 : BitVec 1 := Scalar.cmpi .eq v26 c1_i32_12
  let v28 : BitVec 1 := Scalar.andi v16 v27
  let v32 : BitVec 32 := Scalar.extui v28
  let c0_i32_14 : BitVec 32 := 0#32
  let v33 : BitVec 1 := Scalar.cmpi .ne v32 c0_i32_14
  v33

def k0_off9 (i : grid0.Coords) : Fin 2 → Nat :=
  let arg1 : BitVec 32 := BitVec.ofNat 32 (i 1).val
  let c0_i32_16 : BitVec 32 := 0#32
  let v35 : BitVec 1 := Scalar.cmpi .sgt arg1 c0_i32_16
  let v36 : BitVec 32 := Scalar.extui v35
  let c0_i32_17 : BitVec 32 := 0#32
  let v37 : BitVec 1 := Scalar.cmpi .slt arg1 c0_i32_17
  let v38 : BitVec 32 := Scalar.extui v37
  let v39 : BitVec 32 := Scalar.subi v36 v38
  let c2_i32_15 : BitVec 32 := 2#32
  let c0_i32_18 : BitVec 32 := 0#32
  let v40 : BitVec 1 := Scalar.cmpi .sgt c2_i32_15 c0_i32_18
  let v41 : BitVec 32 := Scalar.extui v40
  let c0_i32_19 : BitVec 32 := 0#32
  let v42 : BitVec 1 := Scalar.cmpi .slt c2_i32_15 c0_i32_19
  let v43 : BitVec 32 := Scalar.extui v42
  let v44 : BitVec 32 := Scalar.subi v41 v43
  let v45 : BitVec 1 := Scalar.cmpi .ne v39 v44
  let v46 : BitVec 32 := Scalar.remsi arg1 c2_i32_15
  let c0_i32_20 : BitVec 32 := 0#32
  let v47 : BitVec 1 := Scalar.cmpi .ne v46 c0_i32_20
  let v48 : BitVec 1 := Scalar.andi v45 v47
  let v34 : BitVec 32 := Scalar.divsi arg1 c2_i32_15
  let c1_i32_21 : BitVec 32 := 1#32
  let v49 : BitVec 32 := Scalar.subi v34 c1_i32_21
  let v50 : BitVec 32 := Scalar.select v48 v49 v34
  let c512_i32_22 : BitVec 32 := 512#32
  let v51 : BitVec 32 := Scalar.muli v50 c512_i32_22
  let v52 : Index := Scalar.indexCast v51
  let c0 : Index := 0#32
  ![v52.toNat, 0]
def k0_off10 (i : grid0.Coords) : Fin 2 → Nat :=
  let c6_i32 : BitVec 32 := 6#32
  let arg1 : BitVec 32 := BitVec.ofNat 32 (i 1).val
  let c0_i32_24 : BitVec 32 := 0#32
  let v55 : BitVec 1 := Scalar.cmpi .sgt arg1 c0_i32_24
  let v56 : BitVec 32 := Scalar.extui v55
  let c0_i32_25 : BitVec 32 := 0#32
  let v57 : BitVec 1 := Scalar.cmpi .slt arg1 c0_i32_25
  let v58 : BitVec 32 := Scalar.extui v57
  let v59 : BitVec 32 := Scalar.subi v56 v58
  let c2_i32_23 : BitVec 32 := 2#32
  let c0_i32_26 : BitVec 32 := 0#32
  let v60 : BitVec 1 := Scalar.cmpi .sgt c2_i32_23 c0_i32_26
  let v61 : BitVec 32 := Scalar.extui v60
  let c0_i32_27 : BitVec 32 := 0#32
  let v62 : BitVec 1 := Scalar.cmpi .slt c2_i32_23 c0_i32_27
  let v63 : BitVec 32 := Scalar.extui v62
  let v64 : BitVec 32 := Scalar.subi v61 v63
  let v65 : BitVec 1 := Scalar.cmpi .ne v59 v64
  let v66 : BitVec 32 := Scalar.remsi arg1 c2_i32_23
  let c0_i32_28 : BitVec 32 := 0#32
  let v67 : BitVec 1 := Scalar.cmpi .ne v66 c0_i32_28
  let v68 : BitVec 1 := Scalar.andi v65 v67
  let v54 : BitVec 32 := Scalar.divsi arg1 c2_i32_23
  let c1_i32_29 : BitVec 32 := 1#32
  let v69 : BitVec 32 := Scalar.subi v54 c1_i32_29
  let v70 : BitVec 32 := Scalar.select v68 v69 v54
  let v71 : BitVec 32 := Scalar.addi c6_i32 v70
  let c512_i32_30 : BitVec 32 := 512#32
  let v72 : BitVec 32 := Scalar.muli v71 c512_i32_30
  let v94 : Index := Scalar.indexCast v72
  let c0_43 : Index := 0#32
  ![v94.toNat, 0]
def k0_off11 (i : grid0.Coords) : Fin 2 → Nat :=
  let c6_i32 : BitVec 32 := 6#32
  let arg1 : BitVec 32 := BitVec.ofNat 32 (i 1).val
  let c0_i32_24 : BitVec 32 := 0#32
  let v55 : BitVec 1 := Scalar.cmpi .sgt arg1 c0_i32_24
  let v56 : BitVec 32 := Scalar.extui v55
  let c0_i32_25 : BitVec 32 := 0#32
  let v57 : BitVec 1 := Scalar.cmpi .slt arg1 c0_i32_25
  let v58 : BitVec 32 := Scalar.extui v57
  let v59 : BitVec 32 := Scalar.subi v56 v58
  let c2_i32_23 : BitVec 32 := 2#32
  let c0_i32_26 : BitVec 32 := 0#32
  let v60 : BitVec 1 := Scalar.cmpi .sgt c2_i32_23 c0_i32_26
  let v61 : BitVec 32 := Scalar.extui v60
  let c0_i32_27 : BitVec 32 := 0#32
  let v62 : BitVec 1 := Scalar.cmpi .slt c2_i32_23 c0_i32_27
  let v63 : BitVec 32 := Scalar.extui v62
  let v64 : BitVec 32 := Scalar.subi v61 v63
  let v65 : BitVec 1 := Scalar.cmpi .ne v59 v64
  let v66 : BitVec 32 := Scalar.remsi arg1 c2_i32_23
  let c0_i32_28 : BitVec 32 := 0#32
  let v67 : BitVec 1 := Scalar.cmpi .ne v66 c0_i32_28
  let v68 : BitVec 1 := Scalar.andi v65 v67
  let v54 : BitVec 32 := Scalar.divsi arg1 c2_i32_23
  let c1_i32_29 : BitVec 32 := 1#32
  let v69 : BitVec 32 := Scalar.subi v54 c1_i32_29
  let v70 : BitVec 32 := Scalar.select v68 v69 v54
  let v71 : BitVec 32 := Scalar.addi c6_i32 v70
  let c512_i32_30 : BitVec 32 := 512#32
  let v72 : BitVec 32 := Scalar.muli v71 c512_i32_30
  let v101 : Index := Scalar.indexCast v72
  let c0_48 : Index := 0#32
  ![v101.toNat, 0]
def k0_off12 (i : grid0.Coords) : Fin 2 → Nat :=
  let c0_51 : Index := 0#32
  let c6_i32 : BitVec 32 := 6#32
  let arg1 : BitVec 32 := BitVec.ofNat 32 (i 1).val
  let c0_i32_24 : BitVec 32 := 0#32
  let v55 : BitVec 1 := Scalar.cmpi .sgt arg1 c0_i32_24
  let v56 : BitVec 32 := Scalar.extui v55
  let c0_i32_25 : BitVec 32 := 0#32
  let v57 : BitVec 1 := Scalar.cmpi .slt arg1 c0_i32_25
  let v58 : BitVec 32 := Scalar.extui v57
  let v59 : BitVec 32 := Scalar.subi v56 v58
  let c2_i32_23 : BitVec 32 := 2#32
  let c0_i32_26 : BitVec 32 := 0#32
  let v60 : BitVec 1 := Scalar.cmpi .sgt c2_i32_23 c0_i32_26
  let v61 : BitVec 32 := Scalar.extui v60
  let c0_i32_27 : BitVec 32 := 0#32
  let v62 : BitVec 1 := Scalar.cmpi .slt c2_i32_23 c0_i32_27
  let v63 : BitVec 32 := Scalar.extui v62
  let v64 : BitVec 32 := Scalar.subi v61 v63
  let v65 : BitVec 1 := Scalar.cmpi .ne v59 v64
  let v66 : BitVec 32 := Scalar.remsi arg1 c2_i32_23
  let c0_i32_28 : BitVec 32 := 0#32
  let v67 : BitVec 1 := Scalar.cmpi .ne v66 c0_i32_28
  let v68 : BitVec 1 := Scalar.andi v65 v67
  let v54 : BitVec 32 := Scalar.divsi arg1 c2_i32_23
  let c1_i32_29 : BitVec 32 := 1#32
  let v69 : BitVec 32 := Scalar.subi v54 c1_i32_29
  let v70 : BitVec 32 := Scalar.select v68 v69 v54
  let v71 : BitVec 32 := Scalar.addi c6_i32 v70
  let c512_i32_30 : BitVec 32 := 512#32
  let v72 : BitVec 32 := Scalar.muli v71 c512_i32_30
  let v110 : Index := Scalar.indexCast v72
  ![0, v110.toNat]
def k0_off13 (i : grid0.Coords) : Fin 2 → Nat :=
  let c0_52 : Index := 0#32
  let c4096_i32 : BitVec 32 := 4096#32
  let c6_i32 : BitVec 32 := 6#32
  let arg1 : BitVec 32 := BitVec.ofNat 32 (i 1).val
  let c0_i32_24 : BitVec 32 := 0#32
  let v55 : BitVec 1 := Scalar.cmpi .sgt arg1 c0_i32_24
  let v56 : BitVec 32 := Scalar.extui v55
  let c0_i32_25 : BitVec 32 := 0#32
  let v57 : BitVec 1 := Scalar.cmpi .slt arg1 c0_i32_25
  let v58 : BitVec 32 := Scalar.extui v57
  let v59 : BitVec 32 := Scalar.subi v56 v58
  let c2_i32_23 : BitVec 32 := 2#32
  let c0_i32_26 : BitVec 32 := 0#32
  let v60 : BitVec 1 := Scalar.cmpi .sgt c2_i32_23 c0_i32_26
  let v61 : BitVec 32 := Scalar.extui v60
  let c0_i32_27 : BitVec 32 := 0#32
  let v62 : BitVec 1 := Scalar.cmpi .slt c2_i32_23 c0_i32_27
  let v63 : BitVec 32 := Scalar.extui v62
  let v64 : BitVec 32 := Scalar.subi v61 v63
  let v65 : BitVec 1 := Scalar.cmpi .ne v59 v64
  let v66 : BitVec 32 := Scalar.remsi arg1 c2_i32_23
  let c0_i32_28 : BitVec 32 := 0#32
  let v67 : BitVec 1 := Scalar.cmpi .ne v66 c0_i32_28
  let v68 : BitVec 1 := Scalar.andi v65 v67
  let v54 : BitVec 32 := Scalar.divsi arg1 c2_i32_23
  let c1_i32_29 : BitVec 32 := 1#32
  let v69 : BitVec 32 := Scalar.subi v54 c1_i32_29
  let v70 : BitVec 32 := Scalar.select v68 v69 v54
  let v71 : BitVec 32 := Scalar.addi c6_i32 v70
  let c512_i32_30 : BitVec 32 := 512#32
  let v72 : BitVec 32 := Scalar.muli v71 c512_i32_30
  let v112 : BitVec 32 := Scalar.addi c4096_i32 v72
  let v113 : Index := Scalar.indexCast v112
  ![0, v113.toNat]
def k0_cond10 (i : grid0.Coords) : BitVec 1 :=
  let arg0 : BitVec 32 := BitVec.ofNat 32 (i 0).val
  let c3_i32 : BitVec 32 := 3#32
  let v10 : BitVec 1 := Scalar.cmpi .eq arg0 c3_i32
  let v11 : BitVec 32 := Scalar.extui v10
  let c0_i32_3 : BitVec 32 := 0#32
  let v12 : BitVec 1 := Scalar.cmpi .ne v11 c0_i32_3
  v12

def k0_off14 (i : grid0.Coords) : Fin 2 → Nat :=
  let c0_7 : Index := 0#32
  let arg1 : BitVec 32 := BitVec.ofNat 32 (i 1).val
  let c512_i32 : BitVec 32 := 512#32
  let v0 : BitVec 32 := Scalar.muli arg1 c512_i32
  let v16 : Index := Scalar.indexCast v0
  ![0, v16.toNat]
def k0_off15 (i : grid0.Coords) : Fin 2 → Nat :=
  let arg1 : BitVec 32 := BitVec.ofNat 32 (i 1).val
  let c512_i32 : BitVec 32 := 512#32
  let v0 : BitVec 32 := Scalar.muli arg1 c512_i32
  let v25 : Index := Scalar.indexCast v0
  let c0_10 : Index := 0#32
  ![v25.toNat, 0]
def k0_off16 (i : grid0.Coords) : Fin 2 → Nat :=
  let c0_20 : Index := 0#32
  let arg1 : BitVec 32 := BitVec.ofNat 32 (i 1).val
  let c512_i32 : BitVec 32 := 512#32
  let v0 : BitVec 32 := Scalar.muli arg1 c512_i32
  let v49 : Index := Scalar.indexCast v0
  ![0, v49.toNat]
def k0_cond2 (i : grid0.Coords) : BitVec 1 :=
  let arg1 : BitVec 32 := BitVec.ofNat 32 (i 1).val
  let c0_i32_13 : BitVec 32 := 0#32
  let v26 : BitVec 1 := Scalar.cmpi .eq arg1 c0_i32_13
  let v27 : BitVec 32 := Scalar.extui v26
  let c0_i32_14 : BitVec 32 := 0#32
  let v28 : BitVec 1 := Scalar.cmpi .ne v27 c0_i32_14
  v28

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.select v0 arg1 c7_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.select v0 arg1 c7_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 1 := Scalar.cmpi .eq arg0 c1_i32
  let c2_i32 : BitVec 32 := 2#32
  let v2 : BitVec 1 := Scalar.cmpi .eq arg0 c2_i32
  let c4_i32 : BitVec 32 := 4#32
  let v3 : BitVec 1 := Scalar.cmpi .slt arg1 c4_i32
  let c2_i32_0 : BitVec 32 := 2#32
  let v4 : BitVec 32 := Scalar.divsi arg1 c2_i32_0
  let c0_i32_1 : BitVec 32 := 0#32
  let v5 : BitVec 1 := Scalar.cmpi .sgt arg1 c0_i32_1
  let v6 : BitVec 32 := Scalar.extui v5
  let c0_i32_2 : BitVec 32 := 0#32
  let v7 : BitVec 1 := Scalar.cmpi .slt arg1 c0_i32_2
  let v8 : BitVec 32 := Scalar.extui v7
  let v9 : BitVec 32 := Scalar.subi v6 v8
  let c0_i32_3 : BitVec 32 := 0#32
  let v10 : BitVec 1 := Scalar.cmpi .sgt c2_i32_0 c0_i32_3
  let v11 : BitVec 32 := Scalar.extui v10
  let c0_i32_4 : BitVec 32 := 0#32
  let v12 : BitVec 1 := Scalar.cmpi .slt c2_i32_0 c0_i32_4
  let v13 : BitVec 32 := Scalar.extui v12
  let v14 : BitVec 32 := Scalar.subi v11 v13
  let v15 : BitVec 1 := Scalar.cmpi .ne v9 v14
  let v16 : BitVec 32 := Scalar.remsi arg1 c2_i32_0
  let c0_i32_5 : BitVec 32 := 0#32
  let v17 : BitVec 1 := Scalar.cmpi .ne v16 c0_i32_5
  let v18 : BitVec 1 := Scalar.andi v15 v17
  let c1_i32_6 : BitVec 32 := 1#32
  let v19 : BitVec 32 := Scalar.subi v4 c1_i32_6
  let v20 : BitVec 32 := Scalar.select v18 v19 v4
  let c2_i32_7 : BitVec 32 := 2#32
  let v21 : BitVec 32 := Scalar.subi arg1 c2_i32_7
  let v22 : BitVec 32 := Scalar.select v3 v20 v21
  let c5_i32 : BitVec 32 := 5#32
  let v23 : BitVec 32 := Scalar.select v2 v22 c5_i32
  let v24 : BitVec 32 := Scalar.select v1 arg1 v23
  let c0_i32_8 : BitVec 32 := 0#32
  let v25 : BitVec 32 := Scalar.select v0 c0_i32_8 v24
  let c0_i32_9 : BitVec 32 := 0#32
  let c0_i32_10 : BitVec 32 := 0#32
  ![v25.toNat, c0_i32_9.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c4_i32 : BitVec 32 := 4#32
  let v1 : BitVec 1 := Scalar.cmpi .slt arg1 c4_i32
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi arg1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let v12 : BitVec 1 := Scalar.cmpi .eq v11 c0_i32_4
  let c2_i32_5 : BitVec 32 := 2#32
  let v13 : BitVec 32 := Scalar.divsi arg1 c2_i32_5
  let c0_i32_6 : BitVec 32 := 0#32
  let v14 : BitVec 1 := Scalar.cmpi .sgt arg1 c0_i32_6
  let v15 : BitVec 32 := Scalar.extui v14
  let c0_i32_7 : BitVec 32 := 0#32
  let v16 : BitVec 1 := Scalar.cmpi .slt arg1 c0_i32_7
  let v17 : BitVec 32 := Scalar.extui v16
  let v18 : BitVec 32 := Scalar.subi v15 v17
  let c0_i32_8 : BitVec 32 := 0#32
  let v19 : BitVec 1 := Scalar.cmpi .sgt c2_i32_5 c0_i32_8
  let v20 : BitVec 32 := Scalar.extui v19
  let c0_i32_9 : BitVec 32 := 0#32
  let v21 : BitVec 1 := Scalar.cmpi .slt c2_i32_5 c0_i32_9
  let v22 : BitVec 32 := Scalar.extui v21
  let v23 : BitVec 32 := Scalar.subi v20 v22
  let v24 : BitVec 1 := Scalar.cmpi .ne v18 v23
  let v25 : BitVec 32 := Scalar.remsi arg1 c2_i32_5
  let c0_i32_10 : BitVec 32 := 0#32
  let v26 : BitVec 1 := Scalar.cmpi .ne v25 c0_i32_10
  let v27 : BitVec 1 := Scalar.andi v24 v26
  let c1_i32_11 : BitVec 32 := 1#32
  let v28 : BitVec 32 := Scalar.subi v13 c1_i32_11
  let v29 : BitVec 32 := Scalar.select v27 v28 v13
  let c2_i32_12 : BitVec 32 := 2#32
  let v30 : BitVec 32 := Scalar.divsi arg1 c2_i32_12
  let c0_i32_13 : BitVec 32 := 0#32
  let v31 : BitVec 1 := Scalar.cmpi .sgt arg1 c0_i32_13
  let v32 : BitVec 32 := Scalar.extui v31
  let c0_i32_14 : BitVec 32 := 0#32
  let v33 : BitVec 1 := Scalar.cmpi .slt arg1 c0_i32_14
  let v34 : BitVec 32 := Scalar.extui v33
  let v35 : BitVec 32 := Scalar.subi v32 v34
  let c0_i32_15 : BitVec 32 := 0#32
  let v36 : BitVec 1 := Scalar.cmpi .sgt c2_i32_12 c0_i32_15
  let v37 : BitVec 32 := Scalar.extui v36
  let c0_i32_16 : BitVec 32 := 0#32
  let v38 : BitVec 1 := Scalar.cmpi .slt c2_i32_12 c0_i32_16
  let v39 : BitVec 32 := Scalar.extui v38
  let v40 : BitVec 32 := Scalar.subi v37 v39
  let v41 : BitVec 1 := Scalar.cmpi .ne v35 v40
  let v42 : BitVec 32 := Scalar.remsi arg1 c2_i32_12
  let c0_i32_17 : BitVec 32 := 0#32
  let v43 : BitVec 1 := Scalar.cmpi .ne v42 c0_i32_17
  let v44 : BitVec 1 := Scalar.andi v41 v43
  let c1_i32_18 : BitVec 32 := 1#32
  let v45 : BitVec 32 := Scalar.subi v30 c1_i32_18
  let v46 : BitVec 32 := Scalar.select v44 v45 v30
  let c6_i32 : BitVec 32 := 6#32
  let v47 : BitVec 32 := Scalar.addi c6_i32 v46
  let v48 : BitVec 32 := Scalar.select v12 v29 v47
  let c2_i32_19 : BitVec 32 := 2#32
  let v49 : BitVec 32 := Scalar.subi arg1 c2_i32_19
  let v50 : BitVec 32 := Scalar.select v1 v48 v49
  let c3_i32 : BitVec 32 := 3#32
  let v51 : BitVec 1 := Scalar.cmpi .eq arg0 c3_i32
  let c5_i32 : BitVec 32 := 5#32
  let c0_i32_20 : BitVec 32 := 0#32
  let v52 : BitVec 32 := Scalar.select v51 c5_i32 c0_i32_20
  let v53 : BitVec 32 := Scalar.select v0 v50 v52
  let c0_i32_21 : BitVec 32 := 0#32
  let c0_i32_22 : BitVec 32 := 0#32
  ![v53.toNat, c0_i32_21.toNat]

def cc0_transform_18 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S256x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S64x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S64x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S64x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S64x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S512x64 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S512x64 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 1 → Memref sig .tc .vmem S1x8192 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S1x4096 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 1 → Memref sig .tc .vmem S1x64 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]

abbrev stage0_22 : Fin 1 → Memref sig .tc .vmem S1x64 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false, false]
-- ==== ReferenceIdeal.lean ====
abbrev S1x4096x256 : Shape := ⟨3, ![1, 4096, 256]⟩
abbrev S1x4096x4096 : Shape := ⟨3, ![1, 4096, 4096]⟩
abbrev S4096x4096 : Shape := ⟨2, ![4096, 4096]⟩
abbrev S1x64 : Shape := ⟨2, ![1, 64]⟩
abbrev S256x64 : Shape := ⟨2, ![256, 64]⟩
abbrev S64 : Shape := ⟨1, ![64]⟩
abbrev S_ : Shape := ⟨0, ![]⟩
abbrev S64x64 : Shape := ⟨2, ![64, 64]⟩
abbrev S64x1 : Shape := ⟨2, ![64, 1]⟩
abbrev S1x4096x64 : Shape := ⟨3, ![1, 4096, 64]⟩
abbrev S1x1x64 : Shape := ⟨3, ![1, 1, 64]⟩
abbrev S1x4096 : Shape := ⟨2, ![1, 4096]⟩
abbrev S1x8192 : Shape := ⟨2, ![1, 8192]⟩
abbrev S4096 : Shape := ⟨1, ![4096]⟩
abbrev S4096x1 : Shape := ⟨2, ![4096, 1]⟩
abbrev S1x64x4096 : Shape := ⟨3, ![1, 64, 4096]⟩
abbrev S1x4096x1 : Shape := ⟨3, ![1, 4096, 1]⟩
abbrev S4096x64 : Shape := ⟨2, ![4096, 64]⟩

abbrev nBuf : Space → Nat
  | .hbm => 121
  | .vmem => 0
  | .smem => 0
  | _ => 0

abbrev bufTy : (tb : Table) → Fin (tcTables nBuf tb) → BufTy
  | .hbm, ⟨0, _⟩ => ⟨S1x4096x256, .f32⟩
  | .hbm, ⟨1, _⟩ => ⟨S1x4096x256, .f32⟩
  | .hbm, ⟨2, _⟩ => ⟨S1x4096x4096, .f32⟩
  | .hbm, ⟨3, _⟩ => ⟨S4096x4096, .f32⟩
  | .hbm, ⟨4, _⟩ => ⟨S1x64, .f32⟩
  | .hbm, ⟨5, _⟩ => ⟨S1x64, .f32⟩
  | .hbm, ⟨6, _⟩ => ⟨S256x64, .f32⟩
  | .hbm, ⟨7, _⟩ => ⟨S64, .f32⟩
  | .hbm, ⟨8, _⟩ => ⟨S_, .f32⟩
  | .hbm, ⟨9, _⟩ => ⟨S64x64, .f32⟩
  | .hbm, ⟨10, _⟩ => ⟨S64, .f32⟩
  | .hbm, ⟨11, _⟩ => ⟨S_, .f32⟩
  | .hbm, ⟨12, _⟩ => ⟨S64x64, .f32⟩
  | .hbm, ⟨13, _⟩ => ⟨S_, .f32⟩
  | .hbm, ⟨14, _⟩ => ⟨S64x1, .f32⟩
  | .hbm, ⟨15, _⟩ => ⟨S64x64, .f32⟩
  | .hbm, ⟨16, _⟩ => ⟨S64x64, .f32⟩
  | .hbm, ⟨17, _⟩ => ⟨S1x4096x64, .f32⟩
  | .hbm, ⟨18, _⟩ => ⟨S1x4096x64, .f32⟩
  | .hbm, ⟨19, _⟩ => ⟨S1x1x64, .f32⟩
  | .hbm, ⟨20, _⟩ => ⟨S1x4096x64, .f32⟩
  | .hbm, ⟨21, _⟩ => ⟨S1x4096x64, .f32⟩
  | .hbm, ⟨22, _⟩ => ⟨S_, .f32⟩
  | .hbm, ⟨23, _⟩ => ⟨S1x4096x64, .f32⟩
  | .hbm, ⟨24, _⟩ => ⟨S1x4096x64, .i1⟩
  | .hbm, ⟨25, _⟩ => ⟨S1x4096x64, .f32⟩
  | .hbm, ⟨26, _⟩ => ⟨S1x4096x64, .f32⟩
  | .hbm, ⟨27, _⟩ => ⟨S1x4096x64, .f32⟩
  | .hbm, ⟨28, _⟩ => ⟨S1x4096x64, .f32⟩
  | .hbm, ⟨29, _⟩ => ⟨S1x4096x64, .f32⟩
  | .hbm, ⟨30, _⟩ => ⟨S1x1x64, .f32⟩
  | .hbm, ⟨31, _⟩ => ⟨S1x4096x64, .f32⟩
  | .hbm, ⟨32, _⟩ => ⟨S1x4096x64, .f32⟩
  | .hbm, ⟨33, _⟩ => ⟨S_, .f32⟩
  | .hbm, ⟨34, _⟩ => ⟨S1x4096x64, .f32⟩
  | .hbm, ⟨35, _⟩ => ⟨S1x4096x64, .i1⟩
  | .hbm, ⟨36, _⟩ => ⟨S1x4096x64, .f32⟩
  | .hbm, ⟨37, _⟩ => ⟨S1x4096x64, .f32⟩
  | .hbm, ⟨38, _⟩ => ⟨S1x4096x64, .f32⟩
  | .hbm, ⟨39, _⟩ => ⟨S_, .f32⟩
  | .hbm, ⟨40, _⟩ => ⟨S1x64, .f32⟩
  | .hbm, ⟨41, _⟩ => ⟨S_, .f32⟩
  | .hbm, ⟨42, _⟩ => ⟨S1x64, .f32⟩
  | .hbm, ⟨43, _⟩ => ⟨S1x64, .f32⟩
  | .hbm, ⟨44, _⟩ => ⟨S1x64, .f32⟩
  | .hbm, ⟨45, _⟩ => ⟨S1x64, .f32⟩
  | .hbm, ⟨46, _⟩ => ⟨S_, .f32⟩
  | .hbm, ⟨47, _⟩ => ⟨S1x64, .f32⟩
  | .hbm, ⟨48, _⟩ => ⟨S1x64, .f32⟩
  | .hbm, ⟨49, _⟩ => ⟨S_, .f32⟩
  | .hbm, ⟨50, _⟩ => ⟨S1x64, .f32⟩
  | .hbm, ⟨51, _⟩ => ⟨S1x64, .f32⟩
  | .hbm, ⟨52, _⟩ => ⟨S1x4096x64, .f32⟩
  | .hbm, ⟨53, _⟩ => ⟨S1x4096x64, .f32⟩
  | .hbm, ⟨54, _⟩ => ⟨S1x1x64, .f32⟩
  | .hbm, ⟨55, _⟩ => ⟨S1x4096x64, .f32⟩
  | .hbm, ⟨56, _⟩ => ⟨S1x4096x64, .f32⟩
  | .hbm, ⟨57, _⟩ => ⟨S_, .f32⟩
  | .hbm, ⟨58, _⟩ => ⟨S1x4096x64, .f32⟩
  | .hbm, ⟨59, _⟩ => ⟨S1x4096x64, .i1⟩
  | .hbm, ⟨60, _⟩ => ⟨S1x4096x64, .f32⟩
  | .hbm, ⟨61, _⟩ => ⟨S1x4096x64, .f32⟩
  | .hbm, ⟨62, _⟩ => ⟨S1x4096x64, .f32⟩
  | .hbm, ⟨63, _⟩ => ⟨S1x4096x64, .f32⟩
  | .hbm, ⟨64, _⟩ => ⟨S1x4096x64, .f32⟩
  | .hbm, ⟨65, _⟩ => ⟨S1x1x64, .f32⟩
  | .hbm, ⟨66, _⟩ => ⟨S1x4096x64, .f32⟩
  | .hbm, ⟨67, _⟩ => ⟨S1x4096x64, .f32⟩
  | .hbm, ⟨68, _⟩ => ⟨S_, .f32⟩
  | .hbm, ⟨69, _⟩ => ⟨S1x4096x64, .f32⟩
  | .hbm, ⟨70, _⟩ => ⟨S1x4096x64, .i1⟩
  | .hbm, ⟨71, _⟩ => ⟨S1x4096x64, .f32⟩
  | .hbm, ⟨72, _⟩ => ⟨S1x4096x64, .f32⟩
  | .hbm, ⟨73, _⟩ => ⟨S1x4096x64, .f32⟩
  | .hbm, ⟨74, _⟩ => ⟨S1x64, .f32⟩
  | .hbm, ⟨75, _⟩ => ⟨S1x4096, .f32⟩
  | .hbm, ⟨76, _⟩ => ⟨S1x4096, .f32⟩
  | .hbm, ⟨77, _⟩ => ⟨S1x4096, .f32⟩
  | .hbm, ⟨78, _⟩ => ⟨S1x64, .f32⟩
  | .hbm, ⟨79, _⟩ => ⟨S1x4096, .f32⟩
  | .hbm, ⟨80, _⟩ => ⟨S1x4096, .f32⟩
  | .hbm, ⟨81, _⟩ => ⟨S1x4096, .f32⟩
  | .hbm, ⟨82, _⟩ => ⟨S1x8192, .f32⟩
  | .hbm, ⟨83, _⟩ => ⟨S1x64, .f32⟩
  | .hbm, ⟨84, _⟩ => ⟨S1x64, .f32⟩
  | .hbm, ⟨85, _⟩ => ⟨S4096x4096, .i32⟩
  | .hbm, ⟨86, _⟩ => ⟨S4096x4096, .i32⟩
  | .hbm, ⟨87, _⟩ => ⟨S_, .i32⟩
  | .hbm, ⟨88, _⟩ => ⟨S4096x4096, .i32⟩
  | .hbm, ⟨89, _⟩ => ⟨S4096x4096, .i32⟩
  | .hbm, ⟨90, _⟩ => ⟨S4096x4096, .i1⟩
  | .hbm, ⟨91, _⟩ => ⟨S4096x4096, .f32⟩
  | .hbm, ⟨92, _⟩ => ⟨S_, .f32⟩
  | .hbm, ⟨93, _⟩ => ⟨S4096x4096, .f32⟩
  | .hbm, ⟨94, _⟩ => ⟨S4096x4096, .f32⟩
  | .hbm, ⟨95, _⟩ => ⟨S4096x4096, .f32⟩
  | .hbm, ⟨96, _⟩ => ⟨S_, .f32⟩
  | .hbm, ⟨97, _⟩ => ⟨S4096, .f32⟩
  | .hbm, ⟨98, _⟩ => ⟨S4096x1, .f32⟩
  | .hbm, ⟨99, _⟩ => ⟨S4096x4096, .f32⟩
  | .hbm, ⟨100, _⟩ => ⟨S4096x4096, .f32⟩
  | .hbm, ⟨101, _⟩ => ⟨S4096x4096, .f32⟩
  | .hbm, ⟨102, _⟩ => ⟨S_, .f32⟩
  | .hbm, ⟨103, _⟩ => ⟨S4096x4096, .f32⟩
  | .hbm, ⟨104, _⟩ => ⟨S4096x4096, .i1⟩
  | .hbm, ⟨105, _⟩ => ⟨S_, .f32⟩
  | .hbm, ⟨106, _⟩ => ⟨S_, .f32⟩
  | .hbm, ⟨107, _⟩ => ⟨S4096x4096, .f32⟩
  | .hbm, ⟨108, _⟩ => ⟨S4096x4096, .f32⟩
  | .hbm, ⟨109, _⟩ => ⟨S4096x4096, .i1⟩
  | .hbm, ⟨110, _⟩ => ⟨S_, .f32⟩
  | .hbm, ⟨111, _⟩ => ⟨S_, .f32⟩
  | .hbm, ⟨112, _⟩ => ⟨S4096x4096, .f32⟩
  | .hbm, ⟨113, _⟩ => ⟨S4096x4096, .f32⟩
  | .hbm, ⟨114, _⟩ => ⟨S1x64x4096, .f32⟩
  | .hbm, ⟨115, _⟩ => ⟨S1x4096x64, .f32⟩
  | .hbm, ⟨116, _⟩ => ⟨S1x4096x64, .f32⟩
  | .hbm, ⟨117, _⟩ => ⟨S1x4096x1, .f32⟩
  | .hbm, ⟨118, _⟩ => ⟨S1x4096, .f32⟩
  | .hbm, ⟨119, _⟩ => ⟨S4096x64, .f32⟩
  | .hbm, ⟨120, _⟩ => ⟨S4096x64, .f32⟩
  | _, _ => ⟨S1x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_cst : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_0 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_1 : Ref sig .tc := ⟨.hbm, 39, rfl⟩
abbrev main_v20 : Ref sig .tc := ⟨.hbm, 40, rfl⟩
abbrev main_cst_2 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_3 : Ref sig .tc := ⟨.hbm, 46, rfl⟩
abbrev main_v25 : Ref sig .tc := ⟨.hbm, 47, rfl⟩
abbrev main_v26 : Ref sig .tc := ⟨.hbm, 48, rfl⟩
abbrev main_cst_4 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_5 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_6 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_c : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_7 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_8 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_call4_v0 : Ref sig .tc := ⟨.hbm, 101, rfl⟩
abbrev main_call4_cst : Ref sig .tc := ⟨.hbm, 102, rfl⟩
abbrev main_call4_v1 : Ref sig .tc := ⟨.hbm, 103, rfl⟩
abbrev main_v73 : Ref sig .tc := ⟨.hbm, 104, rfl⟩
abbrev main_cst_9 : Ref sig .tc := ⟨.hbm, 105, rfl⟩
abbrev main_call5_v0 : Ref sig .tc := ⟨.hbm, 106, rfl⟩
abbrev main_call5_v1 : Ref sig .tc := ⟨.hbm, 107, rfl⟩
abbrev main_v74 : Ref sig .tc := ⟨.hbm, 108, rfl⟩
abbrev main_v75 : Ref sig .tc := ⟨.hbm, 109, rfl⟩
abbrev main_cst_10 : Ref sig .tc := ⟨.hbm, 110, rfl⟩
abbrev main_call6_v0 : Ref sig .tc := ⟨.hbm, 111, rfl⟩
abbrev main_call6_v1 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩

abbrev nD : Nat := 1
abbrev τ : Topo := Topo.v7x

variable {F : FTy → Type} [FloatOps F]
-- ==== Proof.Step.lean ====
/-
  One step of the kernel's body, as a function of what its buffers hold. The inputs' blocks are a record `In`, the
  outputs' blocks and the scratch a record `St`; each theorem here runs the body at one kind of grid point and says which
  buffers it overwrites, and with which payload.
-/
module

public import proofs.«01_k».proof.Proof.Gen.KernelIdeal.Frame
public import proofs.«01_k».proof.Proof.Gen.KernelIdeal.Skeleton
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- What the seventeen input windows' current buffers hold. -/
structure In (F : FTy → Type) [FloatOps F] where
  s1 : Vec F S512x256 .f32
  s2 : Vec F S512x256 .f32
  adj : Vec F S512x4096 .f32
  raw : Vec F S512x4096 .f32
  W1 : Vec F S256x64 .f32
  b1 : Vec F S1x64 .f32
  a1 : Vec F S1x1 .f32
  W2 : Vec F S64x64 .f32
  b2 : Vec F S1x64 .f32
  a2 : Vec F S1x1 .f32
  Wb : Vec F S64x64 .f32
  bb : Vec F S1x1 .f32
  Wf : Vec F S64x1 .f32
  np : Vec F S1x64 .f32
  Wnp : Vec F S64x64 .f32
  ap : Vec F S1x64 .f32
  Wap : Vec F S64x64 .f32

/-- What the six output windows' current buffers and the six scratch buffers hold. -/
structure St (F : FTy → Type) [FloatOps F] where
  emb : Vec F S512x64 .f32
  resid : Vec F S512x64 .f32
  ret : Vec F S1x8192 .f32
  logit : Vec F S1x4096 .f32
  npo : Vec F S1x64 .f32
  apo : Vec F S1x64 .f32
  stash : Vec F S1024x4096 .f32
  ft : Vec F S4096x128 .f32
  h1 : Vec F S4096x64 .f32
  x : Vec F S4096x128 .f32
  hsum : Vec F S1x64 .f32
  v : Vec F S64x1 .f32

/-- A buffer held at contents that read `X` is owned at `X`. -/
theorem owns_of_read (c : Dev nD) {S : Shape} (M : Memref sig .tc .vmem S .f32) (f : M.view.ty.Contents (Elt F)) (X : Vec F S .f32)
    (h : M.view.read (Elt F) f = X) : (M.view.loc (c : Thread nD τ) ↦[M.view.set]{fullShare} f : sProp 𝕄) ⊢ owns (c : Thread nD τ) M fullShare X := by
  subst h; exact owns_intro _ _ _ _

/-! A load of a whole buffer reads what the buffer reads, at each of the shapes loaded whole. -/

theorem whole_512x256 {κ : Kind} {sp : Space} (v : View sig κ sp S512x256 .f32) (f : v.ty.Contents (Elt F)) (inb : ∀ a, ![0, 0] a + ![512, 256] a ≤ S512x256.size a) :
    v.readAt (Elt F) (Rect.unit (s := S512x256) ![0, 0] ![512, 256] inb).toLoadRect f = v.read (Elt F) f := View.readAt_full v f inb
theorem whole_512x4096 {κ : Kind} {sp : Space} (v : View sig κ sp S512x4096 .f32) (f : v.ty.Contents (Elt F)) (inb : ∀ a, ![0, 0] a + ![512, 4096] a ≤ S512x4096.size a) :
    v.readAt (Elt F) (Rect.unit (s := S512x4096) ![0, 0] ![512, 4096] inb).toLoadRect f = v.read (Elt F) f := View.readAt_full v f inb
theorem whole_256x64 {κ : Kind} {sp : Space} (v : View sig κ sp S256x64 .f32) (f : v.ty.Contents (Elt F)) (inb : ∀ a, ![0, 0] a + ![256, 64] a ≤ S256x64.size a) :
    v.readAt (Elt F) (Rect.unit (s := S256x64) ![0, 0] ![256, 64] inb).toLoadRect f = v.read (Elt F) f := View.readAt_full v f inb
theorem whole_1x64 {κ : Kind} {sp : Space} (v : View sig κ sp S1x64 .f32) (f : v.ty.Contents (Elt F)) (inb : ∀ a, ![0, 0] a + ![1, 64] a ≤ S1x64.size a) :
    v.readAt (Elt F) (Rect.unit (s := S1x64) ![0, 0] ![1, 64] inb).toLoadRect f = v.read (Elt F) f := View.readAt_full v f inb
theorem whole_1x1 {κ : Kind} {sp : Space} (v : View sig κ sp S1x1 .f32) (f : v.ty.Contents (Elt F)) (inb : ∀ a, ![0, 0] a + ![1, 1] a ≤ S1x1.size a) :
    v.readAt (Elt F) (Rect.unit (s := S1x1) ![0, 0] ![1, 1] inb).toLoadRect f = v.read (Elt F) f := View.readAt_full v f inb
theorem whole_64x64 {κ : Kind} {sp : Space} (v : View sig κ sp S64x64 .f32) (f : v.ty.Contents (Elt F)) (inb : ∀ a, ![0, 0] a + ![64, 64] a ≤ S64x64.size a) :
    v.readAt (Elt F) (Rect.unit (s := S64x64) ![0, 0] ![64, 64] inb).toLoadRect f = v.read (Elt F) f := View.readAt_full v f inb
theorem whole_64x1 {κ : Kind} {sp : Space} (v : View sig κ sp S64x1 .f32) (f : v.ty.Contents (Elt F)) (inb : ∀ a, ![0, 0] a + ![64, 1] a ≤ S64x1.size a) :
    v.readAt (Elt F) (Rect.unit (s := S64x1) ![0, 0] ![64, 1] inb).toLoadRect f = v.read (Elt F) f := View.readAt_full v f inb
theorem whole_4096x128 {κ : Kind} {sp : Space} (v : View sig κ sp S4096x128 .f32) (f : v.ty.Contents (Elt F)) (inb : ∀ a, ![0, 0] a + ![4096, 128] a ≤ S4096x128.size a) :
    v.readAt (Elt F) (Rect.unit (s := S4096x128) ![0, 0] ![4096, 128] inb).toLoadRect f = v.read (Elt F) f := View.readAt_full v f inb

/-! The same, where the sizes are written as the shape's own. -/

theorem own_512x4096 {κ : Kind} {sp : Space} (v : View sig κ sp S512x4096 .f32) (f : v.ty.Contents (Elt F)) (inb : ∀ a, ![0, 0] a + S512x4096.size a ≤ S512x4096.size a) :
    v.readAt (Elt F) (Rect.unit (s := S512x4096) ![0, 0] S512x4096.size inb).toLoadRect f = v.read (Elt F) f := View.readAt_full v f inb
theorem own_1x64 {κ : Kind} {sp : Space} (v : View sig κ sp S1x64 .f32) (f : v.ty.Contents (Elt F)) (inb : ∀ a, ![0, 0] a + S1x64.size a ≤ S1x64.size a) :
    v.readAt (Elt F) (Rect.unit (s := S1x64) ![0, 0] S1x64.size inb).toLoadRect f = v.read (Elt F) f := View.readAt_full v f inb
theorem own_1x1 {κ : Kind} {sp : Space} (v : View sig κ sp S1x1 .f32) (f : v.ty.Contents (Elt F)) (inb : ∀ a, ![0, 0] a + S1x1.size a ≤ S1x1.size a) :
    v.readAt (Elt F) (Rect.unit (s := S1x1) ![0, 0] S1x1.size inb).toLoadRect f = v.read (Elt F) f := View.readAt_full v f inb
theorem own_4096x128 {κ : Kind} {sp : Space} (v : View sig κ sp S4096x128 .f32) (f : v.ty.Contents (Elt F)) (inb : ∀ a, ![0, 0] a + S4096x128.size a ≤ S4096x128.size a) :
    v.readAt (Elt F) (Rect.unit (s := S4096x128) ![0, 0] S4096x128.size inb).toLoadRect f = v.read (Elt F) f := View.readAt_full v f inb

/-! A store of a whole buffer leaves its payload, at each of the shapes stored whole. -/

theorem stored_1x64 {κ : Kind} {sp : Space} (v : View sig κ sp S1x64 .f32) (f : v.ty.Contents (Elt F)) (inb : ∀ a, ![0, 0] a + ![1, 64] a ≤ S1x64.size a)
    (w : Vec F S1x64 .f32) (L : List (View.Piece (Elt F) S1x64 .f32)) :
    v.read (Elt F) (v.writes (Elt F) f (⟨Rect.unit (s := S1x64) ![0, 0] ![1, 64] inb, w⟩ :: L)) = w := View.read_writes_full v f inb w L
theorem stored_512x64 {κ : Kind} {sp : Space} (v : View sig κ sp S512x64 .f32) (f : v.ty.Contents (Elt F)) (inb : ∀ a, ![0, 0] a + ![512, 64] a ≤ S512x64.size a)
    (w : Vec F S512x64 .f32) (L : List (View.Piece (Elt F) S512x64 .f32)) :
    v.read (Elt F) (v.writes (Elt F) f (⟨Rect.unit (s := S512x64) ![0, 0] ![512, 64] inb, w⟩ :: L)) = w := View.read_writes_full v f inb w L
theorem stored_64x1 {κ : Kind} {sp : Space} (v : View sig κ sp S64x1 .f32) (f : v.ty.Contents (Elt F)) (inb : ∀ a, ![0, 0] a + ![64, 1] a ≤ S64x1.size a)
    (w : Vec F S64x1 .f32) (L : List (View.Piece (Elt F) S64x1 .f32)) :
    v.read (Elt F) (v.writes (Elt F) f (⟨Rect.unit (s := S64x1) ![0, 0] ![64, 1] inb, w⟩ :: L)) = w := View.read_writes_full v f inb w L

/-! A load of a whole buffer after a store of it reads the payload. -/

theorem after_1x64 {κ : Kind} {sp : Space} (v : View sig κ sp S1x64 .f32) (inb inb' : ∀ a, ![0, 0] a + ![1, 64] a ≤ S1x64.size a)
    (w : Vec F S1x64 .f32) (L : List (View.Piece (Elt F) S1x64 .f32)) :
    v.readCov (⟨Rect.unit (s := S1x64) ![0, 0] ![1, 64] inb, w⟩ :: L) (Rect.unit (s := S1x64) ![0, 0] ![1, 64] inb').toLoadRect = w := View.readCov_full v inb' inb w L
theorem after_64x1 {κ : Kind} {sp : Space} (v : View sig κ sp S64x1 .f32) (inb inb' : ∀ a, ![0, 0] a + ![64, 1] a ≤ S64x1.size a)
    (w : Vec F S64x1 .f32) (L : List (View.Piece (Elt F) S64x1 .f32)) :
    v.readCov (⟨Rect.unit (s := S64x1) ![0, 0] ![64, 1] inb, w⟩ :: L) (Rect.unit (s := S64x1) ![0, 0] ![64, 1] inb').toLoadRect = w := View.readCov_full v inb' inb w L

/-- A load of a box reads a window of what the buffer reads. -/
theorem boxed {κ : Kind} {sp : Space} {s : Shape} (v : View sig κ sp s .f32) (f : v.ty.Contents (Elt F)) (off size : Fin s.rank → ℕ) (inb : ∀ a, off a + size a ≤ s.size a) :
    v.readAt (Elt F) (Rect.unit off size inb).toLoadRect f = VecWindow.window (v.read (Elt F) f) off size inb := rfl

section Args
variable (arg2 : Memref sig .tc .vmem S512x256 .f32) (harg2 : arg2.IsWhole)
  (arg3 : Memref sig .tc .vmem S512x256 .f32) (harg3 : arg3.IsWhole)
  (arg4 : Memref sig .tc .vmem S512x4096 .f32) (harg4 : arg4.IsWhole)
  (arg5 : Memref sig .tc .vmem S512x4096 .f32) (harg5 : arg5.IsWhole)
  (arg6 : Memref sig .tc .vmem S256x64 .f32) (harg6 : arg6.IsWhole)
  (arg7 : Memref sig .tc .vmem S1x64 .f32) (harg7 : arg7.IsWhole)
  (arg8 : Memref sig .tc .vmem S1x1 .f32) (harg8 : arg8.IsWhole)
  (arg9 : Memref sig .tc .vmem S64x64 .f32) (harg9 : arg9.IsWhole)
  (arg10 : Memref sig .tc .vmem S1x64 .f32) (harg10 : arg10.IsWhole)
  (arg11 : Memref sig .tc .vmem S1x1 .f32) (harg11 : arg11.IsWhole)
  (arg12 : Memref sig .tc .vmem S64x64 .f32) (harg12 : arg12.IsWhole)
  (arg13 : Memref sig .tc .vmem S1x1 .f32) (harg13 : arg13.IsWhole)
  (arg14 : Memref sig .tc .vmem S64x1 .f32) (harg14 : arg14.IsWhole)
  (arg15 : Memref sig .tc .vmem S1x64 .f32) (harg15 : arg15.IsWhole)
  (arg16 : Memref sig .tc .vmem S64x64 .f32) (harg16 : arg16.IsWhole)
  (arg17 : Memref sig .tc .vmem S1x64 .f32) (harg17 : arg17.IsWhole)
  (arg18 : Memref sig .tc .vmem S64x64 .f32) (harg18 : arg18.IsWhole)
  (arg19 : Memref sig .tc .vmem S512x64 .f32) (harg19 : arg19.IsWhole)
  (arg20 : Memref sig .tc .vmem S512x64 .f32) (harg20 : arg20.IsWhole)
  (arg21 : Memref sig .tc .vmem S1x8192 .f32) (harg21 : arg21.IsWhole)
  (arg22 : Memref sig .tc .vmem S1x4096 .f32) (harg22 : arg22.IsWhole)
  (arg23 : Memref sig .tc .vmem S1x64 .f32) (harg23 : arg23.IsWhole)
  (arg24 : Memref sig .tc .vmem S1x64 .f32) (harg24 : arg24.IsWhole)
  (arg25 : Memref sig .tc .vmem S1024x4096 .f32) (harg25 : arg25.IsWhole)
  (arg26 : Memref sig .tc .vmem S4096x128 .f32) (harg26 : arg26.IsWhole)
  (arg27 : Memref sig .tc .vmem S4096x64 .f32) (harg27 : arg27.IsWhole)
  (arg28 : Memref sig .tc .vmem S4096x128 .f32) (harg28 : arg28.IsWhole)
  (arg29 : Memref sig .tc .vmem S1x64 .f32) (harg29 : arg29.IsWhole)
  (arg30 : Memref sig .tc .vmem S64x1 .f32) (harg30 : arg30.IsWhole)

/-- The body at coordinates `i`, on these buffers. -/
abbrev bodyOf (i : grid0.Coords) : Prog (TpuEff nD τ sig (Elt F) Λ₀ .tc) PUnit :=
  cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30

/-- The input buffers, held at `I`. -/
abbrev HeldIn (c : Dev nD) (I : In F) : sProp 𝕄 :=
  iprop(owns (c : Thread nD τ) arg2 fullShare I.s1 ∗ owns (c : Thread nD τ) arg3 fullShare I.s2 ∗ owns (c : Thread nD τ) arg4 fullShare I.adj ∗ owns (c : Thread nD τ) arg5 fullShare I.raw ∗ owns (c : Thread nD τ) arg6 fullShare I.W1 ∗ owns (c : Thread nD τ) arg7 fullShare I.b1 ∗ owns (c : Thread nD τ) arg8 fullShare I.a1 ∗ owns (c : Thread nD τ) arg9 fullShare I.W2 ∗ owns (c : Thread nD τ) arg10 fullShare I.b2 ∗ owns (c : Thread nD τ) arg11 fullShare I.a2 ∗ owns (c : Thread nD τ) arg12 fullShare I.Wb ∗ owns (c : Thread nD τ) arg13 fullShare I.bb ∗ owns (c : Thread nD τ) arg14 fullShare I.Wf ∗ owns (c : Thread nD τ) arg15 fullShare I.np ∗ owns (c : Thread nD τ) arg16 fullShare I.Wnp ∗ owns (c : Thread nD τ) arg17 fullShare I.ap ∗ owns (c : Thread nD τ) arg18 fullShare I.Wap)
/-- The output buffers and the scratch, held at `S`. -/
abbrev HeldSt (c : Dev nD) (S : St F) : sProp 𝕄 :=
  iprop(owns (c : Thread nD τ) arg19 fullShare S.emb ∗ owns (c : Thread nD τ) arg20 fullShare S.resid ∗ owns (c : Thread nD τ) arg21 fullShare S.ret ∗ owns (c : Thread nD τ) arg22 fullShare S.logit ∗ owns (c : Thread nD τ) arg23 fullShare S.npo ∗ owns (c : Thread nD τ) arg24 fullShare S.apo ∗ owns (c : Thread nD τ) arg25 fullShare S.stash ∗ owns (c : Thread nD τ) arg26 fullShare S.ft ∗ owns (c : Thread nD τ) arg27 fullShare S.h1 ∗ owns (c : Thread nD τ) arg28 fullShare S.x ∗ owns (c : Thread nD τ) arg29 fullShare S.hsum ∗ owns (c : Thread nD τ) arg30 fullShare S.v)

/-- The input buffers at contents that read `I` are held at `I`. -/
theorem heldIn_close (c : Dev nD) (I : In F) {f2 : arg2.view.ty.Contents (Elt F)} {f3 : arg3.view.ty.Contents (Elt F)} {f4 : arg4.view.ty.Contents (Elt F)} {f5 : arg5.view.ty.Contents (Elt F)} {f6 : arg6.view.ty.Contents (Elt F)} {f7 : arg7.view.ty.Contents (Elt F)} {f8 : arg8.view.ty.Contents (Elt F)} {f9 : arg9.view.ty.Contents (Elt F)} {f10 : arg10.view.ty.Contents (Elt F)} {f11 : arg11.view.ty.Contents (Elt F)} {f12 : arg12.view.ty.Contents (Elt F)} {f13 : arg13.view.ty.Contents (Elt F)} {f14 : arg14.view.ty.Contents (Elt F)} {f15 : arg15.view.ty.Contents (Elt F)} {f16 : arg16.view.ty.Contents (Elt F)} {f17 : arg17.view.ty.Contents (Elt F)} {f18 : arg18.view.ty.Contents (Elt F)}
    (h2 : arg2.view.read (Elt F) f2 = I.s1) (h3 : arg3.view.read (Elt F) f3 = I.s2) (h4 : arg4.view.read (Elt F) f4 = I.adj) (h5 : arg5.view.read (Elt F) f5 = I.raw) (h6 : arg6.view.read (Elt F) f6 = I.W1) (h7 : arg7.view.read (Elt F) f7 = I.b1) (h8 : arg8.view.read (Elt F) f8 = I.a1) (h9 : arg9.view.read (Elt F) f9 = I.W2) (h10 : arg10.view.read (Elt F) f10 = I.b2) (h11 : arg11.view.read (Elt F) f11 = I.a2) (h12 : arg12.view.read (Elt F) f12 = I.Wb) (h13 : arg13.view.read (Elt F) f13 = I.bb) (h14 : arg14.view.read (Elt F) f14 = I.Wf) (h15 : arg15.view.read (Elt F) f15 = I.np) (h16 : arg16.view.read (Elt F) f16 = I.Wnp) (h17 : arg17.view.read (Elt F) f17 = I.ap) (h18 : arg18.view.read (Elt F) f18 = I.Wap) :
    (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18)) : sProp 𝕄)
      ⊢ HeldIn arg2 arg3 arg4 arg5 arg6 arg7 arg8 arg9 arg10 arg11 arg12 arg13 arg14 arg15 arg16 arg17 arg18 c I := by
  cases I; dsimp only at *; subst h2 h3 h4 h5 h6 h7 h8 h9 h10 h11 h12 h13 h14 h15 h16 h17 h18
  iintro ⟨H2, H3, H4, H5, H6, H7, H8, H9, H10, H11, H12, H13, H14, H15, H16, H17, H18⟩
  isplitl [H2]; · iapply owns_intro; iexact H2
  isplitl [H3]; · iapply owns_intro; iexact H3
  isplitl [H4]; · iapply owns_intro; iexact H4
  isplitl [H5]; · iapply owns_intro; iexact H5
  isplitl [H6]; · iapply owns_intro; iexact H6
  isplitl [H7]; · iapply owns_intro; iexact H7
  isplitl [H8]; · iapply owns_intro; iexact H8
  isplitl [H9]; · iapply owns_intro; iexact H9
  isplitl [H10]; · iapply owns_intro; iexact H10
  isplitl [H11]; · iapply owns_intro; iexact H11
  isplitl [H12]; · iapply owns_intro; iexact H12
  isplitl [H13]; · iapply owns_intro; iexact H13
  isplitl [H14]; · iapply owns_intro; iexact H14
  isplitl [H15]; · iapply owns_intro; iexact H15
  isplitl [H16]; · iapply owns_intro; iexact H16
  isplitl [H17]; · iapply owns_intro; iexact H17
  iapply owns_intro; iexact H18

/-- At the first point of phase 0 the body stores a block of the two feature products and the two prompt products. -/
theorem run_A (c : Dev nD) (i : grid0.Coords) (I : In F) (S : St F) (K : PUnit → sProp 𝕄)
    (hc1 : k0_cond1 i = 1#1) (hc2 : k0_cond2 i = 1#1) (hc3 : ¬ k0_cond3 i = 1#1) (hc6 : ¬ k0_cond6 i = 1#1) (hc10 : ¬ k0_cond10 i = 1#1) :
    iprop(HeldIn arg2 arg3 arg4 arg5 arg6 arg7 arg8 arg9 arg10 arg11 arg12 arg13 arg14 arg15 arg16 arg17 arg18 c I ∗ HeldSt arg19 arg20 arg21 arg22 arg23 arg24 arg25 arg26 arg27 arg28 arg29 arg30 c S
        ∗ (iprop(HeldIn arg2 arg3 arg4 arg5 arg6 arg7 arg8 arg9 arg10 arg11 arg12 arg13 arg14 arg15 arg16 arg17 arg18 c I ∗ HeldSt arg19 arg20 arg21 arg22 arg23 arg24 arg25 arg26 arg27 arg28 arg29 arg30 c
            { S with ft := VecWindow.put S.ft (k0_off1 i) S512x128.size (k0_pay1 I.s1 I.W1 I.s2 I.W1), npo := k0_pay2 I.np I.Wnp, apo := k0_pay3 I.ap I.Wap }) -∗ K ⟨⟩))
      ⊢ wp frame (wpE (defs₀ (F := F)) Variants.none c none) Set.univ (bodyOf arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 i) K := by
  unfold bodyOf
  simp only [cc0__body_eq_skeleton]; unfold cc0__body_skel
  simp only [k0_part1_eq_skeleton, k0_part2_eq_skeleton, k0_part3_eq_skeleton, k0_part4_eq_skeleton, k0_part5_eq_skeleton]
  unfold HeldIn HeldSt owns
  iintro ⟨⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩, ⟨%f17, %h17, H17⟩, ⟨%f18, %h18, H18⟩⟩, ⟨⟨%f19, %h19, H19⟩, ⟨%f20, %h20, H20⟩, ⟨%f21, %h21, H21⟩, ⟨%f22, %h22, H22⟩, ⟨%f23, %h23, H23⟩, ⟨%f24, %h24, H24⟩, ⟨%f25, %h25, H25⟩, ⟨%f26, %h26, H26⟩, ⟨%f27, %h27, H27⟩, ⟨%f28, %h28, H28⟩, ⟨%f29, %h29, H29⟩, ⟨%f30, %h30, H30⟩⟩, Hk⟩
  sl_exec
  sl_step
  iapply Hk
  isplitl [H2 H3 H4 H5 H6 H7 H8 H9 H10 H11 H12 H13 H14 H15 H16 H17 H18]
  · iapply (heldIn_close _ _ _ _ _ _ _ _ _ _ _ _ _ _ _ _ _ c I h2 h3 h4 h5 h6 h7 h8 h9 h10 h11 h12 h13 h14 h15 h16 h17 h18); iframe
  isplitl [H19]; · iexists _; isplitr; swap; iexact H19; ipureintro; exact h19
  isplitl [H20]; · iexists _; isplitr; swap; iexact H20; ipureintro; exact h20
  isplitl [H21]; · iexists _; isplitr; swap; iexact H21; ipureintro; exact h21
  isplitl [H22]; · iexists _; isplitr; swap; iexact H22; ipureintro; exact h22
  isplitl [H23]; · iexists _; isplitr; swap; iexact H23; ipureintro; simp only [after_1x64, after_64x1, own_512x4096, own_1x64, own_1x1, own_4096x128, whole_512x256, whole_512x4096, whole_256x64, whole_1x64, whole_1x1, whole_64x64, whole_64x1, whole_4096x128, stored_1x64, stored_512x64, stored_64x1, View.writes_nil, h2, h3, h4, h5, h6, h7, h8, h9, h10, h11, h12, h13, h14, h15, h16, h17, h18, h19, h20, h21, h22, h23, h24, h25, h26, h27, h28, h29, h30]; try simp only [boxed, h2, h3, h4, h5, h6, h7, h8, h9, h10, h11, h12, h13, h14, h15, h16, h17, h18, h19, h20, h21, h22, h23, h24, h25, h26, h27, h28, h29, h30]; try rfl
  isplitl [H24]; · iexists _; isplitr; swap; iexact H24; ipureintro; simp only [after_1x64, after_64x1, own_512x4096, own_1x64, own_1x1, own_4096x128, whole_512x256, whole_512x4096, whole_256x64, whole_1x64, whole_1x1, whole_64x64, whole_64x1, whole_4096x128, stored_1x64, stored_512x64, stored_64x1, View.writes_nil, h2, h3, h4, h5, h6, h7, h8, h9, h10, h11, h12, h13, h14, h15, h16, h17, h18, h19, h20, h21, h22, h23, h24, h25, h26, h27, h28, h29, h30]; try simp only [boxed, h2, h3, h4, h5, h6, h7, h8, h9, h10, h11, h12, h13, h14, h15, h16, h17, h18, h19, h20, h21, h22, h23, h24, h25, h26, h27, h28, h29, h30]; try rfl
  isplitl [H25]; · iexists _; isplitr; swap; iexact H25; ipureintro; exact h25
  isplitl [H26]; · iexists _; isplitr; swap; iexact H26; ipureintro; rw [View.read_writes_cons_put _ _ _ _ _ rfl]; simp only [after_1x64, after_64x1, own_512x4096, own_1x64, own_1x1, own_4096x128, whole_512x256, whole_512x4096, whole_256x64, whole_1x64, whole_1x1, whole_64x64, whole_64x1, whole_4096x128, stored_1x64, stored_512x64, stored_64x1, View.writes_nil, h2, h3, h4, h5, h6, h7, h8, h9, h10, h11, h12, h13, h14, h15, h16, h17, h18, h19, h20, h21, h22, h23, h24, h25, h26, h27, h28, h29, h30]; try simp only [boxed, h2, h3, h4, h5, h6, h7, h8, h9, h10, h11, h12, h13, h14, h15, h16, h17, h18, h19, h20, h21, h22, h23, h24, h25, h26, h27, h28, h29, h30]; try rfl
  isplitl [H27]; · iexists _; isplitr; swap; iexact H27; ipureintro; exact h27
  isplitl [H28]; · iexists _; isplitr; swap; iexact H28; ipureintro; exact h28
  isplitl [H29]; · iexists _; isplitr; swap; iexact H29; ipureintro; exact h29
  iexists _; isplitr; swap; iexact H30; ipureintro; exact h30

/-- At a later point of phase 0 it stores a block of the feature products. -/
theorem run_B (c : Dev nD) (i : grid0.Coords) (I : In F) (S : St F) (K : PUnit → sProp 𝕄)
    (hc1 : k0_cond1 i = 1#1) (hc2 : ¬ k0_cond2 i = 1#1) (hc3 : ¬ k0_cond3 i = 1#1) (hc6 : ¬ k0_cond6 i = 1#1) (hc10 : ¬ k0_cond10 i = 1#1) :
    iprop(HeldIn arg2 arg3 arg4 arg5 arg6 arg7 arg8 arg9 arg10 arg11 arg12 arg13 arg14 arg15 arg16 arg17 arg18 c I ∗ HeldSt arg19 arg20 arg21 arg22 arg23 arg24 arg25 arg26 arg27 arg28 arg29 arg30 c S
        ∗ (iprop(HeldIn arg2 arg3 arg4 arg5 arg6 arg7 arg8 arg9 arg10 arg11 arg12 arg13 arg14 arg15 arg16 arg17 arg18 c I ∗ HeldSt arg19 arg20 arg21 arg22 arg23 arg24 arg25 arg26 arg27 arg28 arg29 arg30 c
            { S with ft := VecWindow.put S.ft (k0_off1 i) S512x128.size (k0_pay1 I.s1 I.W1 I.s2 I.W1) }) -∗ K ⟨⟩))
      ⊢ wp frame (wpE (defs₀ (F := F)) Variants.none c none) Set.univ (bodyOf arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 i) K := by
  unfold bodyOf
  simp only [cc0__body_eq_skeleton]; unfold cc0__body_skel
  simp only [k0_part1_eq_skeleton, k0_part2_eq_skeleton, k0_part3_eq_skeleton, k0_part4_eq_skeleton, k0_part5_eq_skeleton]
  unfold HeldIn HeldSt owns
  iintro ⟨⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩, ⟨%f17, %h17, H17⟩, ⟨%f18, %h18, H18⟩⟩, ⟨⟨%f19, %h19, H19⟩, ⟨%f20, %h20, H20⟩, ⟨%f21, %h21, H21⟩, ⟨%f22, %h22, H22⟩, ⟨%f23, %h23, H23⟩, ⟨%f24, %h24, H24⟩, ⟨%f25, %h25, H25⟩, ⟨%f26, %h26, H26⟩, ⟨%f27, %h27, H27⟩, ⟨%f28, %h28, H28⟩, ⟨%f29, %h29, H29⟩, ⟨%f30, %h30, H30⟩⟩, Hk⟩
  sl_exec
  sl_step
  iapply Hk
  isplitl [H2 H3 H4 H5 H6 H7 H8 H9 H10 H11 H12 H13 H14 H15 H16 H17 H18]
  · iapply (heldIn_close _ _ _ _ _ _ _ _ _ _ _ _ _ _ _ _ _ c I h2 h3 h4 h5 h6 h7 h8 h9 h10 h11 h12 h13 h14 h15 h16 h17 h18); iframe
  isplitl [H19]; · iexists _; isplitr; swap; iexact H19; ipureintro; exact h19
  isplitl [H20]; · iexists _; isplitr; swap; iexact H20; ipureintro; exact h20
  isplitl [H21]; · iexists _; isplitr; swap; iexact H21; ipureintro; exact h21
  isplitl [H22]; · iexists _; isplitr; swap; iexact H22; ipureintro; exact h22
  isplitl [H23]; · iexists _; isplitr; swap; iexact H23; ipureintro; exact h23
  isplitl [H24]; · iexists _; isplitr; swap; iexact H24; ipureintro; exact h24
  isplitl [H25]; · iexists _; isplitr; swap; iexact H25; ipureintro; exact h25
  isplitl [H26]; · iexists _; isplitr; swap; iexact H26; ipureintro; rw [View.read_writes_cons_put _ _ _ _ _ rfl]; simp only [after_1x64, after_64x1, own_512x4096, own_1x64, own_1x1, own_4096x128, whole_512x256, whole_512x4096, whole_256x64, whole_1x64, whole_1x1, whole_64x64, whole_64x1, whole_4096x128, stored_1x64, stored_512x64, stored_64x1, View.writes_nil, h2, h3, h4, h5, h6, h7, h8, h9, h10, h11, h12, h13, h14, h15, h16, h17, h18, h19, h20, h21, h22, h23, h24, h25, h26, h27, h28, h29, h30]; try simp only [boxed, h2, h3, h4, h5, h6, h7, h8, h9, h10, h11, h12, h13, h14, h15, h16, h17, h18, h19, h20, h21, h22, h23, h24, h25, h26, h27, h28, h29, h30]; try rfl
  isplitl [H27]; · iexists _; isplitr; swap; iexact H27; ipureintro; exact h27
  isplitl [H28]; · iexists _; isplitr; swap; iexact H28; ipureintro; exact h28
  isplitl [H29]; · iexists _; isplitr; swap; iexact H29; ipureintro; exact h29
  iexists _; isplitr; swap; iexact H30; ipureintro; exact h30

/-- At the first point of phase 1 it stores a block of the first layer and of its product with the second weights, and starts the running sum. -/
theorem run_C0 (c : Dev nD) (i : grid0.Coords) (I : In F) (S : St F) (K : PUnit → sProp 𝕄)
    (hc1 : ¬ k0_cond1 i = 1#1) (hc3 : k0_cond3 i = 1#1) (hc4 : ¬ k0_cond4 i = 1#1) (hc6 : ¬ k0_cond6 i = 1#1) (hc10 : ¬ k0_cond10 i = 1#1) (hj : Scalar.cmpi .ne (Scalar.extui (Scalar.cmpi .eq (BitVec.ofNat 32 (i 1).val) 0#32)) 0#32 = 1#1) :
    iprop(HeldIn arg2 arg3 arg4 arg5 arg6 arg7 arg8 arg9 arg10 arg11 arg12 arg13 arg14 arg15 arg16 arg17 arg18 c I ∗ HeldSt arg19 arg20 arg21 arg22 arg23 arg24 arg25 arg26 arg27 arg28 arg29 arg30 c S
        ∗ (iprop(HeldIn arg2 arg3 arg4 arg5 arg6 arg7 arg8 arg9 arg10 arg11 arg12 arg13 arg14 arg15 arg16 arg17 arg18 c I ∗ HeldSt arg19 arg20 arg21 arg22 arg23 arg24 arg25 arg26 arg27 arg28 arg29 arg30 c
            { S with h1 := VecWindow.put S.h1 (k0_off3 i) S512x64.size (k0_pay15 I.b1 I.b1 I.adj S.ft I.a1), x := VecWindow.put S.x (k0_off4 i) S512x128.size (k0_pay4 (k0_pay16 I.b1 I.b1 I.adj S.ft I.a1 I.W2 I.W2)), hsum := k0_pay6 (k0_pay14 I.b1 I.b1 I.adj S.ft I.a1) k0_pay5 }) -∗ K ⟨⟩))
      ⊢ wp frame (wpE (defs₀ (F := F)) Variants.none c none) Set.univ (bodyOf arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 i) K := by
  unfold bodyOf
  simp only [cc0__body_eq_skeleton]; unfold cc0__body_skel
  simp only [k0_part1_eq_skeleton, k0_part2_eq_skeleton, k0_part3_eq_skeleton, k0_part4_eq_skeleton, k0_part5_eq_skeleton]
  unfold HeldIn HeldSt owns
  iintro ⟨⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩, ⟨%f17, %h17, H17⟩, ⟨%f18, %h18, H18⟩⟩, ⟨⟨%f19, %h19, H19⟩, ⟨%f20, %h20, H20⟩, ⟨%f21, %h21, H21⟩, ⟨%f22, %h22, H22⟩, ⟨%f23, %h23, H23⟩, ⟨%f24, %h24, H24⟩, ⟨%f25, %h25, H25⟩, ⟨%f26, %h26, H26⟩, ⟨%f27, %h27, H27⟩, ⟨%f28, %h28, H28⟩, ⟨%f29, %h29, H29⟩, ⟨%f30, %h30, H30⟩⟩, Hk⟩
  sl_exec
  sl_step
  iapply Hk
  isplitl [H2 H3 H4 H5 H6 H7 H8 H9 H10 H11 H12 H13 H14 H15 H16 H17 H18]
  · iapply (heldIn_close _ _ _ _ _ _ _ _ _ _ _ _ _ _ _ _ _ c I h2 h3 h4 h5 h6 h7 h8 h9 h10 h11 h12 h13 h14 h15 h16 h17 h18); iframe
  isplitl [H19]; · iexists _; isplitr; swap; iexact H19; ipureintro; exact h19
  isplitl [H20]; · iexists _; isplitr; swap; iexact H20; ipureintro; exact h20
  isplitl [H21]; · iexists _; isplitr; swap; iexact H21; ipureintro; exact h21
  isplitl [H22]; · iexists _; isplitr; swap; iexact H22; ipureintro; exact h22
  isplitl [H23]; · iexists _; isplitr; swap; iexact H23; ipureintro; exact h23
  isplitl [H24]; · iexists _; isplitr; swap; iexact H24; ipureintro; exact h24
  isplitl [H25]; · iexists _; isplitr; swap; iexact H25; ipureintro; exact h25
  isplitl [H26]; · iexists _; isplitr; swap; iexact H26; ipureintro; exact h26
  isplitl [H27]; · iexists _; isplitr; swap; iexact H27; ipureintro; rw [View.read_writes_cons_put _ _ _ _ _ rfl]; simp only [after_1x64, after_64x1, own_512x4096, own_1x64, own_1x1, own_4096x128, whole_512x256, whole_512x4096, whole_256x64, whole_1x64, whole_1x1, whole_64x64, whole_64x1, whole_4096x128, stored_1x64, stored_512x64, stored_64x1, View.writes_nil, h2, h3, h4, h5, h6, h7, h8, h9, h10, h11, h12, h13, h14, h15, h16, h17, h18, h19, h20, h21, h22, h23, h24, h25, h26, h27, h28, h29, h30]; (try delta run_C0.sl.r_2); (try delta run_C0.sl.r_1); (try delta run_C0.sl.r); (try delta run_C0.sl.v116); (try delta run_C0.sl.v112); (try delta run_C0.sl.H30_1); (try delta run_C0.sl.H29_1); (try delta run_C0.sl.v56); (try delta run_C0.sl.H29_1); (try simp only [after_1x64, after_64x1, own_512x4096, own_1x64, own_1x1, own_4096x128, whole_512x256, whole_512x4096, whole_256x64, whole_1x64, whole_1x1, whole_64x64, whole_64x1, whole_4096x128, stored_1x64, stored_512x64, stored_64x1, View.writes_nil, h2, h3, h4, h5, h6, h7, h8, h9, h10, h11, h12, h13, h14, h15, h16, h17, h18, h19, h20, h21, h22, h23, h24, h25, h26, h27, h28, h29, h30]); try simp only [boxed, h2, h3, h4, h5, h6, h7, h8, h9, h10, h11, h12, h13, h14, h15, h16, h17, h18, h19, h20, h21, h22, h23, h24, h25, h26, h27, h28, h29, h30]; try rfl
  isplitl [H28]; · iexists _; isplitr; swap; iexact H28; ipureintro; rw [View.read_writes_cons_put _ _ _ _ _ rfl]; simp only [after_1x64, after_64x1, own_512x4096, own_1x64, own_1x1, own_4096x128, whole_512x256, whole_512x4096, whole_256x64, whole_1x64, whole_1x1, whole_64x64, whole_64x1, whole_4096x128, stored_1x64, stored_512x64, stored_64x1, View.writes_nil, h2, h3, h4, h5, h6, h7, h8, h9, h10, h11, h12, h13, h14, h15, h16, h17, h18, h19, h20, h21, h22, h23, h24, h25, h26, h27, h28, h29, h30]; (try delta run_C0.sl.r_2); (try delta run_C0.sl.r_1); (try delta run_C0.sl.r); (try delta run_C0.sl.v116); (try delta run_C0.sl.v112); (try delta run_C0.sl.H30_1); (try delta run_C0.sl.H29_1); (try delta run_C0.sl.v56); (try delta run_C0.sl.H29_1); (try simp only [after_1x64, after_64x1, own_512x4096, own_1x64, own_1x1, own_4096x128, whole_512x256, whole_512x4096, whole_256x64, whole_1x64, whole_1x1, whole_64x64, whole_64x1, whole_4096x128, stored_1x64, stored_512x64, stored_64x1, View.writes_nil, h2, h3, h4, h5, h6, h7, h8, h9, h10, h11, h12, h13, h14, h15, h16, h17, h18, h19, h20, h21, h22, h23, h24, h25, h26, h27, h28, h29, h30]); try simp only [boxed, h2, h3, h4, h5, h6, h7, h8, h9, h10, h11, h12, h13, h14, h15, h16, h17, h18, h19, h20, h21, h22, h23, h24, h25, h26, h27, h28, h29, h30]; try rfl
  isplitl [H29]; · iexists _; isplitr; swap; iexact H29; ipureintro; simp only [after_1x64, after_64x1, own_512x4096, own_1x64, own_1x1, own_4096x128, whole_512x256, whole_512x4096, whole_256x64, whole_1x64, whole_1x1, whole_64x64, whole_64x1, whole_4096x128, stored_1x64, stored_512x64, stored_64x1, View.writes_nil, h2, h3, h4, h5, h6, h7, h8, h9, h10, h11, h12, h13, h14, h15, h16, h17, h18, h19, h20, h21, h22, h23, h24, h25, h26, h27, h28, h29, h30]; (try delta run_C0.sl.r_2); (try delta run_C0.sl.r_1); (try delta run_C0.sl.r); (try delta run_C0.sl.v116); (try delta run_C0.sl.v112); (try delta run_C0.sl.H30_1); (try delta run_C0.sl.H29_1); (try delta run_C0.sl.v56); (try delta run_C0.sl.H29_1); (try simp only [after_1x64, after_64x1, own_512x4096, own_1x64, own_1x1, own_4096x128, whole_512x256, whole_512x4096, whole_256x64, whole_1x64, whole_1x1, whole_64x64, whole_64x1, whole_4096x128, stored_1x64, stored_512x64, stored_64x1, View.writes_nil, h2, h3, h4, h5, h6, h7, h8, h9, h10, h11, h12, h13, h14, h15, h16, h17, h18, h19, h20, h21, h22, h23, h24, h25, h26, h27, h28, h29, h30]); try simp only [boxed, h2, h3, h4, h5, h6, h7, h8, h9, h10, h11, h12, h13, h14, h15, h16, h17, h18, h19, h20, h21, h22, h23, h24, h25, h26, h27, h28, h29, h30]; try rfl
  iexists _; isplitr; swap; iexact H30; ipureintro; exact h30

/-- At a middle point of phase 1 it does the same and goes on with the running sum. -/
theorem run_C1 (c : Dev nD) (i : grid0.Coords) (I : In F) (S : St F) (K : PUnit → sProp 𝕄)
    (hc1 : ¬ k0_cond1 i = 1#1) (hc3 : k0_cond3 i = 1#1) (hc4 : ¬ k0_cond4 i = 1#1) (hc6 : ¬ k0_cond6 i = 1#1) (hc10 : ¬ k0_cond10 i = 1#1) (hj : ¬ Scalar.cmpi .ne (Scalar.extui (Scalar.cmpi .eq (BitVec.ofNat 32 (i 1).val) 0#32)) 0#32 = 1#1) :
    iprop(HeldIn arg2 arg3 arg4 arg5 arg6 arg7 arg8 arg9 arg10 arg11 arg12 arg13 arg14 arg15 arg16 arg17 arg18 c I ∗ HeldSt arg19 arg20 arg21 arg22 arg23 arg24 arg25 arg26 arg27 arg28 arg29 arg30 c S
        ∗ (iprop(HeldIn arg2 arg3 arg4 arg5 arg6 arg7 arg8 arg9 arg10 arg11 arg12 arg13 arg14 arg15 arg16 arg17 arg18 c I ∗ HeldSt arg19 arg20 arg21 arg22 arg23 arg24 arg25 arg26 arg27 arg28 arg29 arg30 c
            { S with h1 := VecWindow.put S.h1 (k0_off3 i) S512x64.size (k0_pay15 I.b1 I.b1 I.adj S.ft I.a1), x := VecWindow.put S.x (k0_off4 i) S512x128.size (k0_pay4 (k0_pay16 I.b1 I.b1 I.adj S.ft I.a1 I.W2 I.W2)), hsum := k0_pay6 (k0_pay14 I.b1 I.b1 I.adj S.ft I.a1) S.hsum }) -∗ K ⟨⟩))
      ⊢ wp frame (wpE (defs₀ (F := F)) Variants.none c none) Set.univ (bodyOf arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 i) K := by
  unfold bodyOf
  simp only [cc0__body_eq_skeleton]; unfold cc0__body_skel
  simp only [k0_part1_eq_skeleton, k0_part2_eq_skeleton, k0_part3_eq_skeleton, k0_part4_eq_skeleton, k0_part5_eq_skeleton]
  unfold HeldIn HeldSt owns
  iintro ⟨⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩, ⟨%f17, %h17, H17⟩, ⟨%f18, %h18, H18⟩⟩, ⟨⟨%f19, %h19, H19⟩, ⟨%f20, %h20, H20⟩, ⟨%f21, %h21, H21⟩, ⟨%f22, %h22, H22⟩, ⟨%f23, %h23, H23⟩, ⟨%f24, %h24, H24⟩, ⟨%f25, %h25, H25⟩, ⟨%f26, %h26, H26⟩, ⟨%f27, %h27, H27⟩, ⟨%f28, %h28, H28⟩, ⟨%f29, %h29, H29⟩, ⟨%f30, %h30, H30⟩⟩, Hk⟩
  sl_exec
  sl_step
  iapply Hk
  isplitl [H2 H3 H4 H5 H6 H7 H8 H9 H10 H11 H12 H13 H14 H15 H16 H17 H18]
  · iapply (heldIn_close _ _ _ _ _ _ _ _ _ _ _ _ _ _ _ _ _ c I h2 h3 h4 h5 h6 h7 h8 h9 h10 h11 h12 h13 h14 h15 h16 h17 h18); iframe
  isplitl [H19]; · iexists _; isplitr; swap; iexact H19; ipureintro; exact h19
  isplitl [H20]; · iexists _; isplitr; swap; iexact H20; ipureintro; exact h20
  isplitl [H21]; · iexists _; isplitr; swap; iexact H21; ipureintro; exact h21
  isplitl [H22]; · iexists _; isplitr; swap; iexact H22; ipureintro; exact h22
  isplitl [H23]; · iexists _; isplitr; swap; iexact H23; ipureintro; exact h23
  isplitl [H24]; · iexists _; isplitr; swap; iexact H24; ipureintro; exact h24
  isplitl [H25]; · iexists _; isplitr; swap; iexact H25; ipureintro; exact h25
  isplitl [H26]; · iexists _; isplitr; swap; iexact H26; ipureintro; exact h26
  isplitl [H27]; · iexists _; isplitr; swap; iexact H27; ipureintro; rw [View.read_writes_cons_put _ _ _ _ _ rfl]; simp only [after_1x64, after_64x1, own_512x4096, own_1x64, own_1x1, own_4096x128, whole_512x256, whole_512x4096, whole_256x64, whole_1x64, whole_1x1, whole_64x64, whole_64x1, whole_4096x128, stored_1x64, stored_512x64, stored_64x1, View.writes_nil, h2, h3, h4, h5, h6, h7, h8, h9, h10, h11, h12, h13, h14, h15, h16, h17, h18, h19, h20, h21, h22, h23, h24, h25, h26, h27, h28, h29, h30]; (try delta run_C1.sl.r_2); (try delta run_C1.sl.r_1); (try delta run_C1.sl.r); (try delta run_C1.sl.v116); (try delta run_C1.sl.v112); (try delta run_C1.sl.H30_1); (try delta run_C1.sl.H29_1); (try delta run_C1.sl.v56); (try delta run_C1.sl.H29_1); (try simp only [after_1x64, after_64x1, own_512x4096, own_1x64, own_1x1, own_4096x128, whole_512x256, whole_512x4096, whole_256x64, whole_1x64, whole_1x1, whole_64x64, whole_64x1, whole_4096x128, stored_1x64, stored_512x64, stored_64x1, View.writes_nil, h2, h3, h4, h5, h6, h7, h8, h9, h10, h11, h12, h13, h14, h15, h16, h17, h18, h19, h20, h21, h22, h23, h24, h25, h26, h27, h28, h29, h30]); try simp only [boxed, h2, h3, h4, h5, h6, h7, h8, h9, h10, h11, h12, h13, h14, h15, h16, h17, h18, h19, h20, h21, h22, h23, h24, h25, h26, h27, h28, h29, h30]; try rfl
  isplitl [H28]; · iexists _; isplitr; swap; iexact H28; ipureintro; rw [View.read_writes_cons_put _ _ _ _ _ rfl]; simp only [after_1x64, after_64x1, own_512x4096, own_1x64, own_1x1, own_4096x128, whole_512x256, whole_512x4096, whole_256x64, whole_1x64, whole_1x1, whole_64x64, whole_64x1, whole_4096x128, stored_1x64, stored_512x64, stored_64x1, View.writes_nil, h2, h3, h4, h5, h6, h7, h8, h9, h10, h11, h12, h13, h14, h15, h16, h17, h18, h19, h20, h21, h22, h23, h24, h25, h26, h27, h28, h29, h30]; (try delta run_C1.sl.r_2); (try delta run_C1.sl.r_1); (try delta run_C1.sl.r); (try delta run_C1.sl.v116); (try delta run_C1.sl.v112); (try delta run_C1.sl.H30_1); (try delta run_C1.sl.H29_1); (try delta run_C1.sl.v56); (try delta run_C1.sl.H29_1); (try simp only [after_1x64, after_64x1, own_512x4096, own_1x64, own_1x1, own_4096x128, whole_512x256, whole_512x4096, whole_256x64, whole_1x64, whole_1x1, whole_64x64, whole_64x1, whole_4096x128, stored_1x64, stored_512x64, stored_64x1, View.writes_nil, h2, h3, h4, h5, h6, h7, h8, h9, h10, h11, h12, h13, h14, h15, h16, h17, h18, h19, h20, h21, h22, h23, h24, h25, h26, h27, h28, h29, h30]); try simp only [boxed, h2, h3, h4, h5, h6, h7, h8, h9, h10, h11, h12, h13, h14, h15, h16, h17, h18, h19, h20, h21, h22, h23, h24, h25, h26, h27, h28, h29, h30]; try rfl
  isplitl [H29]; · iexists _; isplitr; swap; iexact H29; ipureintro; simp only [after_1x64, after_64x1, own_512x4096, own_1x64, own_1x1, own_4096x128, whole_512x256, whole_512x4096, whole_256x64, whole_1x64, whole_1x1, whole_64x64, whole_64x1, whole_4096x128, stored_1x64, stored_512x64, stored_64x1, View.writes_nil, h2, h3, h4, h5, h6, h7, h8, h9, h10, h11, h12, h13, h14, h15, h16, h17, h18, h19, h20, h21, h22, h23, h24, h25, h26, h27, h28, h29, h30]; (try delta run_C1.sl.r_2); (try delta run_C1.sl.r_1); (try delta run_C1.sl.r); (try delta run_C1.sl.v116); (try delta run_C1.sl.v112); (try delta run_C1.sl.H30_1); (try delta run_C1.sl.H29_1); (try delta run_C1.sl.v56); (try delta run_C1.sl.H29_1); (try simp only [after_1x64, after_64x1, own_512x4096, own_1x64, own_1x1, own_4096x128, whole_512x256, whole_512x4096, whole_256x64, whole_1x64, whole_1x1, whole_64x64, whole_64x1, whole_4096x128, stored_1x64, stored_512x64, stored_64x1, View.writes_nil, h2, h3, h4, h5, h6, h7, h8, h9, h10, h11, h12, h13, h14, h15, h16, h17, h18, h19, h20, h21, h22, h23, h24, h25, h26, h27, h28, h29, h30]); try simp only [boxed, h2, h3, h4, h5, h6, h7, h8, h9, h10, h11, h12, h13, h14, h15, h16, h17, h18, h19, h20, h21, h22, h23, h24, h25, h26, h27, h28, h29, h30]; try rfl
  iexists _; isplitr; swap; iexact H30; ipureintro; exact h30

/-- At a late point of phase 1 it also keeps the block of the adjacency matrix. -/
theorem run_C2 (c : Dev nD) (i : grid0.Coords) (I : In F) (S : St F) (K : PUnit → sProp 𝕄)
    (hc1 : ¬ k0_cond1 i = 1#1) (hc3 : k0_cond3 i = 1#1) (hc4 : k0_cond4 i = 1#1) (hc6 : ¬ k0_cond6 i = 1#1) (hc10 : ¬ k0_cond10 i = 1#1) (hj : ¬ Scalar.cmpi .ne (Scalar.extui (Scalar.cmpi .eq (BitVec.ofNat 32 (i 1).val) 0#32)) 0#32 = 1#1) :
    iprop(HeldIn arg2 arg3 arg4 arg5 arg6 arg7 arg8 arg9 arg10 arg11 arg12 arg13 arg14 arg15 arg16 arg17 arg18 c I ∗ HeldSt arg19 arg20 arg21 arg22 arg23 arg24 arg25 arg26 arg27 arg28 arg29 arg30 c S
        ∗ (iprop(HeldIn arg2 arg3 arg4 arg5 arg6 arg7 arg8 arg9 arg10 arg11 arg12 arg13 arg14 arg15 arg16 arg17 arg18 c I ∗ HeldSt arg19 arg20 arg21 arg22 arg23 arg24 arg25 arg26 arg27 arg28 arg29 arg30 c
            { S with h1 := VecWindow.put S.h1 (k0_off3 i) S512x64.size (k0_pay15 I.b1 I.b1 I.adj S.ft I.a1), x := VecWindow.put S.x (k0_off4 i) S512x128.size (k0_pay4 (k0_pay16 I.b1 I.b1 I.adj S.ft I.a1 I.W2 I.W2)), hsum := k0_pay6 (k0_pay14 I.b1 I.b1 I.adj S.ft I.a1) S.hsum, stash := VecWindow.put S.stash (k0_off2 i) S512x4096.size (k0_pay13 I.adj) }) -∗ K ⟨⟩))
      ⊢ wp frame (wpE (defs₀ (F := F)) Variants.none c none) Set.univ (bodyOf arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 i) K := by
  unfold bodyOf
  simp only [cc0__body_eq_skeleton]; unfold cc0__body_skel
  simp only [k0_part1_eq_skeleton, k0_part2_eq_skeleton, k0_part3_eq_skeleton, k0_part4_eq_skeleton, k0_part5_eq_skeleton]
  unfold HeldIn HeldSt owns
  iintro ⟨⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩, ⟨%f17, %h17, H17⟩, ⟨%f18, %h18, H18⟩⟩, ⟨⟨%f19, %h19, H19⟩, ⟨%f20, %h20, H20⟩, ⟨%f21, %h21, H21⟩, ⟨%f22, %h22, H22⟩, ⟨%f23, %h23, H23⟩, ⟨%f24, %h24, H24⟩, ⟨%f25, %h25, H25⟩, ⟨%f26, %h26, H26⟩, ⟨%f27, %h27, H27⟩, ⟨%f28, %h28, H28⟩, ⟨%f29, %h29, H29⟩, ⟨%f30, %h30, H30⟩⟩, Hk⟩
  sl_exec
  sl_step
  iapply Hk
  isplitl [H2 H3 H4 H5 H6 H7 H8 H9 H10 H11 H12 H13 H14 H15 H16 H17 H18]
  · iapply (heldIn_close _ _ _ _ _ _ _ _ _ _ _ _ _ _ _ _ _ c I h2 h3 h4 h5 h6 h7 h8 h9 h10 h11 h12 h13 h14 h15 h16 h17 h18); iframe
  isplitl [H19]; · iexists _; isplitr; swap; iexact H19; ipureintro; exact h19
  isplitl [H20]; · iexists _; isplitr; swap; iexact H20; ipureintro; exact h20
  isplitl [H21]; · iexists _; isplitr; swap; iexact H21; ipureintro; exact h21
  isplitl [H22]; · iexists _; isplitr; swap; iexact H22; ipureintro; exact h22
  isplitl [H23]; · iexists _; isplitr; swap; iexact H23; ipureintro; exact h23
  isplitl [H24]; · iexists _; isplitr; swap; iexact H24; ipureintro; exact h24
  isplitl [H25]; · iexists _; isplitr; swap; iexact H25; ipureintro; rw [View.read_writes_cons_put _ _ _ _ _ rfl]; simp only [after_1x64, after_64x1, own_512x4096, own_1x64, own_1x1, own_4096x128, whole_512x256, whole_512x4096, whole_256x64, whole_1x64, whole_1x1, whole_64x64, whole_64x1, whole_4096x128, stored_1x64, stored_512x64, stored_64x1, View.writes_nil, h2, h3, h4, h5, h6, h7, h8, h9, h10, h11, h12, h13, h14, h15, h16, h17, h18, h19, h20, h21, h22, h23, h24, h25, h26, h27, h28, h29, h30]; try simp only [boxed, h2, h3, h4, h5, h6, h7, h8, h9, h10, h11, h12, h13, h14, h15, h16, h17, h18, h19, h20, h21, h22, h23, h24, h25, h26, h27, h28, h29, h30]; try rfl
  isplitl [H26]; · iexists _; isplitr; swap; iexact H26; ipureintro; exact h26
  isplitl [H27]; · iexists _; isplitr; swap; iexact H27; ipureintro; rw [View.read_writes_cons_put _ _ _ _ _ rfl]; simp only [after_1x64, after_64x1, own_512x4096, own_1x64, own_1x1, own_4096x128, whole_512x256, whole_512x4096, whole_256x64, whole_1x64, whole_1x1, whole_64x64, whole_64x1, whole_4096x128, stored_1x64, stored_512x64, stored_64x1, View.writes_nil, h2, h3, h4, h5, h6, h7, h8, h9, h10, h11, h12, h13, h14, h15, h16, h17, h18, h19, h20, h21, h22, h23, h24, h25, h26, h27, h28, h29, h30]; (try delta run_C2.sl.r_2); (try delta run_C2.sl.r_1); (try delta run_C2.sl.r); (try delta run_C2.sl.v116); (try delta run_C2.sl.v112); (try delta run_C2.sl.H30_1); (try delta run_C2.sl.H29_1); (try delta run_C2.sl.v56); (try delta run_C2.sl.H29_1); (try simp only [after_1x64, after_64x1, own_512x4096, own_1x64, own_1x1, own_4096x128, whole_512x256, whole_512x4096, whole_256x64, whole_1x64, whole_1x1, whole_64x64, whole_64x1, whole_4096x128, stored_1x64, stored_512x64, stored_64x1, View.writes_nil, h2, h3, h4, h5, h6, h7, h8, h9, h10, h11, h12, h13, h14, h15, h16, h17, h18, h19, h20, h21, h22, h23, h24, h25, h26, h27, h28, h29, h30]); try simp only [boxed, h2, h3, h4, h5, h6, h7, h8, h9, h10, h11, h12, h13, h14, h15, h16, h17, h18, h19, h20, h21, h22, h23, h24, h25, h26, h27, h28, h29, h30]; try rfl
  isplitl [H28]; · iexists _; isplitr; swap; iexact H28; ipureintro; rw [View.read_writes_cons_put _ _ _ _ _ rfl]; simp only [after_1x64, after_64x1, own_512x4096, own_1x64, own_1x1, own_4096x128, whole_512x256, whole_512x4096, whole_256x64, whole_1x64, whole_1x1, whole_64x64, whole_64x1, whole_4096x128, stored_1x64, stored_512x64, stored_64x1, View.writes_nil, h2, h3, h4, h5, h6, h7, h8, h9, h10, h11, h12, h13, h14, h15, h16, h17, h18, h19, h20, h21, h22, h23, h24, h25, h26, h27, h28, h29, h30]; (try delta run_C2.sl.r_2); (try delta run_C2.sl.r_1); (try delta run_C2.sl.r); (try delta run_C2.sl.v116); (try delta run_C2.sl.v112); (try delta run_C2.sl.H30_1); (try delta run_C2.sl.H29_1); (try delta run_C2.sl.v56); (try delta run_C2.sl.H29_1); (try simp only [after_1x64, after_64x1, own_512x4096, own_1x64, own_1x1, own_4096x128, whole_512x256, whole_512x4096, whole_256x64, whole_1x64, whole_1x1, whole_64x64, whole_64x1, whole_4096x128, stored_1x64, stored_512x64, stored_64x1, View.writes_nil, h2, h3, h4, h5, h6, h7, h8, h9, h10, h11, h12, h13, h14, h15, h16, h17, h18, h19, h20, h21, h22, h23, h24, h25, h26, h27, h28, h29, h30]); try simp only [boxed, h2, h3, h4, h5, h6, h7, h8, h9, h10, h11, h12, h13, h14, h15, h16, h17, h18, h19, h20, h21, h22, h23, h24, h25, h26, h27, h28, h29, h30]; try rfl
  isplitl [H29]; · iexists _; isplitr; swap; iexact H29; ipureintro; simp only [after_1x64, after_64x1, own_512x4096, own_1x64, own_1x1, own_4096x128, whole_512x256, whole_512x4096, whole_256x64, whole_1x64, whole_1x1, whole_64x64, whole_64x1, whole_4096x128, stored_1x64, stored_512x64, stored_64x1, View.writes_nil, h2, h3, h4, h5, h6, h7, h8, h9, h10, h11, h12, h13, h14, h15, h16, h17, h18, h19, h20, h21, h22, h23, h24, h25, h26, h27, h28, h29, h30]; (try delta run_C2.sl.r_2); (try delta run_C2.sl.r_1); (try delta run_C2.sl.r); (try delta run_C2.sl.v116); (try delta run_C2.sl.v112); (try delta run_C2.sl.H30_1); (try delta run_C2.sl.H29_1); (try delta run_C2.sl.v56); (try delta run_C2.sl.H29_1); (try simp only [after_1x64, after_64x1, own_512x4096, own_1x64, own_1x1, own_4096x128, whole_512x256, whole_512x4096, whole_256x64, whole_1x64, whole_1x1, whole_64x64, whole_64x1, whole_4096x128, stored_1x64, stored_512x64, stored_64x1, View.writes_nil, h2, h3, h4, h5, h6, h7, h8, h9, h10, h11, h12, h13, h14, h15, h16, h17, h18, h19, h20, h21, h22, h23, h24, h25, h26, h27, h28, h29, h30]); try simp only [boxed, h2, h3, h4, h5, h6, h7, h8, h9, h10, h11, h12, h13, h14, h15, h16, h17, h18, h19, h20, h21, h22, h23, h24, h25, h26, h27, h28, h29, h30]; try rfl
  iexists _; isplitr; swap; iexact H30; ipureintro; exact h30

/-- At the first point of phase 2 it stores the discriminator's vector, a block of the embedding, its copy beside ones, and the two blocks of scores. -/
theorem run_D0 (c : Dev nD) (i : grid0.Coords) (I : In F) (S : St F) (K : PUnit → sProp 𝕄)
    (hc1 : ¬ k0_cond1 i = 1#1) (hc3 : ¬ k0_cond3 i = 1#1) (hc6 : k0_cond6 i = 1#1) (hc8 : k0_cond8 i = 1#1) (hc9 : ¬ k0_cond9 i = 1#1) (hc10 : ¬ k0_cond10 i = 1#1) (hj : Scalar.cmpi .ne (Scalar.extui (Scalar.cmpi .eq (BitVec.ofNat 32 (i 1).val) 0#32)) 0#32 = 1#1) :
    iprop(HeldIn arg2 arg3 arg4 arg5 arg6 arg7 arg8 arg9 arg10 arg11 arg12 arg13 arg14 arg15 arg16 arg17 arg18 c I ∗ HeldSt arg19 arg20 arg21 arg22 arg23 arg24 arg25 arg26 arg27 arg28 arg29 arg30 c S
        ∗ (iprop(HeldIn arg2 arg3 arg4 arg5 arg6 arg7 arg8 arg9 arg10 arg11 arg12 arg13 arg14 arg15 arg16 arg17 arg18 c I ∗ HeldSt arg19 arg20 arg21 arg22 arg23 arg24 arg25 arg26 arg27 arg28 arg29 arg30 c
            { S with v := k0_pay7 S.hsum I.Wb, emb := k0_pay19 (k0_pay17 I.adj) I.b2 I.b2 S.x I.a2, ft := VecWindow.put S.ft (k0_off5 i) S512x128.size (k0_pay20 (k0_pay17 I.adj) I.b2 I.b2 S.x I.a2), ret := VecWindow.put (VecWindow.put S.ret (k0_off7 i) S1x512.size (k0_pay9 (k0_pay7 S.hsum I.Wb) I.bb (VecWindow.window S.h1 (k0_off6 i) S512x64.size (k0_off6_inb i hc6 hc8)))) (k0_off8 i) S1x512.size (k0_pay10 (k0_pay18 (k0_pay17 I.adj) I.b2 I.b2 S.x I.a2) (k0_pay7 S.hsum I.Wb) I.bb) }) -∗ K ⟨⟩))
      ⊢ wp frame (wpE (defs₀ (F := F)) Variants.none c none) Set.univ (bodyOf arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 i) K := by
  unfold bodyOf
  simp only [cc0__body_eq_skeleton]; unfold cc0__body_skel
  simp only [k0_part1_eq_skeleton, k0_part2_eq_skeleton, k0_part3_eq_skeleton, k0_part4_eq_skeleton, k0_part5_eq_skeleton]
  unfold HeldIn HeldSt owns
  iintro ⟨⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩, ⟨%f17, %h17, H17⟩, ⟨%f18, %h18, H18⟩⟩, ⟨⟨%f19, %h19, H19⟩, ⟨%f20, %h20, H20⟩, ⟨%f21, %h21, H21⟩, ⟨%f22, %h22, H22⟩, ⟨%f23, %h23, H23⟩, ⟨%f24, %h24, H24⟩, ⟨%f25, %h25, H25⟩, ⟨%f26, %h26, H26⟩, ⟨%f27, %h27, H27⟩, ⟨%f28, %h28, H28⟩, ⟨%f29, %h29, H29⟩, ⟨%f30, %h30, H30⟩⟩, Hk⟩
  sl_exec
  sl_step
  iapply Hk
  isplitl [H2 H3 H4 H5 H6 H7 H8 H9 H10 H11 H12 H13 H14 H15 H16 H17 H18]
  · iapply (heldIn_close _ _ _ _ _ _ _ _ _ _ _ _ _ _ _ _ _ c I h2 h3 h4 h5 h6 h7 h8 h9 h10 h11 h12 h13 h14 h15 h16 h17 h18); iframe
  isplitl [H19]; · iexists _; isplitr; swap; iexact H19; ipureintro; simp only [after_1x64, after_64x1, own_512x4096, own_1x64, own_1x1, own_4096x128, whole_512x256, whole_512x4096, whole_256x64, whole_1x64, whole_1x1, whole_64x64, whole_64x1, whole_4096x128, stored_1x64, stored_512x64, stored_64x1, View.writes_nil, h2, h3, h4, h5, h6, h7, h8, h9, h10, h11, h12, h13, h14, h15, h16, h17, h18, h19, h20, h21, h22, h23, h24, h25, h26, h27, h28, h29, h30]; (try delta run_D0.sl.r_2); (try delta run_D0.sl.r_1); (try delta run_D0.sl.r); (try delta run_D0.sl.v116); (try delta run_D0.sl.v112); (try delta run_D0.sl.H30_1); (try delta run_D0.sl.H29_1); (try delta run_D0.sl.v56); (try delta run_D0.sl.H29_1); (try simp only [after_1x64, after_64x1, own_512x4096, own_1x64, own_1x1, own_4096x128, whole_512x256, whole_512x4096, whole_256x64, whole_1x64, whole_1x1, whole_64x64, whole_64x1, whole_4096x128, stored_1x64, stored_512x64, stored_64x1, View.writes_nil, h2, h3, h4, h5, h6, h7, h8, h9, h10, h11, h12, h13, h14, h15, h16, h17, h18, h19, h20, h21, h22, h23, h24, h25, h26, h27, h28, h29, h30]); try simp only [boxed, h2, h3, h4, h5, h6, h7, h8, h9, h10, h11, h12, h13, h14, h15, h16, h17, h18, h19, h20, h21, h22, h23, h24, h25, h26, h27, h28, h29, h30]; try rfl
  isplitl [H20]; · iexists _; isplitr; swap; iexact H20; ipureintro; exact h20
  isplitl [H21]; · iexists _; isplitr; swap; iexact H21; ipureintro; rw [View.read_writes_cons_put _ _ _ _ _ rfl, View.read_writes_cons_put _ _ _ _ _ rfl]; simp only [after_1x64, after_64x1, own_512x4096, own_1x64, own_1x1, own_4096x128, whole_512x256, whole_512x4096, whole_256x64, whole_1x64, whole_1x1, whole_64x64, whole_64x1, whole_4096x128, stored_1x64, stored_512x64, stored_64x1, View.writes_nil, h2, h3, h4, h5, h6, h7, h8, h9, h10, h11, h12, h13, h14, h15, h16, h17, h18, h19, h20, h21, h22, h23, h24, h25, h26, h27, h28, h29, h30]; (try delta run_D0.sl.r_2); (try delta run_D0.sl.r_1); (try delta run_D0.sl.r); (try delta run_D0.sl.v116); (try delta run_D0.sl.v112); (try delta run_D0.sl.H30_1); (try delta run_D0.sl.H29_1); (try delta run_D0.sl.v56); (try delta run_D0.sl.H29_1); (try simp only [after_1x64, after_64x1, own_512x4096, own_1x64, own_1x1, own_4096x128, whole_512x256, whole_512x4096, whole_256x64, whole_1x64, whole_1x1, whole_64x64, whole_64x1, whole_4096x128, stored_1x64, stored_512x64, stored_64x1, View.writes_nil, h2, h3, h4, h5, h6, h7, h8, h9, h10, h11, h12, h13, h14, h15, h16, h17, h18, h19, h20, h21, h22, h23, h24, h25, h26, h27, h28, h29, h30]); try simp only [boxed, h2, h3, h4, h5, h6, h7, h8, h9, h10, h11, h12, h13, h14, h15, h16, h17, h18, h19, h20, h21, h22, h23, h24, h25, h26, h27, h28, h29, h30]; try rfl
  isplitl [H22]; · iexists _; isplitr; swap; iexact H22; ipureintro; exact h22
  isplitl [H23]; · iexists _; isplitr; swap; iexact H23; ipureintro; exact h23
  isplitl [H24]; · iexists _; isplitr; swap; iexact H24; ipureintro; exact h24
  isplitl [H25]; · iexists _; isplitr; swap; iexact H25; ipureintro; exact h25
  isplitl [H26]; · iexists _; isplitr; swap; iexact H26; ipureintro; rw [View.read_writes_cons_put _ _ _ _ _ rfl]; simp only [after_1x64, after_64x1, own_512x4096, own_1x64, own_1x1, own_4096x128, whole_512x256, whole_512x4096, whole_256x64, whole_1x64, whole_1x1, whole_64x64, whole_64x1, whole_4096x128, stored_1x64, stored_512x64, stored_64x1, View.writes_nil, h2, h3, h4, h5, h6, h7, h8, h9, h10, h11, h12, h13, h14, h15, h16, h17, h18, h19, h20, h21, h22, h23, h24, h25, h26, h27, h28, h29, h30]; (try delta run_D0.sl.r_2); (try delta run_D0.sl.r_1); (try delta run_D0.sl.r); (try delta run_D0.sl.v116); (try delta run_D0.sl.v112); (try delta run_D0.sl.H30_1); (try delta run_D0.sl.H29_1); (try delta run_D0.sl.v56); (try delta run_D0.sl.H29_1); (try simp only [after_1x64, after_64x1, own_512x4096, own_1x64, own_1x1, own_4096x128, whole_512x256, whole_512x4096, whole_256x64, whole_1x64, whole_1x1, whole_64x64, whole_64x1, whole_4096x128, stored_1x64, stored_512x64, stored_64x1, View.writes_nil, h2, h3, h4, h5, h6, h7, h8, h9, h10, h11, h12, h13, h14, h15, h16, h17, h18, h19, h20, h21, h22, h23, h24, h25, h26, h27, h28, h29, h30]); try simp only [boxed, h2, h3, h4, h5, h6, h7, h8, h9, h10, h11, h12, h13, h14, h15, h16, h17, h18, h19, h20, h21, h22, h23, h24, h25, h26, h27, h28, h29, h30]; try rfl
  isplitl [H27]; · iexists _; isplitr; swap; iexact H27; ipureintro; exact h27
  isplitl [H28]; · iexists _; isplitr; swap; iexact H28; ipureintro; exact h28
  isplitl [H29]; · iexists _; isplitr; swap; iexact H29; ipureintro; exact h29
  iexists _; isplitr; swap; iexact H30; ipureintro; delta run_D0.sl.H30_1; simp only [after_1x64, after_64x1, own_512x4096, own_1x64, own_1x1, own_4096x128, whole_512x256, whole_512x4096, whole_256x64, whole_1x64, whole_1x1, whole_64x64, whole_64x1, whole_4096x128, stored_1x64, stored_512x64, stored_64x1, View.writes_nil, h2, h3, h4, h5, h6, h7, h8, h9, h10, h11, h12, h13, h14, h15, h16, h17, h18, h19, h20, h21, h22, h23, h24, h25, h26, h27, h28, h29, h30]; try simp only [boxed, h2, h3, h4, h5, h6, h7, h8, h9, h10, h11, h12, h13, h14, h15, h16, h17, h18, h19, h20, h21, h22, h23, h24, h25, h26, h27, h28, h29, h30]; try rfl

/-- At a later point of phase 2 whose block comes from its window it stores a block of the embedding, its copy beside ones, and the two blocks of scores. -/
theorem run_D (c : Dev nD) (i : grid0.Coords) (I : In F) (S : St F) (K : PUnit → sProp 𝕄)
    (hc1 : ¬ k0_cond1 i = 1#1) (hc3 : ¬ k0_cond3 i = 1#1) (hc6 : k0_cond6 i = 1#1) (hc8 : k0_cond8 i = 1#1) (hc9 : ¬ k0_cond9 i = 1#1) (hc10 : ¬ k0_cond10 i = 1#1) (hj : ¬ Scalar.cmpi .ne (Scalar.extui (Scalar.cmpi .eq (BitVec.ofNat 32 (i 1).val) 0#32)) 0#32 = 1#1) :
    iprop(HeldIn arg2 arg3 arg4 arg5 arg6 arg7 arg8 arg9 arg10 arg11 arg12 arg13 arg14 arg15 arg16 arg17 arg18 c I ∗ HeldSt arg19 arg20 arg21 arg22 arg23 arg24 arg25 arg26 arg27 arg28 arg29 arg30 c S
        ∗ (iprop(HeldIn arg2 arg3 arg4 arg5 arg6 arg7 arg8 arg9 arg10 arg11 arg12 arg13 arg14 arg15 arg16 arg17 arg18 c I ∗ HeldSt arg19 arg20 arg21 arg22 arg23 arg24 arg25 arg26 arg27 arg28 arg29 arg30 c
            { S with emb := k0_pay19 (k0_pay17 I.adj) I.b2 I.b2 S.x I.a2, ft := VecWindow.put S.ft (k0_off5 i) S512x128.size (k0_pay20 (k0_pay17 I.adj) I.b2 I.b2 S.x I.a2), ret := VecWindow.put (VecWindow.put S.ret (k0_off7 i) S1x512.size (k0_pay9 S.v I.bb (VecWindow.window S.h1 (k0_off6 i) S512x64.size (k0_off6_inb i hc6 hc8)))) (k0_off8 i) S1x512.size (k0_pay10 (k0_pay18 (k0_pay17 I.adj) I.b2 I.b2 S.x I.a2) S.v I.bb) }) -∗ K ⟨⟩))
      ⊢ wp frame (wpE (defs₀ (F := F)) Variants.none c none) Set.univ (bodyOf arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 i) K := by
  unfold bodyOf
  simp only [cc0__body_eq_skeleton]; unfold cc0__body_skel
  simp only [k0_part1_eq_skeleton, k0_part2_eq_skeleton, k0_part3_eq_skeleton, k0_part4_eq_skeleton, k0_part5_eq_skeleton]
  unfold HeldIn HeldSt owns
  iintro ⟨⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩, ⟨%f17, %h17, H17⟩, ⟨%f18, %h18, H18⟩⟩, ⟨⟨%f19, %h19, H19⟩, ⟨%f20, %h20, H20⟩, ⟨%f21, %h21, H21⟩, ⟨%f22, %h22, H22⟩, ⟨%f23, %h23, H23⟩, ⟨%f24, %h24, H24⟩, ⟨%f25, %h25, H25⟩, ⟨%f26, %h26, H26⟩, ⟨%f27, %h27, H27⟩, ⟨%f28, %h28, H28⟩, ⟨%f29, %h29, H29⟩, ⟨%f30, %h30, H30⟩⟩, Hk⟩
  sl_exec
  sl_step
  iapply Hk
  isplitl [H2 H3 H4 H5 H6 H7 H8 H9 H10 H11 H12 H13 H14 H15 H16 H17 H18]
  · iapply (heldIn_close _ _ _ _ _ _ _ _ _ _ _ _ _ _ _ _ _ c I h2 h3 h4 h5 h6 h7 h8 h9 h10 h11 h12 h13 h14 h15 h16 h17 h18); iframe
  isplitl [H19]; · iexists _; isplitr; swap; iexact H19; ipureintro; simp only [after_1x64, after_64x1, own_512x4096, own_1x64, own_1x1, own_4096x128, whole_512x256, whole_512x4096, whole_256x64, whole_1x64, whole_1x1, whole_64x64, whole_64x1, whole_4096x128, stored_1x64, stored_512x64, stored_64x1, View.writes_nil, h2, h3, h4, h5, h6, h7, h8, h9, h10, h11, h12, h13, h14, h15, h16, h17, h18, h19, h20, h21, h22, h23, h24, h25, h26, h27, h28, h29, h30]; (try delta run_D.sl.r_2); (try delta run_D.sl.r_1); (try delta run_D.sl.r); (try delta run_D.sl.v116); (try delta run_D.sl.v112); (try delta run_D.sl.H30_1); (try delta run_D.sl.H29_1); (try delta run_D.sl.v56); (try delta run_D.sl.H29_1); (try simp only [after_1x64, after_64x1, own_512x4096, own_1x64, own_1x1, own_4096x128, whole_512x256, whole_512x4096, whole_256x64, whole_1x64, whole_1x1, whole_64x64, whole_64x1, whole_4096x128, stored_1x64, stored_512x64, stored_64x1, View.writes_nil, h2, h3, h4, h5, h6, h7, h8, h9, h10, h11, h12, h13, h14, h15, h16, h17, h18, h19, h20, h21, h22, h23, h24, h25, h26, h27, h28, h29, h30]); try simp only [boxed, h2, h3, h4, h5, h6, h7, h8, h9, h10, h11, h12, h13, h14, h15, h16, h17, h18, h19, h20, h21, h22, h23, h24, h25, h26, h27, h28, h29, h30]; try rfl
  isplitl [H20]; · iexists _; isplitr; swap; iexact H20; ipureintro; exact h20
  isplitl [H21]; · iexists _; isplitr; swap; iexact H21; ipureintro; rw [View.read_writes_cons_put _ _ _ _ _ rfl, View.read_writes_cons_put _ _ _ _ _ rfl]; simp only [after_1x64, after_64x1, own_512x4096, own_1x64, own_1x1, own_4096x128, whole_512x256, whole_512x4096, whole_256x64, whole_1x64, whole_1x1, whole_64x64, whole_64x1, whole_4096x128, stored_1x64, stored_512x64, stored_64x1, View.writes_nil, h2, h3, h4, h5, h6, h7, h8, h9, h10, h11, h12, h13, h14, h15, h16, h17, h18, h19, h20, h21, h22, h23, h24, h25, h26, h27, h28, h29, h30]; (try delta run_D.sl.r_2); (try delta run_D.sl.r_1); (try delta run_D.sl.r); (try delta run_D.sl.v116); (try delta run_D.sl.v112); (try delta run_D.sl.H30_1); (try delta run_D.sl.H29_1); (try delta run_D.sl.v56); (try delta run_D.sl.H29_1); (try simp only [after_1x64, after_64x1, own_512x4096, own_1x64, own_1x1, own_4096x128, whole_512x256, whole_512x4096, whole_256x64, whole_1x64, whole_1x1, whole_64x64, whole_64x1, whole_4096x128, stored_1x64, stored_512x64, stored_64x1, View.writes_nil, h2, h3, h4, h5, h6, h7, h8, h9, h10, h11, h12, h13, h14, h15, h16, h17, h18, h19, h20, h21, h22, h23, h24, h25, h26, h27, h28, h29, h30]); try simp only [boxed, h2, h3, h4, h5, h6, h7, h8, h9, h10, h11, h12, h13, h14, h15, h16, h17, h18, h19, h20, h21, h22, h23, h24, h25, h26, h27, h28, h29, h30]; try rfl
  isplitl [H22]; · iexists _; isplitr; swap; iexact H22; ipureintro; exact h22
  isplitl [H23]; · iexists _; isplitr; swap; iexact H23; ipureintro; exact h23
  isplitl [H24]; · iexists _; isplitr; swap; iexact H24; ipureintro; exact h24
  isplitl [H25]; · iexists _; isplitr; swap; iexact H25; ipureintro; exact h25
  isplitl [H26]; · iexists _; isplitr; swap; iexact H26; ipureintro; rw [View.read_writes_cons_put _ _ _ _ _ rfl]; simp only [after_1x64, after_64x1, own_512x4096, own_1x64, own_1x1, own_4096x128, whole_512x256, whole_512x4096, whole_256x64, whole_1x64, whole_1x1, whole_64x64, whole_64x1, whole_4096x128, stored_1x64, stored_512x64, stored_64x1, View.writes_nil, h2, h3, h4, h5, h6, h7, h8, h9, h10, h11, h12, h13, h14, h15, h16, h17, h18, h19, h20, h21, h22, h23, h24, h25, h26, h27, h28, h29, h30]; (try delta run_D.sl.r_2); (try delta run_D.sl.r_1); (try delta run_D.sl.r); (try delta run_D.sl.v116); (try delta run_D.sl.v112); (try delta run_D.sl.H30_1); (try delta run_D.sl.H29_1); (try delta run_D.sl.v56); (try delta run_D.sl.H29_1); (try simp only [after_1x64, after_64x1, own_512x4096, own_1x64, own_1x1, own_4096x128, whole_512x256, whole_512x4096, whole_256x64, whole_1x64, whole_1x1, whole_64x64, whole_64x1, whole_4096x128, stored_1x64, stored_512x64, stored_64x1, View.writes_nil, h2, h3, h4, h5, h6, h7, h8, h9, h10, h11, h12, h13, h14, h15, h16, h17, h18, h19, h20, h21, h22, h23, h24, h25, h26, h27, h28, h29, h30]); try simp only [boxed, h2, h3, h4, h5, h6, h7, h8, h9, h10, h11, h12, h13, h14, h15, h16, h17, h18, h19, h20, h21, h22, h23, h24, h25, h26, h27, h28, h29, h30]; try rfl
  isplitl [H27]; · iexists _; isplitr; swap; iexact H27; ipureintro; exact h27
  isplitl [H28]; · iexists _; isplitr; swap; iexact H28; ipureintro; exact h28
  isplitl [H29]; · iexists _; isplitr; swap; iexact H29; ipureintro; exact h29
  iexists _; isplitr; swap; iexact H30; ipureintro; exact h30

/-- At a point of phase 2 whose block was kept it does the same from the kept block. -/
theorem run_E (c : Dev nD) (i : grid0.Coords) (I : In F) (S : St F) (K : PUnit → sProp 𝕄)
    (hc1 : ¬ k0_cond1 i = 1#1) (hc3 : ¬ k0_cond3 i = 1#1) (hc6 : k0_cond6 i = 1#1) (hc8 : ¬ k0_cond8 i = 1#1) (hc9 : k0_cond9 i = 1#1) (hc10 : ¬ k0_cond10 i = 1#1) (hj : ¬ Scalar.cmpi .ne (Scalar.extui (Scalar.cmpi .eq (BitVec.ofNat 32 (i 1).val) 0#32)) 0#32 = 1#1) :
    iprop(HeldIn arg2 arg3 arg4 arg5 arg6 arg7 arg8 arg9 arg10 arg11 arg12 arg13 arg14 arg15 arg16 arg17 arg18 c I ∗ HeldSt arg19 arg20 arg21 arg22 arg23 arg24 arg25 arg26 arg27 arg28 arg29 arg30 c S
        ∗ (iprop(HeldIn arg2 arg3 arg4 arg5 arg6 arg7 arg8 arg9 arg10 arg11 arg12 arg13 arg14 arg15 arg16 arg17 arg18 c I ∗ HeldSt arg19 arg20 arg21 arg22 arg23 arg24 arg25 arg26 arg27 arg28 arg29 arg30 c
            { S with emb := k0_pay22 (VecWindow.window S.stash (k0_off9 i) S512x4096.size (k0_off9_inb i hc6 hc9)) I.b2 I.b2 S.x I.a2, ft := VecWindow.put S.ft (k0_off10 i) S512x128.size (k0_pay23 (VecWindow.window S.stash (k0_off9 i) S512x4096.size (k0_off9_inb i hc6 hc9)) I.b2 I.b2 S.x I.a2), ret := VecWindow.put (VecWindow.put S.ret (k0_off12 i) S1x512.size (k0_pay25 S.v I.bb (VecWindow.window S.h1 (k0_off11 i) S512x64.size (k0_off11_inb i hc6 hc9)))) (k0_off13 i) S1x512.size (k0_pay26 (VecWindow.window S.stash (k0_off9 i) S512x4096.size (k0_off9_inb i hc6 hc9)) I.b2 I.b2 S.x I.a2 S.v I.bb) }) -∗ K ⟨⟩))
      ⊢ wp frame (wpE (defs₀ (F := F)) Variants.none c none) Set.univ (bodyOf arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 i) K := by
  unfold bodyOf
  simp only [cc0__body_eq_skeleton]; unfold cc0__body_skel
  simp only [k0_part1_eq_skeleton, k0_part2_eq_skeleton, k0_part3_eq_skeleton, k0_part4_eq_skeleton, k0_part5_eq_skeleton]
  unfold HeldIn HeldSt owns
  iintro ⟨⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩, ⟨%f17, %h17, H17⟩, ⟨%f18, %h18, H18⟩⟩, ⟨⟨%f19, %h19, H19⟩, ⟨%f20, %h20, H20⟩, ⟨%f21, %h21, H21⟩, ⟨%f22, %h22, H22⟩, ⟨%f23, %h23, H23⟩, ⟨%f24, %h24, H24⟩, ⟨%f25, %h25, H25⟩, ⟨%f26, %h26, H26⟩, ⟨%f27, %h27, H27⟩, ⟨%f28, %h28, H28⟩, ⟨%f29, %h29, H29⟩, ⟨%f30, %h30, H30⟩⟩, Hk⟩
  sl_exec
  sl_step
  iapply Hk
  isplitl [H2 H3 H4 H5 H6 H7 H8 H9 H10 H11 H12 H13 H14 H15 H16 H17 H18]
  · iapply (heldIn_close _ _ _ _ _ _ _ _ _ _ _ _ _ _ _ _ _ c I h2 h3 h4 h5 h6 h7 h8 h9 h10 h11 h12 h13 h14 h15 h16 h17 h18); iframe
  isplitl [H19]; · iexists _; isplitr; swap; iexact H19; ipureintro; simp only [after_1x64, after_64x1, own_512x4096, own_1x64, own_1x1, own_4096x128, whole_512x256, whole_512x4096, whole_256x64, whole_1x64, whole_1x1, whole_64x64, whole_64x1, whole_4096x128, stored_1x64, stored_512x64, stored_64x1, View.writes_nil, h2, h3, h4, h5, h6, h7, h8, h9, h10, h11, h12, h13, h14, h15, h16, h17, h18, h19, h20, h21, h22, h23, h24, h25, h26, h27, h28, h29, h30]; delta run_E.sl.r run_E.sl.r_1; simp only [after_1x64, after_64x1, own_512x4096, own_1x64, own_1x1, own_4096x128, whole_512x256, whole_512x4096, whole_256x64, whole_1x64, whole_1x1, whole_64x64, whole_64x1, whole_4096x128, stored_1x64, stored_512x64, stored_64x1, View.writes_nil, h2, h3, h4, h5, h6, h7, h8, h9, h10, h11, h12, h13, h14, h15, h16, h17, h18, h19, h20, h21, h22, h23, h24, h25, h26, h27, h28, h29, h30]; try simp only [boxed, h2, h3, h4, h5, h6, h7, h8, h9, h10, h11, h12, h13, h14, h15, h16, h17, h18, h19, h20, h21, h22, h23, h24, h25, h26, h27, h28, h29, h30]; try rfl
  isplitl [H20]; · iexists _; isplitr; swap; iexact H20; ipureintro; exact h20
  isplitl [H21]; · iexists _; isplitr; swap; iexact H21; ipureintro; rw [View.read_writes_cons_put _ _ _ _ _ rfl, View.read_writes_cons_put _ _ _ _ _ rfl]; simp only [after_1x64, after_64x1, own_512x4096, own_1x64, own_1x1, own_4096x128, whole_512x256, whole_512x4096, whole_256x64, whole_1x64, whole_1x1, whole_64x64, whole_64x1, whole_4096x128, stored_1x64, stored_512x64, stored_64x1, View.writes_nil, h2, h3, h4, h5, h6, h7, h8, h9, h10, h11, h12, h13, h14, h15, h16, h17, h18, h19, h20, h21, h22, h23, h24, h25, h26, h27, h28, h29, h30]; delta run_E.sl.r_2 run_E.sl.r_3; simp only [after_1x64, after_64x1, own_512x4096, own_1x64, own_1x1, own_4096x128, whole_512x256, whole_512x4096, whole_256x64, whole_1x64, whole_1x1, whole_64x64, whole_64x1, whole_4096x128, stored_1x64, stored_512x64, stored_64x1, View.writes_nil, h2, h3, h4, h5, h6, h7, h8, h9, h10, h11, h12, h13, h14, h15, h16, h17, h18, h19, h20, h21, h22, h23, h24, h25, h26, h27, h28, h29, h30]; delta run_E.sl.r run_E.sl.r_1; simp only [after_1x64, after_64x1, own_512x4096, own_1x64, own_1x1, own_4096x128, whole_512x256, whole_512x4096, whole_256x64, whole_1x64, whole_1x1, whole_64x64, whole_64x1, whole_4096x128, stored_1x64, stored_512x64, stored_64x1, View.writes_nil, h2, h3, h4, h5, h6, h7, h8, h9, h10, h11, h12, h13, h14, h15, h16, h17, h18, h19, h20, h21, h22, h23, h24, h25, h26, h27, h28, h29, h30]; try simp only [boxed, h2, h3, h4, h5, h6, h7, h8, h9, h10, h11, h12, h13, h14, h15, h16, h17, h18, h19, h20, h21, h22, h23, h24, h25, h26, h27, h28, h29, h30]; try rfl
  isplitl [H22]; · iexists _; isplitr; swap; iexact H22; ipureintro; exact h22
  isplitl [H23]; · iexists _; isplitr; swap; iexact H23; ipureintro; exact h23
  isplitl [H24]; · iexists _; isplitr; swap; iexact H24; ipureintro; exact h24
  isplitl [H25]; · iexists _; isplitr; swap; iexact H25; ipureintro; exact h25
  isplitl [H26]; · iexists _; isplitr; swap; iexact H26; ipureintro; rw [View.read_writes_cons_put _ _ _ _ _ rfl]; simp only [after_1x64, after_64x1, own_512x4096, own_1x64, own_1x1, own_4096x128, whole_512x256, whole_512x4096, whole_256x64, whole_1x64, whole_1x1, whole_64x64, whole_64x1, whole_4096x128, stored_1x64, stored_512x64, stored_64x1, View.writes_nil, h2, h3, h4, h5, h6, h7, h8, h9, h10, h11, h12, h13, h14, h15, h16, h17, h18, h19, h20, h21, h22, h23, h24, h25, h26, h27, h28, h29, h30]; delta run_E.sl.r run_E.sl.r_1; simp only [after_1x64, after_64x1, own_512x4096, own_1x64, own_1x1, own_4096x128, whole_512x256, whole_512x4096, whole_256x64, whole_1x64, whole_1x1, whole_64x64, whole_64x1, whole_4096x128, stored_1x64, stored_512x64, stored_64x1, View.writes_nil, h2, h3, h4, h5, h6, h7, h8, h9, h10, h11, h12, h13, h14, h15, h16, h17, h18, h19, h20, h21, h22, h23, h24, h25, h26, h27, h28, h29, h30]; try simp only [boxed, h2, h3, h4, h5, h6, h7, h8, h9, h10, h11, h12, h13, h14, h15, h16, h17, h18, h19, h20, h21, h22, h23, h24, h25, h26, h27, h28, h29, h30]; try rfl
  isplitl [H27]; · iexists _; isplitr; swap; iexact H27; ipureintro; exact h27
  isplitl [H28]; · iexists _; isplitr; swap; iexact H28; ipureintro; exact h28
  isplitl [H29]; · iexists _; isplitr; swap; iexact H29; ipureintro; exact h29
  iexists _; isplitr; swap; iexact H30; ipureintro; exact h30

/-- At a point of phase 3 it stores a block of the residual embedding and its block of logits. -/
theorem run_G (c : Dev nD) (i : grid0.Coords) (I : In F) (S : St F) (K : PUnit → sProp 𝕄)
    (hc1 : ¬ k0_cond1 i = 1#1) (hc3 : ¬ k0_cond3 i = 1#1) (hc6 : ¬ k0_cond6 i = 1#1) (hc10 : k0_cond10 i = 1#1) :
    iprop(HeldIn arg2 arg3 arg4 arg5 arg6 arg7 arg8 arg9 arg10 arg11 arg12 arg13 arg14 arg15 arg16 arg17 arg18 c I ∗ HeldSt arg19 arg20 arg21 arg22 arg23 arg24 arg25 arg26 arg27 arg28 arg29 arg30 c S
        ∗ (iprop(HeldIn arg2 arg3 arg4 arg5 arg6 arg7 arg8 arg9 arg10 arg11 arg12 arg13 arg14 arg15 arg16 arg17 arg18 c I ∗ HeldSt arg19 arg20 arg21 arg22 arg23 arg24 arg25 arg26 arg27 arg28 arg29 arg30 c
            { S with resid := k0_pay11 I.raw S.ft (VecWindow.window I.raw (k0_off14 i) S512x512.size (k0_off14_inb i hc10)) (VecWindow.window S.ft (k0_off15 i) S512x64.size (k0_off15_inb i hc10)), logit := VecWindow.put S.logit (k0_off16 i) S1x512.size (k0_pay12 I.raw S.ft (VecWindow.window I.raw (k0_off14 i) S512x512.size (k0_off14_inb i hc10)) (VecWindow.window S.ft (k0_off15 i) S512x64.size (k0_off15_inb i hc10)) I.Wf) }) -∗ K ⟨⟩))
      ⊢ wp frame (wpE (defs₀ (F := F)) Variants.none c none) Set.univ (bodyOf arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 i) K := by
  unfold bodyOf
  simp only [cc0__body_eq_skeleton]; unfold cc0__body_skel
  simp only [k0_part1_eq_skeleton, k0_part2_eq_skeleton, k0_part3_eq_skeleton, k0_part4_eq_skeleton, k0_part5_eq_skeleton]
  unfold HeldIn HeldSt owns
  iintro ⟨⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩, ⟨%f17, %h17, H17⟩, ⟨%f18, %h18, H18⟩⟩, ⟨⟨%f19, %h19, H19⟩, ⟨%f20, %h20, H20⟩, ⟨%f21, %h21, H21⟩, ⟨%f22, %h22, H22⟩, ⟨%f23, %h23, H23⟩, ⟨%f24, %h24, H24⟩, ⟨%f25, %h25, H25⟩, ⟨%f26, %h26, H26⟩, ⟨%f27, %h27, H27⟩, ⟨%f28, %h28, H28⟩, ⟨%f29, %h29, H29⟩, ⟨%f30, %h30, H30⟩⟩, Hk⟩
  sl_exec
  sl_step
  iapply Hk
  isplitl [H2 H3 H4 H5 H6 H7 H8 H9 H10 H11 H12 H13 H14 H15 H16 H17 H18]
  · iapply (heldIn_close _ _ _ _ _ _ _ _ _ _ _ _ _ _ _ _ _ c I h2 h3 h4 h5 h6 h7 h8 h9 h10 h11 h12 h13 h14 h15 h16 h17 h18); iframe
  isplitl [H19]; · iexists _; isplitr; swap; iexact H19; ipureintro; exact h19
  isplitl [H20]; · iexists _; isplitr; swap; iexact H20; ipureintro; simp only [after_1x64, after_64x1, own_512x4096, own_1x64, own_1x1, own_4096x128, whole_512x256, whole_512x4096, whole_256x64, whole_1x64, whole_1x1, whole_64x64, whole_64x1, whole_4096x128, stored_1x64, stored_512x64, stored_64x1, View.writes_nil, h2, h3, h4, h5, h6, h7, h8, h9, h10, h11, h12, h13, h14, h15, h16, h17, h18, h19, h20, h21, h22, h23, h24, h25, h26, h27, h28, h29, h30]; delta run_G.sl.v17 run_G.sl.v26; simp only [boxed, h2, h3, h4, h5, h6, h7, h8, h9, h10, h11, h12, h13, h14, h15, h16, h17, h18, h19, h20, h21, h22, h23, h24, h25, h26, h27, h28, h29, h30]; try rfl
  isplitl [H21]; · iexists _; isplitr; swap; iexact H21; ipureintro; exact h21
  isplitl [H22]; · iexists _; isplitr; swap; iexact H22; ipureintro; rw [View.read_writes_cons_put _ _ _ _ _ rfl]; simp only [after_1x64, after_64x1, own_512x4096, own_1x64, own_1x1, own_4096x128, whole_512x256, whole_512x4096, whole_256x64, whole_1x64, whole_1x1, whole_64x64, whole_64x1, whole_4096x128, stored_1x64, stored_512x64, stored_64x1, View.writes_nil, h2, h3, h4, h5, h6, h7, h8, h9, h10, h11, h12, h13, h14, h15, h16, h17, h18, h19, h20, h21, h22, h23, h24, h25, h26, h27, h28, h29, h30]; delta run_G.sl.v17 run_G.sl.v26; simp only [boxed, h2, h3, h4, h5, h6, h7, h8, h9, h10, h11, h12, h13, h14, h15, h16, h17, h18, h19, h20, h21, h22, h23, h24, h25, h26, h27, h28, h29, h30]; try rfl
  isplitl [H23]; · iexists _; isplitr; swap; iexact H23; ipureintro; exact h23
  isplitl [H24]; · iexists _; isplitr; swap; iexact H24; ipureintro; exact h24
  isplitl [H25]; · iexists _; isplitr; swap; iexact H25; ipureintro; exact h25
  isplitl [H26]; · iexists _; isplitr; swap; iexact H26; ipureintro; exact h26
  isplitl [H27]; · iexists _; isplitr; swap; iexact H27; ipureintro; exact h27
  isplitl [H28]; · iexists _; isplitr; swap; iexact H28; ipureintro; exact h28
  isplitl [H29]; · iexists _; isplitr; swap; iexact H29; ipureintro; exact h29
  iexists _; isplitr; swap; iexact H30; ipureintro; exact h30

end Args

end Cert.KernelIdeal.Hand
-- ==== Proof.Index.lean ====
/-
  The grid's arithmetic, decided once over its 32 points: which branches the body takes at a point, at which rows or
  columns it loads and stores, and which block of its array each window stands on. A point `t` is phase `t / 8`, step
  `t % 8`; in the third phase step `j` treats block `rb t` of the rows, a kept block at steps 1 and 3.
-/
module

public import proofs.«01_k».proof.Proof.Gen.KernelIdeal.Frame

@[expose] public section

noncomputable section

namespace Cert.KernelIdeal.Hand

open Cert.KernelIdeal Cert.KernelIdeal.Gen
open Idealize.ShloMosaic Idealize.ShloMosaic.TcCoe

/-- The block of rows that point `t` of the third phase treats. -/
def rb (t : ℕ) : ℕ := if t % 8 < 4 then (if t % 2 = 0 then (t % 8) / 2 else 6 + (t % 8) / 2) else t % 8 - 2
/-- The step of the third phase that treats block `r`. -/
def ord (r : ℕ) : ℕ := if r < 2 then 2 * r else if r < 6 then r + 2 else 2 * (r - 6) + 1

theorem rb_lt : ∀ t : ℕ, rb t < 8 := fun t => by unfold rb; split <;> [split; skip] <;> omega
theorem ord_rb : ∀ t : Fin 32, ord (rb t.val) = t.val % 8 := by decide +kernel
theorem rb_ord : ∀ r : Fin 8, ∀ t : Fin 32, ord r.val = t.val % 8 → r.val = rb t.val := by decide +kernel
theorem ord_lt : ∀ r : Fin 8, ord r.val < 8 := by decide +kernel

/-! The branches. -/

theorem cond1_iff : ∀ t : Fin grid0.N, k0_cond1 (grid0.coords t) = 1#1 ↔ t.val < 8 := by decide +kernel
theorem cond2_iff : ∀ t : Fin grid0.N, k0_cond2 (grid0.coords t) = 1#1 ↔ t.val % 8 = 0 := by decide +kernel
theorem cond3_iff : ∀ t : Fin grid0.N, k0_cond3 (grid0.coords t) = 1#1 ↔ 8 ≤ t.val ∧ t.val < 16 := by decide +kernel
theorem cond4_iff : ∀ t : Fin grid0.N, k0_cond4 (grid0.coords t) = 1#1 ↔ 6 ≤ t.val % 8 := by decide +kernel
theorem cond6_iff : ∀ t : Fin grid0.N, k0_cond6 (grid0.coords t) = 1#1 ↔ 16 ≤ t.val ∧ t.val < 24 := by decide +kernel
theorem cond8_iff : ∀ t : Fin grid0.N, k0_cond8 (grid0.coords t) = 1#1 ↔ rb t.val < 6 := by decide +kernel
theorem cond9_iff : ∀ t : Fin grid0.N, k0_cond9 (grid0.coords t) = 1#1 ↔ 6 ≤ rb t.val := by decide +kernel
theorem cond10_iff : ∀ t : Fin grid0.N, k0_cond10 (grid0.coords t) = 1#1 ↔ 24 ≤ t.val := by decide +kernel
/-- The test of the first step, as the second and the third phase compute it. -/
theorem first_iff : ∀ t : Fin grid0.N, Scalar.cmpi .ne (Scalar.extui (Scalar.cmpi .eq (BitVec.ofNat 32 (grid0.coords t 1).val) 0#32)) 0#32 = 1#1 ↔ t.val % 8 = 0 := by
  decide +kernel

/-! The loads' and stores' places. -/

theorem off1_eq : ∀ t : Fin grid0.N, k0_off1 (grid0.coords t) = ![512 * (t.val % 8), 0] := by decide +kernel
theorem off2_eq : ∀ t : Fin grid0.N, 6 ≤ t.val % 8 → k0_off2 (grid0.coords t) = ![512 * (t.val % 8 - 6), 0] := by decide +kernel
theorem off3_eq : ∀ t : Fin grid0.N, k0_off3 (grid0.coords t) = ![512 * (t.val % 8), 0] := by decide +kernel
theorem off4_eq : ∀ t : Fin grid0.N, k0_off4 (grid0.coords t) = ![512 * (t.val % 8), 0] := by decide +kernel
theorem off5_eq : ∀ t : Fin grid0.N, rb t.val < 6 → k0_off5 (grid0.coords t) = ![512 * rb t.val, 0] := by decide +kernel
theorem off6_eq : ∀ t : Fin grid0.N, rb t.val < 6 → k0_off6 (grid0.coords t) = ![512 * rb t.val, 0] := by decide +kernel
theorem off7_eq : ∀ t : Fin grid0.N, rb t.val < 6 → k0_off7 (grid0.coords t) = ![0, 512 * rb t.val] := by decide +kernel
theorem off8_eq : ∀ t : Fin grid0.N, rb t.val < 6 → k0_off8 (grid0.coords t) = ![0, 512 * (8 + rb t.val)] := by decide +kernel
theorem off9_eq : ∀ t : Fin grid0.N, 6 ≤ rb t.val → k0_off9 (grid0.coords t) = ![512 * (rb t.val - 6), 0] := by decide +kernel
theorem off10_eq : ∀ t : Fin grid0.N, 6 ≤ rb t.val → k0_off10 (grid0.coords t) = ![512 * rb t.val, 0] := by decide +kernel
theorem off11_eq : ∀ t : Fin grid0.N, 6 ≤ rb t.val → k0_off11 (grid0.coords t) = ![512 * rb t.val, 0] := by decide +kernel
theorem off12_eq : ∀ t : Fin grid0.N, 6 ≤ rb t.val → k0_off12 (grid0.coords t) = ![0, 512 * rb t.val] := by decide +kernel
theorem off13_eq : ∀ t : Fin grid0.N, 6 ≤ rb t.val → k0_off13 (grid0.coords t) = ![0, 512 * (8 + rb t.val)] := by decide +kernel
theorem off14_eq : ∀ t : Fin grid0.N, k0_off14 (grid0.coords t) = ![0, 512 * (t.val % 8)] := by decide +kernel
theorem off15_eq : ∀ t : Fin grid0.N, k0_off15 (grid0.coords t) = ![512 * (t.val % 8), 0] := by decide +kernel
theorem off16_eq : ∀ t : Fin grid0.N, k0_off16 (grid0.coords t) = ![0, 512 * (t.val % 8)] := by decide +kernel

/-! The windows' blocks. -/

theorem tr0_eq : ∀ t : Fin grid0.N, t.val < 8 → cc0_transform_0 (grid0.coords t) = ![t.val % 8, 0] := by decide +kernel
theorem tr1_eq : ∀ t : Fin grid0.N, t.val < 8 → cc0_transform_1 (grid0.coords t) = ![t.val % 8, 0] := by decide +kernel
theorem tr2_eq_first : ∀ t : Fin grid0.N, 8 ≤ t.val → t.val < 16 → cc0_transform_2 (grid0.coords t) = ![t.val % 8, 0] := by decide +kernel
theorem tr2_eq_second : ∀ t : Fin grid0.N, 16 ≤ t.val → t.val < 24 → rb t.val < 6 → cc0_transform_2 (grid0.coords t) = ![rb t.val, 0] := by decide +kernel
theorem tr3_eq : ∀ t : Fin grid0.N, 24 ≤ t.val → cc0_transform_3 (grid0.coords t) = ![t.val % 8, 0] := by decide +kernel
/-- The embedding's window stands on block `rb t` in the third phase and stays on the last one's after it. -/
theorem tr17_eq : ∀ t : Fin grid0.N, cc0_transform_17 (grid0.coords t) = ![if t.val < 16 then 0 else if t.val < 24 then rb t.val else 5, 0] := by decide +kernel
theorem tr18_eq : ∀ t : Fin grid0.N, cc0_transform_18 (grid0.coords t) = ![if t.val < 24 then 0 else t.val % 8, 0] := by decide +kernel

/-! When the two windows of output blocks are written back. -/

theorem flush17 : ∀ t : Fin grid0.N, win0_17.flush t = true ↔ (16 ≤ t.val ∧ t.val < 23) ∨ t.val = 31 := by decide +kernel
theorem flush18 : ∀ t : Fin grid0.N, win0_18.flush t = true ↔ 24 ≤ t.val := by decide +kernel

end Cert.KernelIdeal.Hand
-- ==== Proof.Data.lean ====
/-
  What the kernel's buffers hold, in closed form: the operands as whole arrays (`Arr`), the arrays the four phases build
  from them block by block, and the statement of how much of each stands in a buffer before and after a grid point.
-/
module

public import proofs.«01_k».proof.Proof.Step
public import proofs.«01_k».proof.Proof.Index
public import Idealize.ShloMosaic.Lib.ValueIdxCore

@[expose] public section

noncomputable section

namespace Cert.KernelIdeal.Hand

open Cert.KernelIdeal Cert.KernelIdeal.Gen
open Idealize.ShloMosaic Idealize.ShloMosaic.TcCoe Idealize.ShloMosaic.ValueIdx

section Blocks
variable {α : Type} {N n : ℕ} [NeZero N]

/-- Block `j` of 512 rows. -/
def blk (X : (⟨2, ![N, n]⟩ : Shape).Idx → α) (j : ℕ) : (⟨2, ![512, n]⟩ : Shape).Idx → α :=
  fun y => X (ix2 (⟨(512 * j + (y 0).val) % N, Nat.mod_lt _ (Nat.pos_of_neZero N)⟩ : Fin N) (y 1))
/-- The 4096 rows of blocks `B 0`, …, `B 7`. -/
def rows (B : ℕ → (⟨2, ![512, n]⟩ : Shape).Idx → α) : (⟨2, ![4096, n]⟩ : Shape).Idx → α :=
  fun y => B ((y 0).val / 512) (ix2 (⟨(y 0).val % 512, Nat.mod_lt _ (by decide)⟩ : Fin 512) (y 1))
/-- Block `b` of 512 columns of one row. -/
def cblk (X : (⟨2, ![1, N]⟩ : Shape).Idx → α) (b : ℕ) : (⟨2, ![1, 512]⟩ : Shape).Idx → α :=
  fun y => X (ix2 (y 0) (⟨(512 * b + (y 1).val) % N, Nat.mod_lt _ (Nat.pos_of_neZero N)⟩ : Fin N))
/-- The one row of blocks `B 0`, `B 1`, …. -/
def cols (N : ℕ) (B : ℕ → (⟨2, ![1, 512]⟩ : Shape).Idx → α) : (⟨2, ![1, N]⟩ : Shape).Idx → α :=
  fun y => B ((y 1).val / 512) (ix2 (y 0) (⟨(y 1).val % 512, Nat.mod_lt _ (by decide)⟩ : Fin 512))

theorem lt0 {a b : ℕ} (y : (⟨2, ![a, b]⟩ : Shape).Idx) : (y 0).val < a := (y 0).isLt
theorem lt1 {a b : ℕ} (y : (⟨2, ![a, b]⟩ : Shape).Idx) : (y 1).val < b := (y 1).isLt

/-- The block just stored is the payload; another block of rows is as before. -/
theorem blk_put (X : (⟨2, ![N, n]⟩ : Shape).Idx → α) (j k : ℕ) (hk : 512 * k + 512 ≤ N) (off : Fin 2 → ℕ) (h : off = ![512 * j, 0])
    (w : (⟨2, ![512, n]⟩ : Shape).Idx → α) : blk (VecWindow.put (s := ⟨2, ![N, n]⟩) X off ![512, n] w) k = if k = j then w else blk X k := by
  subst h; funext y
  have h0 := lt0 y; have h1 := lt1 y
  have hm : (512 * k + (y 0).val) % N = 512 * k + (y 0).val := Nat.mod_eq_of_lt (by omega)
  unfold blk VecWindow.put
  split_ifs with hc hkj hkj
  · subst hkj
    refine congrArg w (funext fun a => Fin.ext ?_)
    match a with
    | 0 => show (512 * k + (y 0).val) % N - 512 * k = (y 0).val; omega
    | 1 => show (y 1).val - 0 = (y 1).val; omega
  · have := hc 0
    have e : 512 * j ≤ (512 * k + (y 0).val) % N ∧ (512 * k + (y 0).val) % N < 512 * j + 512 := this
    omega
  · refine absurd (fun a => ?_) hc
    match a with
    | 0 => show 512 * j ≤ (512 * k + (y 0).val) % N ∧ (512 * k + (y 0).val) % N < 512 * j + 512; omega
    | 1 => show 0 ≤ (y 1).val ∧ (y 1).val < 0 + n; omega
  · rfl

/-- The same of a block of columns. -/
theorem cblk_put (X : (⟨2, ![1, N]⟩ : Shape).Idx → α) (j k : ℕ) (hk : 512 * k + 512 ≤ N) (off : Fin 2 → ℕ) (h : off = ![0, 512 * j])
    (w : (⟨2, ![1, 512]⟩ : Shape).Idx → α) : cblk (VecWindow.put (s := ⟨2, ![1, N]⟩) X off ![1, 512] w) k = if k = j then w else cblk X k := by
  subst h; funext y
  have h0 := lt0 y; have h1 := lt1 y
  have hm : (512 * k + (y 1).val) % N = 512 * k + (y 1).val := Nat.mod_eq_of_lt (by omega)
  unfold cblk VecWindow.put
  split_ifs with hc hkj hkj
  · subst hkj
    refine congrArg w (funext fun a => Fin.ext ?_)
    match a with
    | 0 => show (y 0).val - 0 = (y 0).val; omega
    | 1 => show (512 * k + (y 1).val) % N - 512 * k = (y 1).val; omega
  · have := hc 1
    have e : 512 * j ≤ (512 * k + (y 1).val) % N ∧ (512 * k + (y 1).val) % N < 512 * j + 512 := this
    omega
  · refine absurd (fun a => ?_) hc
    match a with
    | 0 => show 0 ≤ (y 0).val ∧ (y 0).val < 0 + 1; omega
    | 1 => show 512 * j ≤ (512 * k + (y 1).val) % N ∧ (512 * k + (y 1).val) % N < 512 * j + 512; omega
  · rfl

/-- A load of 512 whole rows reads a block. -/
theorem window_blk (X : (⟨2, ![N, n]⟩ : Shape).Idx → α) (j : ℕ) (hk : 512 * j + 512 ≤ N) (off : Fin 2 → ℕ) (h : off = ![512 * j, 0])
    (inb : ∀ a, off a + (![512, n] : Fin 2 → ℕ) a ≤ (⟨2, ![N, n]⟩ : Shape).size a) :
    VecWindow.window (s := ⟨2, ![N, n]⟩) X off ![512, n] inb = blk X j := by
  subst h; funext y
  have h0 : (y 0).val < 512 := (y 0).isLt
  refine congrArg X (funext fun a => Fin.ext ?_)
  match a with
  | 0 => show 512 * j + 1 * (y 0).val = (512 * j + (y 0).val) % N; rw [Nat.mod_eq_of_lt (by omega)]; omega
  | 1 => show 0 + 1 * (y 1).val = (y 1).val; omega

/-- An array whose eight blocks are known is known. -/
theorem eq_rows (X : (⟨2, ![4096, n]⟩ : Shape).Idx → α) (B : ℕ → (⟨2, ![512, n]⟩ : Shape).Idx → α) (h : ∀ j, j < 8 → blk X j = B j) : X = rows B := by
  funext y
  have h0 := lt0 y
  unfold rows
  rw [← h _ (by omega)]
  refine congrArg X (funext fun a => Fin.ext ?_)
  match a with
  | 0 => show (y 0).val = (512 * ((y 0).val / 512) + (y 0).val % 512) % 4096; omega
  | 1 => rfl

/-- A row whose blocks are known is known. -/
theorem eq_cols (X : (⟨2, ![1, N]⟩ : Shape).Idx → α) (B : ℕ → (⟨2, ![1, 512]⟩ : Shape).Idx → α) (h : ∀ j, 512 * j < N → cblk X j = B j) : X = cols N B := by
  funext y
  have h1 := lt1 y
  unfold cols
  rw [← h _ (by omega)]
  refine congrArg X (funext fun a => Fin.ext ?_)
  match a with
  | 0 => rfl
  | 1 => show (y 1).val = (512 * ((y 1).val / 512) + (y 1).val % 512) % N; rw [show 512 * ((y 1).val / 512) + (y 1).val % 512 = (y 1).val by omega, Nat.mod_eq_of_lt h1]

theorem blk_rows (B : ℕ → (⟨2, ![512, n]⟩ : Shape).Idx → α) (j : ℕ) (h : j < 8) : blk (rows B) j = B j := by
  funext y
  have h0 := lt0 y
  have e : (512 * j + (y 0).val) % 4096 / 512 = j := by omega
  have e' : (512 * j + (y 0).val) % 4096 % 512 = (y 0).val := by omega
  show B ((512 * j + (y 0).val) % 4096 / 512) _ = _
  rw [e]
  refine congrArg (B j) (funext fun a => Fin.ext ?_)
  match a with
  | 0 => exact e'
  | 1 => rfl
end Blocks

variable {F : FTy → Type} [FloatOps F]

/-- The kernel's operands, as whole arrays. -/
structure Arr (F : FTy → Type) [FloatOps F] where
  s1 : Vec F S4096x256 .f32
  s2 : Vec F S4096x256 .f32
  adj : Vec F S4096x4096 .f32
  raw : Vec F S4096x4096 .f32
  W1 : Vec F S256x64 .f32
  b1 : Vec F S1x64 .f32
  a1 : Vec F S1x1 .f32
  W2 : Vec F S64x64 .f32
  b2 : Vec F S1x64 .f32
  a2 : Vec F S1x1 .f32
  Wb : Vec F S64x64 .f32
  bb : Vec F S1x1 .f32
  Wf : Vec F S64x1 .f32
  np : Vec F S1x64 .f32
  Wnp : Vec F S64x64 .f32
  ap : Vec F S1x64 .f32
  Wap : Vec F S64x64 .f32

namespace Arr
variable (A : Arr F)

/-- A block of the two feature products, side by side. -/
def FTB (j : ℕ) : Vec F S512x128 .f32 := k0_pay1 (blk A.s1 j) A.W1 (blk A.s2 j) A.W1
def FT : Vec F S4096x128 .f32 := rows A.FTB
/-- A block of the first layer on the first features. -/
def H1B (j : ℕ) : Vec F S512x64 .f32 := k0_pay15 A.b1 A.b1 (blk A.adj j) A.FT A.a1
/-- A block of the first layer's two products with the second weights. -/
def XB (j : ℕ) : Vec F S512x128 .f32 := k0_pay4 (k0_pay16 A.b1 A.b1 (blk A.adj j) A.FT A.a1 A.W2 A.W2)
def X : Vec F S4096x128 .f32 := rows A.XB
/-- The first layer's column sums over the first `k` blocks. -/
def HS : ℕ → Vec F S1x64 .f32
  | 0 => k0_pay5
  | k + 1 => k0_pay6 (k0_pay14 A.b1 A.b1 (blk A.adj k) A.FT A.a1) (HS k)
/-- The discriminator's vector. -/
def V : Vec F S64x1 .f32 := k0_pay7 (A.HS 8) A.Wb
/-- A kept block of the adjacency matrix. -/
def kept (r : ℕ) : Vec F S512x4096 .f32 := k0_pay13 (blk A.adj r)
/-- A block of the embedding. -/
def EMBB (r : ℕ) : Vec F S512x64 .f32 :=
  if r < 6 then k0_pay19 (k0_pay17 (blk A.adj r)) A.b2 A.b2 A.X A.a2 else k0_pay22 (A.kept r) A.b2 A.b2 A.X A.a2
/-- A block of the embedding beside ones. -/
def FT2B (r : ℕ) : Vec F S512x128 .f32 :=
  if r < 6 then k0_pay20 (k0_pay17 (blk A.adj r)) A.b2 A.b2 A.X A.a2 else k0_pay23 (A.kept r) A.b2 A.b2 A.X A.a2
def FT2 : Vec F S4096x128 .f32 := rows A.FT2B
/-- A block of the scores: blocks 0 to 7 of the first features, 8 to 15 of the second. -/
def RETB (b : ℕ) : Vec F S1x512 .f32 :=
  if b < 8 then (if b < 6 then k0_pay9 A.V A.bb (A.H1B b) else k0_pay25 A.V A.bb (A.H1B b))
  else if b - 8 < 6 then k0_pay10 (k0_pay18 (k0_pay17 (blk A.adj (b - 8))) A.b2 A.b2 A.X A.a2) A.V A.bb
    else k0_pay26 (A.kept (b - 8)) A.b2 A.b2 A.X A.a2 A.V A.bb
/-- The square of the raw matrix on the diagonal at block `j`, and the embedding's rows there. -/
def sq (j : ℕ) : Vec F S512x512 .f32 :=
  fun y => blk A.raw j (ix2 (y 0) (⟨(512 * j + (y 1).val) % 4096, Nat.mod_lt _ (by decide)⟩ : Fin 4096))
def own (j : ℕ) : Vec F S512x64 .f32 :=
  fun y => blk A.FT2 j (ix2 (y 0) (⟨(y 1).val, lt_trans (lt1 y) (by decide)⟩ : Fin 128))
/-- A block of the residual embedding, and of its logits. -/
def RESB (j : ℕ) : Vec F S512x64 .f32 := k0_pay11 (blk A.raw j) A.FT2 (A.sq j) (A.own j)
def LOGB (j : ℕ) : Vec F S1x512 .f32 := k0_pay12 (blk A.raw j) A.FT2 (A.sq j) (A.own j) A.Wf
def NPO : Vec F S1x64 .f32 := k0_pay2 A.np A.Wnp
def APO : Vec F S1x64 .f32 := k0_pay3 A.ap A.Wap

/-- The input windows' buffers hold, at a point, the blocks that the phase reads. -/
structure InAt (t : ℕ) (I : In F) : Prop where
  s1 : t < 8 → I.s1 = blk A.s1 (t % 8)
  s2 : t < 8 → I.s2 = blk A.s2 (t % 8)
  adj1 : 8 ≤ t → t < 16 → I.adj = blk A.adj (t % 8)
  adj2 : 16 ≤ t → t < 24 → rb t < 6 → I.adj = blk A.adj (rb t)
  raw : 24 ≤ t → I.raw = blk A.raw (t % 8)
  W1 : I.W1 = A.W1
  b1 : I.b1 = A.b1
  a1 : I.a1 = A.a1
  W2 : I.W2 = A.W2
  b2 : I.b2 = A.b2
  a2 : I.a2 = A.a2
  Wb : I.Wb = A.Wb
  bb : I.bb = A.bb
  Wf : I.Wf = A.Wf
  np : I.np = A.np
  Wnp : I.Wnp = A.Wnp
  ap : I.ap = A.ap
  Wap : I.Wap = A.Wap

/-- How much of the scratch is in place before point `t`. -/
structure Inv (t : ℕ) (stash : Vec F S1024x4096 .f32) (ft : Vec F S4096x128 .f32) (h1 : Vec F S4096x64 .f32) (x : Vec F S4096x128 .f32)
    (hsum : Vec F S1x64 .f32) (v : Vec F S64x1 .f32) : Prop where
  ft1 : t ≤ 16 → ∀ j, j < 8 → j < t → blk ft j = A.FTB j
  h1 : ∀ j, j < 8 → 8 + j < t → blk h1 j = A.H1B j
  x : ∀ j, j < 8 → 8 + j < t → blk x j = A.XB j
  hs : 8 < t → t ≤ 16 → hsum = A.HS (t - 8)
  v : 16 < t → v = A.V
  stash : ∀ j, j < 2 → 14 + j < t → blk stash j = A.kept (6 + j)
  ft2 : ∀ j, j < 8 → 16 + ord j < t → blk ft j = A.FT2B j

/-! What stands in each output's buffer after point `t`. -/

def OEmb (t : ℕ) (X : Vec F S512x64 .f32) : Prop := 16 ≤ t → X = A.EMBB (if t < 24 then rb t else 5)
def ORes (t : ℕ) (X : Vec F S512x64 .f32) : Prop := 24 ≤ t → X = A.RESB (t % 8)
def ORet (t : ℕ) (X : Vec F S1x8192 .f32) : Prop := ∀ b, b < 16 → 16 + ord (b % 8) ≤ t → cblk X b = A.RETB b
def OLog (t : ℕ) (X : Vec F S1x4096 .f32) : Prop := ∀ b, b < 8 → 24 + b ≤ t → cblk X b = A.LOGB b
def ONp (X : Vec F S1x64 .f32) : Prop := X = A.NPO
def OAp (X : Vec F S1x64 .f32) : Prop := X = A.APO

/-- What the body may rely on before point `t`. -/
structure Pre (t : ℕ) (S : St F) : Prop where
  inv : A.Inv t S.stash S.ft S.h1 S.x S.hsum S.v
  emb : 24 ≤ t → S.emb = A.EMBB 5
  ret : 0 < t → A.ORet (t - 1) S.ret
  logit : 0 < t → A.OLog (t - 1) S.logit
  npo : 0 < t → A.ONp S.npo
  apo : 0 < t → A.OAp S.apo

/-- What the body leaves after point `t`. -/
structure Post (t : ℕ) (S : St F) : Prop where
  inv : A.Inv (t + 1) S.stash S.ft S.h1 S.x S.hsum S.v
  emb : A.OEmb t S.emb
  resid : A.ORes t S.resid
  ret : A.ORet t S.ret
  logit : A.OLog t S.logit
  npo : A.ONp S.npo
  apo : A.OAp S.apo

end Arr

end Cert.KernelIdeal.Hand
-- ==== Proof.Sound.lean ====
/-
  One grid point keeps the account of `Data`: from what the body may rely on before the point (`Arr.Pre`), each of the
  kinds of point of `Step` leaves what is stated after it (`Arr.Post`).
-/
module

public import proofs.«01_k».proof.Proof.Data

@[expose] public section

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

namespace Arr
variable (A : Arr F)

/-- A point of the first phase stores its block of the feature products. -/
theorem post0 (t : ℕ) (ht : t < 8) (S : St F) (hS : A.Pre t S) (off : Fin 2 → ℕ) (hoff : off = ![512 * (t % 8), 0]) (w : Vec F S512x128 .f32)
    (hw : w = A.FTB (t % 8)) (n a : Vec F S1x64 .f32) (hn : A.ONp n) (ha : A.OAp a) :
    A.Post t { S with ft := VecWindow.put S.ft off S512x128.size w, npo := n, apo := a } where
  inv := {
    ft1 := fun _ j hj hjt => by
      show blk (VecWindow.put S.ft off S512x128.size w) j = _
      rw [blk_put S.ft (t % 8) j (by omega) off hoff w]
      split_ifs with h
      · rw [hw, h]
      · exact hS.inv.ft1 (by omega) j hj (by omega)
    h1 := fun j hj h => by omega
    x := fun j hj h => by omega
    hs := fun h => by omega
    v := fun h => by omega
    stash := fun j hj h => by omega
    ft2 := fun j hj h => by omega }
  emb := fun h => by omega
  resid := fun h => by omega
  ret := fun b hb h => by omega
  logit := fun b hb h => by omega
  npo := hn
  apo := ha

/-- A point of the second phase stores its blocks of the first layer and of its products, and goes on with the sum. -/
theorem post1 (t : ℕ) (ht : 8 ≤ t) (ht' : t < 16) (S : St F) (hS : A.Pre t S) (off off' : Fin 2 → ℕ) (hoff : off = ![512 * (t % 8), 0])
    (hoff' : off' = ![512 * (t % 8), 0]) (w : Vec F S512x64 .f32) (hw : w = A.H1B (t % 8)) (w' : Vec F S512x128 .f32) (hw' : w' = A.XB (t % 8))
    (s : Vec F S1x64 .f32) (hs : s = A.HS (t % 8 + 1)) (k : Vec F S1024x4096 .f32) (hk : ∀ j, j < 2 → 14 + j < t + 1 → blk k j = A.kept (6 + j)) :
    A.Post t { S with h1 := VecWindow.put S.h1 off S512x64.size w, x := VecWindow.put S.x off' S512x128.size w', hsum := s, stash := k } where
  inv := {
    ft1 := fun h j hj hjt => hS.inv.ft1 (by omega) j hj (by omega)
    h1 := fun j hj h => by
      show blk (VecWindow.put S.h1 off S512x64.size w) j = _
      rw [blk_put S.h1 (t % 8) j (by omega) off hoff w]
      split_ifs with h
      · rw [hw, h]
      · exact hS.inv.h1 j hj (by omega)
    x := fun j hj h => by
      show blk (VecWindow.put S.x off' S512x128.size w') j = _
      rw [blk_put S.x (t % 8) j (by omega) off' hoff' w']
      split_ifs with h
      · rw [hw', h]
      · exact hS.inv.x j hj (by omega)
    hs := fun h _ => hs.trans (congrArg A.HS (by omega))
    v := fun h => by omega
    stash := hk
    ft2 := fun j hj h => by omega }
  emb := fun h => by omega
  resid := fun h => by omega
  ret := fun b hb h => by omega
  logit := fun b hb h => by omega
  npo := hS.npo (by omega)
  apo := hS.apo (by omega)

/-- A point of the third phase stores its block of the embedding, its copy beside ones and its two blocks of scores. -/
theorem post2 (t : ℕ) (ht : 16 ≤ t) (ht' : t < 24) (S : St F) (hS : A.Pre t S) (off off' off'' : Fin 2 → ℕ) (hoff : off = ![512 * rb t, 0])
    (hoff' : off' = ![0, 512 * rb t]) (hoff'' : off'' = ![0, 512 * (8 + rb t)]) (v : Vec F S64x1 .f32) (hv : v = A.V)
    (e : Vec F S512x64 .f32) (he : e = A.EMBB (rb t)) (w : Vec F S512x128 .f32) (hw : w = A.FT2B (rb t))
    (r r' : Vec F S1x512 .f32) (hr : r = A.RETB (rb t)) (hr' : r' = A.RETB (8 + rb t)) :
    A.Post t { S with v := v, emb := e, ft := VecWindow.put S.ft off S512x128.size w, ret := VecWindow.put (VecWindow.put S.ret off' S1x512.size r) off'' S1x512.size r' } := by
  have hrb := rb_lt t
  have hord : ord (rb t) = t % 8 := ord_rb ⟨t, by omega⟩
  have hinv : ∀ j, j < 8 → ord j = t % 8 → j = rb t := fun j hj h => rb_ord ⟨j, hj⟩ ⟨t, by omega⟩ h
  refine ⟨⟨fun h => by omega, ?_, ?_, fun h => by omega, fun _ => hv, ?_, ?_⟩, fun _ => ?_, fun h => by omega, ?_, fun b hb h => by omega, hS.npo (by omega), hS.apo (by omega)⟩
  · exact fun j hj h => hS.inv.h1 j hj (by omega)
  · exact fun j hj h => hS.inv.x j hj (by omega)
  · exact fun j hj h => hS.inv.stash j hj (by omega)
  · intro j hj h
    show blk (VecWindow.put S.ft off S512x128.size w) j = _
    rw [blk_put S.ft (rb t) j (by omega) off hoff w]
    split_ifs with hjr
    · rw [hw, hjr]
    · exact hS.inv.ft2 j hj (by
        have : ord j ≠ t % 8 := fun h => hjr (hinv j hj h)
        omega)
  · rw [if_pos ht']; exact he
  · intro b hb h
    show cblk (VecWindow.put (VecWindow.put S.ret off' S1x512.size r) off'' S1x512.size r') b = _
    rw [cblk_put _ (8 + rb t) b (by omega) off'' hoff'' r', cblk_put S.ret (rb t) b (by omega) off' hoff' r]
    split_ifs with h1 h2
    · rw [hr', h1]
    · rw [hr, h2]
    · refine hS.ret (by omega) b hb ?_
      have : ord (b % 8) ≠ t % 8 := fun h => by
        have := hinv (b % 8) (by omega) h
        omega
      omega

/-- A point of the fourth phase stores its block of the residual embedding and of its logits. -/
theorem post3 (t : ℕ) (ht : 24 ≤ t) (ht' : t < 32) (S : St F) (hS : A.Pre t S) (off : Fin 2 → ℕ) (hoff : off = ![0, 512 * (t % 8)])
    (e : Vec F S512x64 .f32) (he : e = A.RESB (t % 8)) (r : Vec F S1x512 .f32) (hr : r = A.LOGB (t % 8)) :
    A.Post t { S with resid := e, logit := VecWindow.put S.logit off S1x512.size r } := by
  have hol : ∀ j, j < 8 → ord j < 8 := fun j hj => ord_lt ⟨j, hj⟩
  refine ⟨⟨fun h => by omega, ?_, ?_, fun h h' => by omega, fun _ => hS.inv.v (by omega), ?_, ?_⟩, fun _ => ?_, fun h => he, ?_, ?_, hS.npo (by omega), hS.apo (by omega)⟩
  · exact fun j hj h => hS.inv.h1 j hj (by omega)
  · exact fun j hj h => hS.inv.x j hj (by omega)
  · exact fun j hj h => hS.inv.stash j hj (by omega)
  · exact fun j hj h => hS.inv.ft2 j hj (by have := hol j hj; omega)
  · rw [if_neg (by omega)]; exact hS.emb ht
  · exact fun b hb h => hS.ret (by omega) b hb (by have := hol (b % 8) (by omega); omega)
  · intro b hb h
    show cblk (VecWindow.put S.logit off S1x512.size r) b = _
    rw [cblk_put S.logit (t % 8) b (by omega) off hoff r]
    split_ifs with h1
    · rw [hr, h1]
    · exact hS.logit (by omega) b hb (by omega)

/-- What the second phase reads of the features. -/
theorem Pre.ft_eq {t : ℕ} {S : St F} (hS : A.Pre t S) (ht : 8 ≤ t) (ht' : t < 16) : S.ft = A.FT :=
  eq_rows S.ft A.FTB fun j hj => hS.inv.ft1 (by omega) j hj (by omega)
/-- What the third phase reads of the products. -/
theorem Pre.x_eq {t : ℕ} {S : St F} (hS : A.Pre t S) (ht : 16 ≤ t) : S.x = A.X :=
  eq_rows S.x A.XB fun j hj => hS.inv.x j hj (by omega)
/-- What the fourth phase reads of the embedding. -/
theorem Pre.ft2_eq {t : ℕ} {S : St F} (hS : A.Pre t S) (ht : 24 ≤ t) : S.ft = A.FT2 :=
  eq_rows S.ft A.FT2B fun j hj => hS.inv.ft2 j hj (by have : ord j < 8 := ord_lt ⟨j, hj⟩; omega)

/-- A load of the square on the diagonal. -/
theorem window_sq (t : ℕ) (off : Fin 2 → ℕ) (hoff : off = ![0, 512 * (t % 8)]) (inb : ∀ a, off a + S512x512.size a ≤ S512x4096.size a) :
    VecWindow.window (s := S512x4096) (blk A.raw (t % 8)) off S512x512.size inb = A.sq (t % 8) := by
  subst hoff; funext y
  have h1 : (y 1).val < 512 := (y 1).isLt
  refine congrArg (blk A.raw (t % 8)) (funext fun a => Fin.ext ?_)
  match a with
  | 0 => show 0 + 1 * (y 0).val = (y 0).val; omega
  | 1 => show 512 * (t % 8) + 1 * (y 1).val = (512 * (t % 8) + (y 1).val) % 4096; omega

/-- A load of the embedding's rows at the diagonal. -/
theorem window_own (t : ℕ) (off : Fin 2 → ℕ) (hoff : off = ![512 * (t % 8), 0]) (inb : ∀ a, off a + S512x64.size a ≤ S4096x128.size a) :
    VecWindow.window (s := S4096x128) A.FT2 off S512x64.size inb = A.own (t % 8) := by
  subst hoff; funext y
  have h0 : (y 0).val < 512 := (y 0).isLt
  refine congrArg A.FT2 (funext fun a => Fin.ext ?_)
  match a with
  | 0 => show 512 * (t % 8) + 1 * (y 0).val = (512 * (t % 8) + (y 0).val) % 4096; omega
  | 1 => show 0 + 1 * (y 1).val = (y 1).val; omega

end Arr

section Args
variable (arg2 : Memref sig .tc .vmem S512x256 .f32) (harg2 : arg2.IsWhole)
  (arg3 : Memref sig .tc .vmem S512x256 .f32) (harg3 : arg3.IsWhole)
  (arg4 : Memref sig .tc .vmem S512x4096 .f32) (harg4 : arg4.IsWhole)
  (arg5 : Memref sig .tc .vmem S512x4096 .f32) (harg5 : arg5.IsWhole)
  (arg6 : Memref sig .tc .vmem S256x64 .f32) (harg6 : arg6.IsWhole)
  (arg7 : Memref sig .tc .vmem S1x64 .f32) (harg7 : arg7.IsWhole)
  (arg8 : Memref sig .tc .vmem S1x1 .f32) (harg8 : arg8.IsWhole)
  (arg9 : Memref sig .tc .vmem S64x64 .f32) (harg9 : arg9.IsWhole)
  (arg10 : Memref sig .tc .vmem S1x64 .f32) (harg10 : arg10.IsWhole)
  (arg11 : Memref sig .tc .vmem S1x1 .f32) (harg11 : arg11.IsWhole)
  (arg12 : Memref sig .tc .vmem S64x64 .f32) (harg12 : arg12.IsWhole)
  (arg13 : Memref sig .tc .vmem S1x1 .f32) (harg13 : arg13.IsWhole)
  (arg14 : Memref sig .tc .vmem S64x1 .f32) (harg14 : arg14.IsWhole)
  (arg15 : Memref sig .tc .vmem S1x64 .f32) (harg15 : arg15.IsWhole)
  (arg16 : Memref sig .tc .vmem S64x64 .f32) (harg16 : arg16.IsWhole)
  (arg17 : Memref sig .tc .vmem S1x64 .f32) (harg17 : arg17.IsWhole)
  (arg18 : Memref sig .tc .vmem S64x64 .f32) (harg18 : arg18.IsWhole)
  (arg19 : Memref sig .tc .vmem S512x64 .f32) (harg19 : arg19.IsWhole)
  (arg20 : Memref sig .tc .vmem S512x64 .f32) (harg20 : arg20.IsWhole)
  (arg21 : Memref sig .tc .vmem S1x8192 .f32) (harg21 : arg21.IsWhole)
  (arg22 : Memref sig .tc .vmem S1x4096 .f32) (harg22 : arg22.IsWhole)
  (arg23 : Memref sig .tc .vmem S1x64 .f32) (harg23 : arg23.IsWhole)
  (arg24 : Memref sig .tc .vmem S1x64 .f32) (harg24 : arg24.IsWhole)
  (arg25 : Memref sig .tc .vmem S1024x4096 .f32) (harg25 : arg25.IsWhole)
  (arg26 : Memref sig .tc .vmem S4096x128 .f32) (harg26 : arg26.IsWhole)
  (arg27 : Memref sig .tc .vmem S4096x64 .f32) (harg27 : arg27.IsWhole)
  (arg28 : Memref sig .tc .vmem S4096x128 .f32) (harg28 : arg28.IsWhole)
  (arg29 : Memref sig .tc .vmem S1x64 .f32) (harg29 : arg29.IsWhole)
  (arg30 : Memref sig .tc .vmem S64x1 .f32) (harg30 : arg30.IsWhole)

set_option maxHeartbeats 1000000

/-- A point of the first phase. -/
theorem point_first (A : Arr F) (c : Dev nD) (t : Fin grid0.N) (h8 : t.val < 8) (I : In F) (hI : A.InAt t.val I) (S : St F) (hS : A.Pre t.val S) (K : PUnit → sProp 𝕄) :
    ∃ S' : St F, A.Post t.val S' ∧
      (iprop(HeldIn arg2 arg3 arg4 arg5 arg6 arg7 arg8 arg9 arg10 arg11 arg12 arg13 arg14 arg15 arg16 arg17 arg18 c I ∗ HeldSt arg19 arg20 arg21 arg22 arg23 arg24 arg25 arg26 arg27 arg28 arg29 arg30 c S
          ∗ (iprop(HeldIn arg2 arg3 arg4 arg5 arg6 arg7 arg8 arg9 arg10 arg11 arg12 arg13 arg14 arg15 arg16 arg17 arg18 c I ∗ HeldSt arg19 arg20 arg21 arg22 arg23 arg24 arg25 arg26 arg27 arg28 arg29 arg30 c S') -∗ K ⟨⟩))
        ⊢ wp frame (wpE (defs₀ (F := F)) Variants.none c none) Set.univ (bodyOf arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 (grid0.coords t)) K) := by
  have hN : t.val < 32 := N_0 ▸ t.isLt
  have c1 := cond1_iff t; have c2 := cond2_iff t; have c3 := cond3_iff t; have c4 := cond4_iff t; have c6 := cond6_iff t
  have c8 := cond8_iff t; have c9 := cond9_iff t; have c10 := cond10_iff t; have cj := first_iff t
  have n3 : ¬ k0_cond3 (grid0.coords t) = 1#1 := fun h => by have := c3.1 h; omega
  have n6 : ¬ k0_cond6 (grid0.coords t) = 1#1 := fun h => by have := c6.1 h; omega
  have n10 : ¬ k0_cond10 (grid0.coords t) = 1#1 := fun h => by have := c10.1 h; omega
  have hw : k0_pay1 I.s1 I.W1 I.s2 I.W1 = A.FTB (t.val % 8) := by unfold Arr.FTB; rw [hI.s1 h8, hI.s2 h8, hI.W1]
  by_cases hz : t.val % 8 = 0
  · exact ⟨_, A.post0 t.val h8 S hS _ (off1_eq t) _ hw _ _ (by unfold Arr.ONp Arr.NPO; rw [hI.np, hI.Wnp]) (by unfold Arr.OAp Arr.APO; rw [hI.ap, hI.Wap]),
      run_A arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 c _ I S K (c1.2 h8) (c2.2 hz) n3 n6 n10⟩
  · exact ⟨_, A.post0 t.val h8 S hS _ (off1_eq t) _ hw _ _ (hS.npo (by omega)) (hS.apo (by omega)),
      run_B arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 c _ I S K (c1.2 h8) (fun h => hz (c2.1 h)) n3 n6 n10⟩

/-- A point of the second phase. -/
theorem point_second (A : Arr F) (c : Dev nD) (t : Fin grid0.N) (h8 : 8 ≤ t.val) (h16 : t.val < 16) (I : In F) (hI : A.InAt t.val I) (S : St F) (hS : A.Pre t.val S) (K : PUnit → sProp 𝕄) :
    ∃ S' : St F, A.Post t.val S' ∧
      (iprop(HeldIn arg2 arg3 arg4 arg5 arg6 arg7 arg8 arg9 arg10 arg11 arg12 arg13 arg14 arg15 arg16 arg17 arg18 c I ∗ HeldSt arg19 arg20 arg21 arg22 arg23 arg24 arg25 arg26 arg27 arg28 arg29 arg30 c S
          ∗ (iprop(HeldIn arg2 arg3 arg4 arg5 arg6 arg7 arg8 arg9 arg10 arg11 arg12 arg13 arg14 arg15 arg16 arg17 arg18 c I ∗ HeldSt arg19 arg20 arg21 arg22 arg23 arg24 arg25 arg26 arg27 arg28 arg29 arg30 c S') -∗ K ⟨⟩))
        ⊢ wp frame (wpE (defs₀ (F := F)) Variants.none c none) Set.univ (bodyOf arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 (grid0.coords t)) K) := by
  have hN : t.val < 32 := N_0 ▸ t.isLt
  have c1 := cond1_iff t; have c2 := cond2_iff t; have c3 := cond3_iff t; have c4 := cond4_iff t; have c6 := cond6_iff t
  have c8 := cond8_iff t; have c9 := cond9_iff t; have c10 := cond10_iff t; have cj := first_iff t
  have n1 : ¬ k0_cond1 (grid0.coords t) = 1#1 := fun h => by have := c1.1 h; omega
  have p3 := c3.2 ⟨h8, h16⟩
  have n6 : ¬ k0_cond6 (grid0.coords t) = 1#1 := fun h => by have := c6.1 h; omega
  have n10 : ¬ k0_cond10 (grid0.coords t) = 1#1 := fun h => by have := c10.1 h; omega
  have hft := hS.ft_eq A h8 h16
  have hw : k0_pay15 I.b1 I.b1 I.adj S.ft I.a1 = A.H1B (t.val % 8) := by unfold Arr.H1B; rw [hI.b1, hI.adj1 h8 h16, hft, hI.a1]
  have hw' : k0_pay4 (k0_pay16 I.b1 I.b1 I.adj S.ft I.a1 I.W2 I.W2) = A.XB (t.val % 8) := by unfold Arr.XB; rw [hI.b1, hI.adj1 h8 h16, hft, hI.a1, hI.W2]
  have hs : ∀ s, s = A.HS (t.val % 8) → k0_pay6 (k0_pay14 I.b1 I.b1 I.adj S.ft I.a1) s = A.HS (t.val % 8 + 1) := fun s h => by
    rw [h, Arr.HS, hI.b1, hI.adj1 h8 h16, hft, hI.a1]
  have hk : t.val % 8 < 6 → ∀ j, j < 2 → 14 + j < t.val + 1 → blk S.stash j = A.kept (6 + j) := fun h j hj hjt => by omega
  have hpr : t.val % 8 ≠ 0 → S.hsum = A.HS (t.val % 8) := fun h => (hS.inv.hs (by omega) (by omega)).trans (congrArg A.HS (by omega))
  by_cases hz : t.val % 8 = 0
  · exact ⟨_, A.post1 t.val h8 h16 S hS _ _ (off3_eq t) (off4_eq t) _ hw _ hw' _ (hs _ (by rw [hz]; rfl)) _ (hk (by omega)),
      run_C0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 c _ I S K n1 p3 (fun h => by have := c4.1 h; omega) n6 n10 (cj.2 hz)⟩
  rcases lt_or_ge (t.val % 8) 6 with hl | hl
  · exact ⟨_, A.post1 t.val h8 h16 S hS _ _ (off3_eq t) (off4_eq t) _ hw _ hw' _ (hs _ (hpr hz)) _ (hk hl),
      run_C1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 c _ I S K n1 p3 (fun h => by have := c4.1 h; omega) n6 n10 (fun h => hz (cj.1 h))⟩
  · refine ⟨_, A.post1 t.val h8 h16 S hS _ _ (off3_eq t) (off4_eq t) _ hw _ hw' _ (hs _ (hpr hz)) _ ?_,
      run_C2 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 c _ I S K n1 p3 (c4.2 hl) n6 n10 (fun h => hz (cj.1 h))⟩
    intro j hj hjt
    rw [blk_put S.stash (t.val % 8 - 6) j (by omega) _ (off2_eq t hl) _]
    split_ifs with h
    · unfold Arr.kept; rw [hI.adj1 h8 h16, show 6 + j = t.val % 8 by omega]
    · exact hS.inv.stash j hj (by omega)

/-- A point of the third phase whose row block is read from its operand. -/
theorem point_third_fresh (A : Arr F) (c : Dev nD) (t : Fin grid0.N) (h16 : 16 ≤ t.val) (h24 : t.val < 24) (hl : rb t.val < 6) (I : In F) (hI : A.InAt t.val I) (S : St F) (hS : A.Pre t.val S) (K : PUnit → sProp 𝕄) :
    ∃ S' : St F, A.Post t.val S' ∧
      (iprop(HeldIn arg2 arg3 arg4 arg5 arg6 arg7 arg8 arg9 arg10 arg11 arg12 arg13 arg14 arg15 arg16 arg17 arg18 c I ∗ HeldSt arg19 arg20 arg21 arg22 arg23 arg24 arg25 arg26 arg27 arg28 arg29 arg30 c S
          ∗ (iprop(HeldIn arg2 arg3 arg4 arg5 arg6 arg7 arg8 arg9 arg10 arg11 arg12 arg13 arg14 arg15 arg16 arg17 arg18 c I ∗ HeldSt arg19 arg20 arg21 arg22 arg23 arg24 arg25 arg26 arg27 arg28 arg29 arg30 c S') -∗ K ⟨⟩))
        ⊢ wp frame (wpE (defs₀ (F := F)) Variants.none c none) Set.univ (bodyOf arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 (grid0.coords t)) K) := by
  have hN : t.val < 32 := N_0 ▸ t.isLt
  have c1 := cond1_iff t; have c2 := cond2_iff t; have c3 := cond3_iff t; have c4 := cond4_iff t; have c6 := cond6_iff t
  have c8 := cond8_iff t; have c9 := cond9_iff t; have c10 := cond10_iff t; have cj := first_iff t
  have h8 : 8 ≤ t.val := by omega
  have n1 : ¬ k0_cond1 (grid0.coords t) = 1#1 := fun h => by have := c1.1 h; omega
  have n3 : ¬ k0_cond3 (grid0.coords t) = 1#1 := fun h => by have := c3.1 h; omega
  have p6 := c6.2 ⟨h16, h24⟩
  have n10 : ¬ k0_cond10 (grid0.coords t) = 1#1 := fun h => by have := c10.1 h; omega
  have hx := hS.x_eq A h16
  have hrb := rb_lt t.val
  have hh1 := hS.inv.h1 (rb t.val) hrb (by omega)
  have p8 := c8.2 hl
  have n9 : ¬ k0_cond9 (grid0.coords t) = 1#1 := fun h => by have := c9.1 h; omega
  have hadj := hI.adj2 h16 h24 hl
  have he : k0_pay19 (k0_pay17 I.adj) I.b2 I.b2 S.x I.a2 = A.EMBB (rb t.val) := by unfold Arr.EMBB; rw [if_pos hl, hadj, hI.b2, hx, hI.a2]
  have hw : k0_pay20 (k0_pay17 I.adj) I.b2 I.b2 S.x I.a2 = A.FT2B (rb t.val) := by unfold Arr.FT2B; rw [if_pos hl, hadj, hI.b2, hx, hI.a2]
  have hr : ∀ v, v = A.V → k0_pay9 v I.bb (VecWindow.window S.h1 (k0_off6 (grid0.coords t)) S512x64.size (k0_off6_inb (grid0.coords t) p6 p8)) = A.RETB (rb t.val) := fun v hv => by
    rw [window_blk S.h1 (rb t.val) (by omega) _ (off6_eq t hl)]
    unfold Arr.RETB; rw [if_pos (by omega), if_pos hl, hh1, hv, hI.bb]
  have hr' : ∀ v, v = A.V → k0_pay10 (k0_pay18 (k0_pay17 I.adj) I.b2 I.b2 S.x I.a2) v I.bb = A.RETB (8 + rb t.val) := fun v hv => by
    unfold Arr.RETB; rw [if_neg (by omega), show 8 + rb t.val - 8 = rb t.val by omega, if_pos hl, hadj, hI.b2, hx, hI.a2, hv, hI.bb]
  by_cases hz : t.val % 8 = 0
  · have hv : k0_pay7 S.hsum I.Wb = A.V := by unfold Arr.V; rw [hS.inv.hs (by omega) (by omega), hI.Wb, show t.val - 8 = 8 by omega]
    exact ⟨_, A.post2 t.val h16 h24 S hS _ _ _ (off5_eq t hl) (off7_eq t hl) (off8_eq t hl) _ hv _ he _ hw _ _ (hr _ hv) (hr' _ hv),
      run_D0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 c _ I S K n1 n3 p6 p8 n9 n10 (cj.2 hz)⟩
  · have hv : S.v = A.V := hS.inv.v (by omega)
    exact ⟨_, A.post2 t.val h16 h24 S hS _ _ _ (off5_eq t hl) (off7_eq t hl) (off8_eq t hl) _ hv _ he _ hw _ _ (hr _ hv) (hr' _ hv),
      run_D arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 c _ I S K n1 n3 p6 p8 n9 n10 (fun h => hz (cj.1 h))⟩

/-- A point of the third phase whose row block was kept by the second phase. -/
theorem point_third_kept (A : Arr F) (c : Dev nD) (t : Fin grid0.N) (h16 : 16 ≤ t.val) (h24 : t.val < 24) (hl : 6 ≤ rb t.val) (I : In F) (hI : A.InAt t.val I) (S : St F) (hS : A.Pre t.val S) (K : PUnit → sProp 𝕄) :
    ∃ S' : St F, A.Post t.val S' ∧
      (iprop(HeldIn arg2 arg3 arg4 arg5 arg6 arg7 arg8 arg9 arg10 arg11 arg12 arg13 arg14 arg15 arg16 arg17 arg18 c I ∗ HeldSt arg19 arg20 arg21 arg22 arg23 arg24 arg25 arg26 arg27 arg28 arg29 arg30 c S
          ∗ (iprop(HeldIn arg2 arg3 arg4 arg5 arg6 arg7 arg8 arg9 arg10 arg11 arg12 arg13 arg14 arg15 arg16 arg17 arg18 c I ∗ HeldSt arg19 arg20 arg21 arg22 arg23 arg24 arg25 arg26 arg27 arg28 arg29 arg30 c S') -∗ K ⟨⟩))
        ⊢ wp frame (wpE (defs₀ (F := F)) Variants.none c none) Set.univ (bodyOf arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 (grid0.coords t)) K) := by
  have hN : t.val < 32 := N_0 ▸ t.isLt
  have c1 := cond1_iff t; have c2 := cond2_iff t; have c3 := cond3_iff t; have c4 := cond4_iff t; have c6 := cond6_iff t
  have c8 := cond8_iff t; have c9 := cond9_iff t; have c10 := cond10_iff t; have cj := first_iff t
  have h8 : 8 ≤ t.val := by omega
  have n1 : ¬ k0_cond1 (grid0.coords t) = 1#1 := fun h => by have := c1.1 h; omega
  have n3 : ¬ k0_cond3 (grid0.coords t) = 1#1 := fun h => by have := c3.1 h; omega
  have p6 := c6.2 ⟨h16, h24⟩
  have n10 : ¬ k0_cond10 (grid0.coords t) = 1#1 := fun h => by have := c10.1 h; omega
  have hx := hS.x_eq A h16
  have hrb := rb_lt t.val
  have hh1 := hS.inv.h1 (rb t.val) hrb (by omega)
  have p9 := c9.2 hl
  have n8 : ¬ k0_cond8 (grid0.coords t) = 1#1 := fun h => by have := c8.1 h; omega
  have hz : t.val % 8 ≠ 0 := fun h => by
    have : rb t.val = 0 := by unfold rb; rw [if_pos (by omega), if_pos (by omega)]; omega
    omega
  have hv : S.v = A.V := hS.inv.v (by omega)
  have hst : VecWindow.window S.stash (k0_off9 (grid0.coords t)) S512x4096.size (k0_off9_inb (grid0.coords t) p6 p9) = A.kept (rb t.val) := by
    rw [window_blk S.stash (rb t.val - 6) (by omega) _ (off9_eq t hl), hS.inv.stash (rb t.val - 6) (by omega) (by omega), show 6 + (rb t.val - 6) = rb t.val by omega]
  refine ⟨_, A.post2 t.val h16 h24 S hS _ _ _ (off10_eq t hl) (off12_eq t hl) (off13_eq t hl) _ hv _ ?_ _ ?_ _ _ ?_ ?_,
    run_E arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 c _ I S K n1 n3 p6 n8 p9 n10 (fun h => hz (cj.1 h))⟩
  · unfold Arr.EMBB; rw [if_neg (by omega), hst, hI.b2, hx, hI.a2]
  · unfold Arr.FT2B; rw [if_neg (by omega), hst, hI.b2, hx, hI.a2]
  · rw [window_blk S.h1 (rb t.val) (by omega) _ (off11_eq t hl)]
    unfold Arr.RETB; rw [if_pos (by omega), if_neg (by omega), hh1, hv, hI.bb]
  · unfold Arr.RETB; rw [if_neg (by omega), show 8 + rb t.val - 8 = rb t.val by omega, if_neg (by omega), hst, hI.b2, hx, hI.a2, hv, hI.bb]

/-- A point of the fourth phase. -/
theorem point_fourth (A : Arr F) (c : Dev nD) (t : Fin grid0.N) (h24 : 24 ≤ t.val) (I : In F) (hI : A.InAt t.val I) (S : St F) (hS : A.Pre t.val S) (K : PUnit → sProp 𝕄) :
    ∃ S' : St F, A.Post t.val S' ∧
      (iprop(HeldIn arg2 arg3 arg4 arg5 arg6 arg7 arg8 arg9 arg10 arg11 arg12 arg13 arg14 arg15 arg16 arg17 arg18 c I ∗ HeldSt arg19 arg20 arg21 arg22 arg23 arg24 arg25 arg26 arg27 arg28 arg29 arg30 c S
          ∗ (iprop(HeldIn arg2 arg3 arg4 arg5 arg6 arg7 arg8 arg9 arg10 arg11 arg12 arg13 arg14 arg15 arg16 arg17 arg18 c I ∗ HeldSt arg19 arg20 arg21 arg22 arg23 arg24 arg25 arg26 arg27 arg28 arg29 arg30 c S') -∗ K ⟨⟩))
        ⊢ wp frame (wpE (defs₀ (F := F)) Variants.none c none) Set.univ (bodyOf arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 (grid0.coords t)) K) := by
  have hN : t.val < 32 := N_0 ▸ t.isLt
  have c1 := cond1_iff t; have c2 := cond2_iff t; have c3 := cond3_iff t; have c4 := cond4_iff t; have c6 := cond6_iff t
  have c8 := cond8_iff t; have c9 := cond9_iff t; have c10 := cond10_iff t; have cj := first_iff t
  have h16 : 16 ≤ t.val := by omega
  have h8 : 8 ≤ t.val := by omega
  have n1 : ¬ k0_cond1 (grid0.coords t) = 1#1 := fun h => by have := c1.1 h; omega
  have n3 : ¬ k0_cond3 (grid0.coords t) = 1#1 := fun h => by have := c3.1 h; omega
  have n6 : ¬ k0_cond6 (grid0.coords t) = 1#1 := fun h => by have := c6.1 h; omega
  have p10 := c10.2 h24
  have hft := hS.ft2_eq A h24
  have hsq : VecWindow.window I.raw (k0_off14 (grid0.coords t)) S512x512.size (k0_off14_inb (grid0.coords t) p10) = A.sq (t.val % 8) := by
    rw [hI.raw h24]; exact A.window_sq t.val _ (off14_eq t) _
  have hown : VecWindow.window S.ft (k0_off15 (grid0.coords t)) S512x64.size (k0_off15_inb (grid0.coords t) p10) = A.own (t.val % 8) := by
    rw [hft]; exact A.window_own t.val _ (off15_eq t) _
  refine ⟨_, A.post3 t.val h24 hN S hS _ (off16_eq t) _ ?_ _ ?_, run_G arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 c _ I S K n1 n3 n6 p10⟩
  · unfold Arr.RESB; rw [hsq, hown, hI.raw h24, hft]
  · unfold Arr.LOGB; rw [hsq, hown, hI.raw h24, hft, hI.Wf]

/-- One grid point: whatever the buffers hold of what the account asks before it, the body runs and they hold what the
    account states after it. -/
theorem point_sound (A : Arr F) (c : Dev nD) (t : Fin grid0.N) (I : In F) (hI : A.InAt t.val I) (S : St F) (hS : A.Pre t.val S) (K : PUnit → sProp 𝕄) :
    ∃ S' : St F, A.Post t.val S' ∧
      (iprop(HeldIn arg2 arg3 arg4 arg5 arg6 arg7 arg8 arg9 arg10 arg11 arg12 arg13 arg14 arg15 arg16 arg17 arg18 c I ∗ HeldSt arg19 arg20 arg21 arg22 arg23 arg24 arg25 arg26 arg27 arg28 arg29 arg30 c S
          ∗ (iprop(HeldIn arg2 arg3 arg4 arg5 arg6 arg7 arg8 arg9 arg10 arg11 arg12 arg13 arg14 arg15 arg16 arg17 arg18 c I ∗ HeldSt arg19 arg20 arg21 arg22 arg23 arg24 arg25 arg26 arg27 arg28 arg29 arg30 c S') -∗ K ⟨⟩))
        ⊢ wp frame (wpE (defs₀ (F := F)) Variants.none c none) Set.univ (bodyOf arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 (grid0.coords t)) K) := by
  rcases lt_or_ge t.val 8 with h8 | h8
  · exact point_first arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 A c t h8 I hI S hS K
  rcases lt_or_ge t.val 16 with h16 | h16
  · exact point_second arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 A c t h8 h16 I hI S hS K
  rcases lt_or_ge t.val 24 with h24 | h24
  · rcases lt_or_ge (rb t.val) 6 with hl | hl
    · exact point_third_fresh arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 A c t h16 h24 hl I hI S hS K
    · exact point_third_kept arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 A c t h16 h24 hl I hI S hS K
  · exact point_fourth arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 A c t h24 I hI S hS K

end Args

end Cert.KernelIdeal.Hand
-- ==== Proof.Run.lean ====
/-
  The launch: the relational proof data of the pipeline (what each window's buffer may hold after a grid point, and the
  scratch between points by the account of `Data`), the body obligation off `point_sound`, and the run.
-/
module

public import proofs.«01_k».proof.Proof.Sound
public import Idealize.ShloMosaic.Lib.Pipeline.ArrRel

@[expose] public section

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The operands' arrays as the region finds them. -/
def arrs (c : Dev nD) : Arr F where
  s1 := V m c main_v0
  s2 := V m c main_v1
  adj := V m c main_v2
  raw := V m c main_arg3
  W1 := V m c main_arg6
  b1 := V m c main_v3
  a1 := V m c main_v5
  W2 := V m c main_arg9
  b2 := V m c main_v4
  a2 := V m c main_v6
  Wb := V m c main_arg12
  bb := V m c main_v7
  Wf := V m c main_arg14
  np := V m c main_arg4
  Wnp := V m c main_arg15
  ap := V m c main_arg5
  Wap := V m c main_arg16

/-- What a window's buffer may hold after a point: an input's what it held, an output's what the account states. -/
def left (A : Arr F) : (w : Fin 23) → Fin cfg0.N → (Y X : (cfg0.win w).block.Idx → Elt F (cfg0.win w).elt) → Prop
  | 0 => fun _ Y X => X = Y
  | 1 => fun _ Y X => X = Y
  | 2 => fun _ Y X => X = Y
  | 3 => fun _ Y X => X = Y
  | 4 => fun _ Y X => X = Y
  | 5 => fun _ Y X => X = Y
  | 6 => fun _ Y X => X = Y
  | 7 => fun _ Y X => X = Y
  | 8 => fun _ Y X => X = Y
  | 9 => fun _ Y X => X = Y
  | 10 => fun _ Y X => X = Y
  | 11 => fun _ Y X => X = Y
  | 12 => fun _ Y X => X = Y
  | 13 => fun _ Y X => X = Y
  | 14 => fun _ Y X => X = Y
  | 15 => fun _ Y X => X = Y
  | 16 => fun _ Y X => X = Y
  | 17 => fun t _ X => A.OEmb t.val X
  | 18 => fun t _ X => A.ORes t.val X
  | 19 => fun t _ X => A.ORet t.val X
  | 20 => fun t _ X => A.OLog t.val X
  | 21 => fun _ _ X => A.ONp X
  | 22 => fun _ _ X => A.OAp X
  | ⟨_ + 23, h⟩ => absurd h (by omega)

/-- The scratch and the generator register before point `n`: the scratch at contents that keep the account. -/
def between (A : Arr F) (c : Dev nD) (n : ℕ) : sProp 𝕄 :=
  iprop(∃ stash : Vec F S1024x4096 .f32, ∃ ft : Vec F S4096x128 .f32, ∃ h1 : Vec F S4096x64 .f32, ∃ x : Vec F S4096x128 .f32, ∃ hsum : Vec F S1x64 .f32, ∃ v : Vec F S64x1 .f32, ⌜A.Inv n stash ft h1 x hsum v⌝ ∗ owns (c : Thread nD τ) (Memref.whole cc0_scratch0) fullShare stash ∗ owns (c : Thread nD τ) (Memref.whole cc0_scratch1) fullShare ft ∗ owns (c : Thread nD τ) (Memref.whole cc0_scratch2) fullShare h1 ∗ owns (c : Thread nD τ) (Memref.whole cc0_scratch3) fullShare x ∗ owns (c : Thread nD τ) (Memref.whole cc0_scratch4) fullShare hsum ∗ owns (c : Thread nD τ) (Memref.whole cc0_scratch5) fullShare v ∗ (∃ r, prngReg c r))

/-- The relational proof data on core `c`. -/
def rdat (c : Dev nD) : RDat τ (Elt F) Unit ℕ (UR sig nD τ) ℕ cfg0 c where
  A w := V m c (Pipeline.arrRef spec0 w)
  after w t Y X := left (arrs m c) w t Y X
  Φ t := between (arrs m c) c t.val
  q _ := fullShare
  owed _ := 0

theorem A_eq (c : Dev nD) (w : Fin cfg0.W) : (rdat m c).A w = V m c (Pipeline.arrRef spec0 w) := rfl

/-! ## What the body finds in the input buffers -/

theorem found0 (c : Dev nD) (t : Fin cfg0.N) (Y : (cfg0.win 0).block.Idx → Elt F (cfg0.win 0).elt) (h : (rdat m c).Finds 0 t Y) : Y = iblk m c 0 t := by
  obtain ⟨d, rfl⟩ := RDat.finds_in_eq_fetched (rdat m c) 0 rfl (fun _ _ _ => rfl) (fun _ _ _ h => h) t Y h
  unfold RDat.fetched RDat.blockOf iblk; rfl
theorem found1 (c : Dev nD) (t : Fin cfg0.N) (Y : (cfg0.win 1).block.Idx → Elt F (cfg0.win 1).elt) (h : (rdat m c).Finds 1 t Y) : Y = iblk m c 1 t := by
  obtain ⟨d, rfl⟩ := RDat.finds_in_eq_fetched (rdat m c) 1 rfl (fun _ _ _ => rfl) (fun _ _ _ h => h) t Y h
  unfold RDat.fetched RDat.blockOf iblk; rfl
theorem found2 (c : Dev nD) (t : Fin cfg0.N) (Y : (cfg0.win 2).block.Idx → Elt F (cfg0.win 2).elt) (h : (rdat m c).Finds 2 t Y) : Y = iblk m c 2 t := by
  obtain ⟨d, rfl⟩ := RDat.finds_in_eq_fetched (rdat m c) 2 rfl (fun _ _ _ => rfl) (fun _ _ _ h => h) t Y h
  unfold RDat.fetched RDat.blockOf iblk; rfl
theorem found3 (c : Dev nD) (t : Fin cfg0.N) (Y : (cfg0.win 3).block.Idx → Elt F (cfg0.win 3).elt) (h : (rdat m c).Finds 3 t Y) : Y = iblk m c 3 t := by
  obtain ⟨d, rfl⟩ := RDat.finds_in_eq_fetched (rdat m c) 3 rfl (fun _ _ _ => rfl) (fun _ _ _ h => h) t Y h
  unfold RDat.fetched RDat.blockOf iblk; rfl
theorem found4 (c : Dev nD) (t : Fin cfg0.N) (Y : (cfg0.win 4).block.Idx → Elt F (cfg0.win 4).elt) (h : (rdat m c).Finds 4 t Y) : Y = iblk m c 4 t := by
  obtain ⟨d, rfl⟩ := RDat.finds_in_eq_fetched (rdat m c) 4 rfl (fun _ _ _ => rfl) (fun _ _ _ h => h) t Y h
  unfold RDat.fetched RDat.blockOf iblk; rfl
theorem found5 (c : Dev nD) (t : Fin cfg0.N) (Y : (cfg0.win 5).block.Idx → Elt F (cfg0.win 5).elt) (h : (rdat m c).Finds 5 t Y) : Y = iblk m c 5 t := by
  obtain ⟨d, rfl⟩ := RDat.finds_in_eq_fetched (rdat m c) 5 rfl (fun _ _ _ => rfl) (fun _ _ _ h => h) t Y h
  unfold RDat.fetched RDat.blockOf iblk; rfl
theorem found6 (c : Dev nD) (t : Fin cfg0.N) (Y : (cfg0.win 6).block.Idx → Elt F (cfg0.win 6).elt) (h : (rdat m c).Finds 6 t Y) : Y = iblk m c 6 t := by
  obtain ⟨d, rfl⟩ := RDat.finds_in_eq_fetched (rdat m c) 6 rfl (fun _ _ _ => rfl) (fun _ _ _ h => h) t Y h
  unfold RDat.fetched RDat.blockOf iblk; rfl
theorem found7 (c : Dev nD) (t : Fin cfg0.N) (Y : (cfg0.win 7).block.Idx → Elt F (cfg0.win 7).elt) (h : (rdat m c).Finds 7 t Y) : Y = iblk m c 7 t := by
  obtain ⟨d, rfl⟩ := RDat.finds_in_eq_fetched (rdat m c) 7 rfl (fun _ _ _ => rfl) (fun _ _ _ h => h) t Y h
  unfold RDat.fetched RDat.blockOf iblk; rfl
theorem found8 (c : Dev nD) (t : Fin cfg0.N) (Y : (cfg0.win 8).block.Idx → Elt F (cfg0.win 8).elt) (h : (rdat m c).Finds 8 t Y) : Y = iblk m c 8 t := by
  obtain ⟨d, rfl⟩ := RDat.finds_in_eq_fetched (rdat m c) 8 rfl (fun _ _ _ => rfl) (fun _ _ _ h => h) t Y h
  unfold RDat.fetched RDat.blockOf iblk; rfl
theorem found9 (c : Dev nD) (t : Fin cfg0.N) (Y : (cfg0.win 9).block.Idx → Elt F (cfg0.win 9).elt) (h : (rdat m c).Finds 9 t Y) : Y = iblk m c 9 t := by
  obtain ⟨d, rfl⟩ := RDat.finds_in_eq_fetched (rdat m c) 9 rfl (fun _ _ _ => rfl) (fun _ _ _ h => h) t Y h
  unfold RDat.fetched RDat.blockOf iblk; rfl
theorem found10 (c : Dev nD) (t : Fin cfg0.N) (Y : (cfg0.win 10).block.Idx → Elt F (cfg0.win 10).elt) (h : (rdat m c).Finds 10 t Y) : Y = iblk m c 10 t := by
  obtain ⟨d, rfl⟩ := RDat.finds_in_eq_fetched (rdat m c) 10 rfl (fun _ _ _ => rfl) (fun _ _ _ h => h) t Y h
  unfold RDat.fetched RDat.blockOf iblk; rfl
theorem found11 (c : Dev nD) (t : Fin cfg0.N) (Y : (cfg0.win 11).block.Idx → Elt F (cfg0.win 11).elt) (h : (rdat m c).Finds 11 t Y) : Y = iblk m c 11 t := by
  obtain ⟨d, rfl⟩ := RDat.finds_in_eq_fetched (rdat m c) 11 rfl (fun _ _ _ => rfl) (fun _ _ _ h => h) t Y h
  unfold RDat.fetched RDat.blockOf iblk; rfl
theorem found12 (c : Dev nD) (t : Fin cfg0.N) (Y : (cfg0.win 12).block.Idx → Elt F (cfg0.win 12).elt) (h : (rdat m c).Finds 12 t Y) : Y = iblk m c 12 t := by
  obtain ⟨d, rfl⟩ := RDat.finds_in_eq_fetched (rdat m c) 12 rfl (fun _ _ _ => rfl) (fun _ _ _ h => h) t Y h
  unfold RDat.fetched RDat.blockOf iblk; rfl
theorem found13 (c : Dev nD) (t : Fin cfg0.N) (Y : (cfg0.win 13).block.Idx → Elt F (cfg0.win 13).elt) (h : (rdat m c).Finds 13 t Y) : Y = iblk m c 13 t := by
  obtain ⟨d, rfl⟩ := RDat.finds_in_eq_fetched (rdat m c) 13 rfl (fun _ _ _ => rfl) (fun _ _ _ h => h) t Y h
  unfold RDat.fetched RDat.blockOf iblk; rfl
theorem found14 (c : Dev nD) (t : Fin cfg0.N) (Y : (cfg0.win 14).block.Idx → Elt F (cfg0.win 14).elt) (h : (rdat m c).Finds 14 t Y) : Y = iblk m c 14 t := by
  obtain ⟨d, rfl⟩ := RDat.finds_in_eq_fetched (rdat m c) 14 rfl (fun _ _ _ => rfl) (fun _ _ _ h => h) t Y h
  unfold RDat.fetched RDat.blockOf iblk; rfl
theorem found15 (c : Dev nD) (t : Fin cfg0.N) (Y : (cfg0.win 15).block.Idx → Elt F (cfg0.win 15).elt) (h : (rdat m c).Finds 15 t Y) : Y = iblk m c 15 t := by
  obtain ⟨d, rfl⟩ := RDat.finds_in_eq_fetched (rdat m c) 15 rfl (fun _ _ _ => rfl) (fun _ _ _ h => h) t Y h
  unfold RDat.fetched RDat.blockOf iblk; rfl
theorem found16 (c : Dev nD) (t : Fin cfg0.N) (Y : (cfg0.win 16).block.Idx → Elt F (cfg0.win 16).elt) (h : (rdat m c).Finds 16 t Y) : Y = iblk m c 16 t := by
  obtain ⟨d, rfl⟩ := RDat.finds_in_eq_fetched (rdat m c) 16 rfl (fun _ _ _ => rfl) (fun _ _ _ h => h) t Y h
  unfold RDat.fetched RDat.blockOf iblk; rfl

/-! The four blocked windows' blocks. -/

theorem block_s1 (c : Dev nD) (t : Fin cfg0.N) (h : t.val < 8) : iblk m c 0 t = blk (arrs m c).s1 (t.val % 8) := by
  funext y
  have h0 : (y 0).val < 512 := (y 0).isLt
  refine congrArg (V m c main_v0) (funext fun a => Fin.ext ?_)
  match a with
  | 0 =>
    show cc0_transform_0 (grid0.coords t) 0 * 512 + 1 * (y 0).val = (512 * (t.val % 8) + (y 0).val) % 4096
    rw [show cc0_transform_0 (grid0.coords t) 0 = t.val % 8 from congrFun (tr0_eq t h) 0]; omega
  | 1 =>
    show cc0_transform_0 (grid0.coords t) 1 * 256 + 1 * (y 1).val = (y 1).val
    rw [show cc0_transform_0 (grid0.coords t) 1 = 0 from congrFun (tr0_eq t h) 1]; omega
theorem block_s2 (c : Dev nD) (t : Fin cfg0.N) (h : t.val < 8) : iblk m c 1 t = blk (arrs m c).s2 (t.val % 8) := by
  funext y
  have h0 : (y 0).val < 512 := (y 0).isLt
  refine congrArg (V m c main_v1) (funext fun a => Fin.ext ?_)
  match a with
  | 0 =>
    show cc0_transform_1 (grid0.coords t) 0 * 512 + 1 * (y 0).val = (512 * (t.val % 8) + (y 0).val) % 4096
    rw [show cc0_transform_1 (grid0.coords t) 0 = t.val % 8 from congrFun (tr1_eq t h) 0]; omega
  | 1 =>
    show cc0_transform_1 (grid0.coords t) 1 * 256 + 1 * (y 1).val = (y 1).val
    rw [show cc0_transform_1 (grid0.coords t) 1 = 0 from congrFun (tr1_eq t h) 1]; omega
theorem block_adj1 (c : Dev nD) (t : Fin cfg0.N) (h : 8 ≤ t.val) (h' : t.val < 16) : iblk m c 2 t = blk (arrs m c).adj (t.val % 8) := by
  funext y
  have h0 : (y 0).val < 512 := (y 0).isLt
  refine congrArg (V m c main_v2) (funext fun a => Fin.ext ?_)
  match a with
  | 0 =>
    show cc0_transform_2 (grid0.coords t) 0 * 512 + 1 * (y 0).val = (512 * (t.val % 8) + (y 0).val) % 4096
    rw [show cc0_transform_2 (grid0.coords t) 0 = t.val % 8 from congrFun (tr2_eq_first t h h') 0]; omega
  | 1 =>
    show cc0_transform_2 (grid0.coords t) 1 * 4096 + 1 * (y 1).val = (y 1).val
    rw [show cc0_transform_2 (grid0.coords t) 1 = 0 from congrFun (tr2_eq_first t h h') 1]; omega
theorem block_adj2 (c : Dev nD) (t : Fin cfg0.N) (h : 16 ≤ t.val) (h' : t.val < 24) (hr : rb t.val < 6) : iblk m c 2 t = blk (arrs m c).adj (rb t.val) := by
  have hb := rb_lt t.val
  funext y
  have h0 : (y 0).val < 512 := (y 0).isLt
  refine congrArg (V m c main_v2) (funext fun a => Fin.ext ?_)
  match a with
  | 0 =>
    show cc0_transform_2 (grid0.coords t) 0 * 512 + 1 * (y 0).val = (512 * (rb t.val) + (y 0).val) % 4096
    rw [show cc0_transform_2 (grid0.coords t) 0 = rb t.val from congrFun (tr2_eq_second t h h' hr) 0]; omega
  | 1 =>
    show cc0_transform_2 (grid0.coords t) 1 * 4096 + 1 * (y 1).val = (y 1).val
    rw [show cc0_transform_2 (grid0.coords t) 1 = 0 from congrFun (tr2_eq_second t h h' hr) 1]; omega
theorem block_raw (c : Dev nD) (t : Fin cfg0.N) (h : 24 ≤ t.val) : iblk m c 3 t = blk (arrs m c).raw (t.val % 8) := by
  funext y
  have h0 : (y 0).val < 512 := (y 0).isLt
  refine congrArg (V m c main_arg3) (funext fun a => Fin.ext ?_)
  match a with
  | 0 =>
    show cc0_transform_3 (grid0.coords t) 0 * 512 + 1 * (y 0).val = (512 * (t.val % 8) + (y 0).val) % 4096
    rw [show cc0_transform_3 (grid0.coords t) 0 = t.val % 8 from congrFun (tr3_eq t h) 0]; omega
  | 1 =>
    show cc0_transform_3 (grid0.coords t) 1 * 4096 + 1 * (y 1).val = (y 1).val
    rw [show cc0_transform_3 (grid0.coords t) 1 = 0 from congrFun (tr3_eq t h) 1]; omega

/-! The operands staged whole. -/

theorem whole4 (c : Dev nD) (t : Fin cfg0.N) : iblk m c 4 t = (arrs m c).W1 := by
  funext y
  refine congrArg (V m c main_arg6) (funext fun a => Fin.ext ?_)
  match a with
  | 0 => show 0 * _ + 1 * (y 0).val = (y 0).val; omega
  | 1 => show 0 * _ + 1 * (y 1).val = (y 1).val; omega
theorem whole5 (c : Dev nD) (t : Fin cfg0.N) : iblk m c 5 t = (arrs m c).b1 := by
  funext y
  refine congrArg (V m c main_v3) (funext fun a => Fin.ext ?_)
  match a with
  | 0 => show 0 * _ + 1 * (y 0).val = (y 0).val; omega
  | 1 => show 0 * _ + 1 * (y 1).val = (y 1).val; omega
theorem whole6 (c : Dev nD) (t : Fin cfg0.N) : iblk m c 6 t = (arrs m c).a1 := by
  funext y
  refine congrArg (V m c main_v5) (funext fun a => Fin.ext ?_)
  match a with
  | 0 => show 0 * _ + 1 * (y 0).val = (y 0).val; omega
  | 1 => show 0 * _ + 1 * (y 1).val = (y 1).val; omega
theorem whole7 (c : Dev nD) (t : Fin cfg0.N) : iblk m c 7 t = (arrs m c).W2 := by
  funext y
  refine congrArg (V m c main_arg9) (funext fun a => Fin.ext ?_)
  match a with
  | 0 => show 0 * _ + 1 * (y 0).val = (y 0).val; omega
  | 1 => show 0 * _ + 1 * (y 1).val = (y 1).val; omega
theorem whole8 (c : Dev nD) (t : Fin cfg0.N) : iblk m c 8 t = (arrs m c).b2 := by
  funext y
  refine congrArg (V m c main_v4) (funext fun a => Fin.ext ?_)
  match a with
  | 0 => show 0 * _ + 1 * (y 0).val = (y 0).val; omega
  | 1 => show 0 * _ + 1 * (y 1).val = (y 1).val; omega
theorem whole9 (c : Dev nD) (t : Fin cfg0.N) : iblk m c 9 t = (arrs m c).a2 := by
  funext y
  refine congrArg (V m c main_v6) (funext fun a => Fin.ext ?_)
  match a with
  | 0 => show 0 * _ + 1 * (y 0).val = (y 0).val; omega
  | 1 => show 0 * _ + 1 * (y 1).val = (y 1).val; omega
theorem whole10 (c : Dev nD) (t : Fin cfg0.N) : iblk m c 10 t = (arrs m c).Wb := by
  funext y
  refine congrArg (V m c main_arg12) (funext fun a => Fin.ext ?_)
  match a with
  | 0 => show 0 * _ + 1 * (y 0).val = (y 0).val; omega
  | 1 => show 0 * _ + 1 * (y 1).val = (y 1).val; omega
theorem whole11 (c : Dev nD) (t : Fin cfg0.N) : iblk m c 11 t = (arrs m c).bb := by
  funext y
  refine congrArg (V m c main_v7) (funext fun a => Fin.ext ?_)
  match a with
  | 0 => show 0 * _ + 1 * (y 0).val = (y 0).val; omega
  | 1 => show 0 * _ + 1 * (y 1).val = (y 1).val; omega
theorem whole12 (c : Dev nD) (t : Fin cfg0.N) : iblk m c 12 t = (arrs m c).Wf := by
  funext y
  refine congrArg (V m c main_arg14) (funext fun a => Fin.ext ?_)
  match a with
  | 0 => show 0 * _ + 1 * (y 0).val = (y 0).val; omega
  | 1 => show 0 * _ + 1 * (y 1).val = (y 1).val; omega
theorem whole13 (c : Dev nD) (t : Fin cfg0.N) : iblk m c 13 t = (arrs m c).np := by
  funext y
  refine congrArg (V m c main_arg4) (funext fun a => Fin.ext ?_)
  match a with
  | 0 => show 0 * _ + 1 * (y 0).val = (y 0).val; omega
  | 1 => show 0 * _ + 1 * (y 1).val = (y 1).val; omega
theorem whole14 (c : Dev nD) (t : Fin cfg0.N) : iblk m c 14 t = (arrs m c).Wnp := by
  funext y
  refine congrArg (V m c main_arg15) (funext fun a => Fin.ext ?_)
  match a with
  | 0 => show 0 * _ + 1 * (y 0).val = (y 0).val; omega
  | 1 => show 0 * _ + 1 * (y 1).val = (y 1).val; omega
theorem whole15 (c : Dev nD) (t : Fin cfg0.N) : iblk m c 15 t = (arrs m c).ap := by
  funext y
  refine congrArg (V m c main_arg5) (funext fun a => Fin.ext ?_)
  match a with
  | 0 => show 0 * _ + 1 * (y 0).val = (y 0).val; omega
  | 1 => show 0 * _ + 1 * (y 1).val = (y 1).val; omega
theorem whole16 (c : Dev nD) (t : Fin cfg0.N) : iblk m c 16 t = (arrs m c).Wap := by
  funext y
  refine congrArg (V m c main_arg16) (funext fun a => Fin.ext ?_)
  match a with
  | 0 => show 0 * _ + 1 * (y 0).val = (y 0).val; omega
  | 1 => show 0 * _ + 1 * (y 1).val = (y 1).val; omega

/-- The contents of the input buffers, off the windows'. -/
def inOf (Y : (w : Fin 23) → (cfg0.win w).block.Idx → Elt F (cfg0.win w).elt) : In F where
  s1 := Y 0
  s2 := Y 1
  adj := Y 2
  raw := Y 3
  W1 := Y 4
  b1 := Y 5
  a1 := Y 6
  W2 := Y 7
  b2 := Y 8
  a2 := Y 9
  Wb := Y 10
  bb := Y 11
  Wf := Y 12
  np := Y 13
  Wnp := Y 14
  ap := Y 15
  Wap := Y 16

/-- The contents of the output buffers and the scratch. -/
def stOf (Y : (w : Fin 23) → (cfg0.win w).block.Idx → Elt F (cfg0.win w).elt) (stash : Vec F S1024x4096 .f32) (ft : Vec F S4096x128 .f32) (h1 : Vec F S4096x64 .f32) (x : Vec F S4096x128 .f32) (hsum : Vec F S1x64 .f32) (v : Vec F S64x1 .f32) : St F where
  emb := Y 17
  resid := Y 18
  ret := Y 19
  logit := Y 20
  npo := Y 21
  apo := Y 22
  stash := stash
  ft := ft
  h1 := h1
  x := x
  hsum := hsum
  v := v

/-- The input buffers hold the blocks that the account asks for. -/
theorem found_in (c : Dev nD) (t : Fin cfg0.N) (Y : (w : Fin 23) → (cfg0.win w).block.Idx → Elt F (cfg0.win w).elt)
    (h : ∀ w, (rdat m c).Finds w t (Y w)) : (arrs m c).InAt t.val (inOf Y) where
  s1 := fun h8 => (found0 m c t _ (h 0)).trans (block_s1 m c t h8)
  s2 := fun h8 => (found1 m c t _ (h 1)).trans (block_s2 m c t h8)
  adj1 := fun h8 h16 => (found2 m c t _ (h 2)).trans (block_adj1 m c t h8 h16)
  adj2 := fun h16 h24 hr => (found2 m c t _ (h 2)).trans (block_adj2 m c t h16 h24 hr)
  raw := fun h24 => (found3 m c t _ (h 3)).trans (block_raw m c t h24)
  W1 := (found4 m c t _ (h 4)).trans (whole4 m c t)
  b1 := (found5 m c t _ (h 5)).trans (whole5 m c t)
  a1 := (found6 m c t _ (h 6)).trans (whole6 m c t)
  W2 := (found7 m c t _ (h 7)).trans (whole7 m c t)
  b2 := (found8 m c t _ (h 8)).trans (whole8 m c t)
  a2 := (found9 m c t _ (h 9)).trans (whole9 m c t)
  Wb := (found10 m c t _ (h 10)).trans (whole10 m c t)
  bb := (found11 m c t _ (h 11)).trans (whole11 m c t)
  Wf := (found12 m c t _ (h 12)).trans (whole12 m c t)
  np := (found13 m c t _ (h 13)).trans (whole13 m c t)
  Wnp := (found14 m c t _ (h 14)).trans (whole14 m c t)
  ap := (found15 m c t _ (h 15)).trans (whole15 m c t)
  Wap := (found16 m c t _ (h 16)).trans (whole16 m c t)

/-- An output buffer not written back at the point before holds what that point left. -/
theorem kept_out (c : Dev nD) (w : Fin cfg0.W) (hw : (cfg0.win w).isOut = true) (t : Fin cfg0.N) (ht : 0 < t.val)
    (hf : ¬ (cfg0.win w).flush ⟨t.val - 1, Nat.lt_of_le_of_lt (Nat.sub_le _ _) t.isLt⟩ = true)
    (Y : (cfg0.win w).block.Idx → Elt F (cfg0.win w).elt) (h : (rdat m c).Finds w t Y) :
    ∃ Z, left (arrs m c) w ⟨t.val - 1, Nat.lt_of_le_of_lt (Nat.sub_le _ _) t.isLt⟩ Z Y := by
  rcases ((rdat m c).finds_of_pos ((cfg0.win w).fetch_out hw t) (by omega) Y).mp h with hl | ⟨Z, -, hZ⟩
  · exact absurd hl hf
  · exact ⟨Z, hZ⟩

/-- The output buffers and the scratch hold what the account asks for. -/
theorem found_out (c : Dev nD) (t : Fin cfg0.N) (Y : (w : Fin 23) → (cfg0.win w).block.Idx → Elt F (cfg0.win w).elt)
    (h : ∀ w, (rdat m c).Finds w t (Y w)) (stash : Vec F S1024x4096 .f32) (ft : Vec F S4096x128 .f32) (h1 : Vec F S4096x64 .f32) (x : Vec F S4096x128 .f32) (hsum : Vec F S1x64 .f32) (v : Vec F S64x1 .f32)
    (hI : (arrs m c).Inv t.val stash ft h1 x hsum v) : (arrs m c).Pre t.val (stOf Y stash ft h1 x hsum v) where
  inv := hI
  emb := fun h24 => by
    have hN : t.val < 32 := N_0 ▸ t.isLt
    obtain ⟨Z, hZ⟩ := kept_out m c 17 rfl t (by omega) (fun hf => by
      have := (flush17 ⟨t.val - 1, Nat.lt_of_le_of_lt (Nat.sub_le _ _) t.isLt⟩).1 hf; dsimp only at this; omega) _ (h 17)
    have hZ' : (arrs m c).OEmb (t.val - 1) (Y 17) := hZ
    refine (hZ' (by omega)).trans (congrArg _ ?_)
    split_ifs with hlt
    · rw [show t.val - 1 = 23 by omega]; rfl
    · rfl
  ret := fun h0 => by
    have hN : t.val < 32 := N_0 ▸ t.isLt
    obtain ⟨Z, hZ⟩ := kept_out m c 19 rfl t h0 (fun hf => by
      have := (flush0_19 ⟨t.val - 1, Nat.lt_of_le_of_lt (Nat.sub_le _ _) t.isLt⟩).1 hf; dsimp only at this; omega) _ (h 19)
    exact hZ
  logit := fun h0 => by
    have hN : t.val < 32 := N_0 ▸ t.isLt
    obtain ⟨Z, hZ⟩ := kept_out m c 20 rfl t h0 (fun hf => by
      have := (flush0_20 ⟨t.val - 1, Nat.lt_of_le_of_lt (Nat.sub_le _ _) t.isLt⟩).1 hf; dsimp only at this; omega) _ (h 20)
    exact hZ
  npo := fun h0 => by
    have hN : t.val < 32 := N_0 ▸ t.isLt
    obtain ⟨Z, hZ⟩ := kept_out m c 21 rfl t h0 (fun hf => by
      have := (flush0_21 ⟨t.val - 1, Nat.lt_of_le_of_lt (Nat.sub_le _ _) t.isLt⟩).1 hf; dsimp only at this; omega) _ (h 21)
    exact hZ
  apo := fun h0 => by
    have hN : t.val < 32 := N_0 ▸ t.isLt
    obtain ⟨Z, hZ⟩ := kept_out m c 22 rfl t h0 (fun hf => by
      have := (flush0_22 ⟨t.val - 1, Nat.lt_of_le_of_lt (Nat.sub_le _ _) t.isLt⟩).1 hf; dsimp only at this; omega) _ (h 22)
    exact hZ

/-! ## The body obligation -/

/-- The body at the point: the account's step (`point_sound`) between the invariant before and after. -/
theorem body_point (c : Dev nD) (t : Fin cfg0.N) (Y : (w : Fin 23) → (cfg0.win w).block.Idx → Elt F (cfg0.win w).elt)
    (h : ∀ w, (rdat m c).Finds w t (Y w)) (O O' : sProp 𝕄) (hO : O ⊢ O') :
    iprop(between (arrs m c) c t.val ∗ O ∗ owns (c : Thread nD τ) (win0_0.stage (cfg0.slots t 0)) fullShare (Y 0) ∗ owns (c : Thread nD τ) (win0_1.stage (cfg0.slots t 1)) fullShare (Y 1) ∗ owns (c : Thread nD τ) (win0_2.stage (cfg0.slots t 2)) fullShare (Y 2) ∗ owns (c : Thread nD τ) (win0_3.stage (cfg0.slots t 3)) fullShare (Y 3) ∗ owns (c : Thread nD τ) (win0_4.stage (cfg0.slots t 4)) fullShare (Y 4) ∗ owns (c : Thread nD τ) (win0_5.stage (cfg0.slots t 5)) fullShare (Y 5) ∗ owns (c : Thread nD τ) (win0_6.stage (cfg0.slots t 6)) fullShare (Y 6) ∗ owns (c : Thread nD τ) (win0_7.stage (cfg0.slots t 7)) fullShare (Y 7) ∗ owns (c : Thread nD τ) (win0_8.stage (cfg0.slots t 8)) fullShare (Y 8) ∗ owns (c : Thread nD τ) (win0_9.stage (cfg0.slots t 9)) fullShare (Y 9) ∗ owns (c : Thread nD τ) (win0_10.stage (cfg0.slots t 10)) fullShare (Y 10) ∗ owns (c : Thread nD τ) (win0_11.stage (cfg0.slots t 11)) fullShare (Y 11) ∗ owns (c : Thread nD τ) (win0_12.stage (cfg0.slots t 12)) fullShare (Y 12) ∗ owns (c : Thread nD τ) (win0_13.stage (cfg0.slots t 13)) fullShare (Y 13) ∗ owns (c : Thread nD τ) (win0_14.stage (cfg0.slots t 14)) fullShare (Y 14) ∗ owns (c : Thread nD τ) (win0_15.stage (cfg0.slots t 15)) fullShare (Y 15) ∗ owns (c : Thread nD τ) (win0_16.stage (cfg0.slots t 16)) fullShare (Y 16) ∗ owns (c : Thread nD τ) (win0_17.stage (cfg0.slots t 17)) fullShare (Y 17) ∗ owns (c : Thread nD τ) (win0_18.stage (cfg0.slots t 18)) fullShare (Y 18) ∗ owns (c : Thread nD τ) (win0_19.stage (cfg0.slots t 19)) fullShare (Y 19) ∗ owns (c : Thread nD τ) (win0_20.stage (cfg0.slots t 20)) fullShare (Y 20) ∗ owns (c : Thread nD τ) (win0_21.stage (cfg0.slots t 21)) fullShare (Y 21) ∗ owns (c : Thread nD τ) (win0_22.stage (cfg0.slots t 22)) fullShare (Y 22))
      ⊢ wp frame (wpE (defs₀ (F := F)) Variants.none c none) Set.univ (bodyAt0 t) (fun _ =>
        iprop(between (arrs m c) c (t.val + 1) ∗ O' ∗ (∃ X, ⌜left (arrs m c) 0 t (Y 0) X⌝ ∗ owns (c : Thread nD τ) (win0_0.stage (cfg0.slots t 0)) fullShare X) ∗ (∃ X, ⌜left (arrs m c) 1 t (Y 1) X⌝ ∗ owns (c : Thread nD τ) (win0_1.stage (cfg0.slots t 1)) fullShare X) ∗ (∃ X, ⌜left (arrs m c) 2 t (Y 2) X⌝ ∗ owns (c : Thread nD τ) (win0_2.stage (cfg0.slots t 2)) fullShare X) ∗ (∃ X, ⌜left (arrs m c) 3 t (Y 3) X⌝ ∗ owns (c : Thread nD τ) (win0_3.stage (cfg0.slots t 3)) fullShare X) ∗ (∃ X, ⌜left (arrs m c) 4 t (Y 4) X⌝ ∗ owns (c : Thread nD τ) (win0_4.stage (cfg0.slots t 4)) fullShare X) ∗ (∃ X, ⌜left (arrs m c) 5 t (Y 5) X⌝ ∗ owns (c : Thread nD τ) (win0_5.stage (cfg0.slots t 5)) fullShare X) ∗ (∃ X, ⌜left (arrs m c) 6 t (Y 6) X⌝ ∗ owns (c : Thread nD τ) (win0_6.stage (cfg0.slots t 6)) fullShare X) ∗ (∃ X, ⌜left (arrs m c) 7 t (Y 7) X⌝ ∗ owns (c : Thread nD τ) (win0_7.stage (cfg0.slots t 7)) fullShare X) ∗ (∃ X, ⌜left (arrs m c) 8 t (Y 8) X⌝ ∗ owns (c : Thread nD τ) (win0_8.stage (cfg0.slots t 8)) fullShare X) ∗ (∃ X, ⌜left (arrs m c) 9 t (Y 9) X⌝ ∗ owns (c : Thread nD τ) (win0_9.stage (cfg0.slots t 9)) fullShare X) ∗ (∃ X, ⌜left (arrs m c) 10 t (Y 10) X⌝ ∗ owns (c : Thread nD τ) (win0_10.stage (cfg0.slots t 10)) fullShare X) ∗ (∃ X, ⌜left (arrs m c) 11 t (Y 11) X⌝ ∗ owns (c : Thread nD τ) (win0_11.stage (cfg0.slots t 11)) fullShare X) ∗ (∃ X, ⌜left (arrs m c) 12 t (Y 12) X⌝ ∗ owns (c : Thread nD τ) (win0_12.stage (cfg0.slots t 12)) fullShare X) ∗ (∃ X, ⌜left (arrs m c) 13 t (Y 13) X⌝ ∗ owns (c : Thread nD τ) (win0_13.stage (cfg0.slots t 13)) fullShare X) ∗ (∃ X, ⌜left (arrs m c) 14 t (Y 14) X⌝ ∗ owns (c : Thread nD τ) (win0_14.stage (cfg0.slots t 14)) fullShare X) ∗ (∃ X, ⌜left (arrs m c) 15 t (Y 15) X⌝ ∗ owns (c : Thread nD τ) (win0_15.stage (cfg0.slots t 15)) fullShare X) ∗ (∃ X, ⌜left (arrs m c) 16 t (Y 16) X⌝ ∗ owns (c : Thread nD τ) (win0_16.stage (cfg0.slots t 16)) fullShare X) ∗ (∃ X, ⌜left (arrs m c) 17 t (Y 17) X⌝ ∗ owns (c : Thread nD τ) (win0_17.stage (cfg0.slots t 17)) fullShare X) ∗ (∃ X, ⌜left (arrs m c) 18 t (Y 18) X⌝ ∗ owns (c : Thread nD τ) (win0_18.stage (cfg0.slots t 18)) fullShare X) ∗ (∃ X, ⌜left (arrs m c) 19 t (Y 19) X⌝ ∗ owns (c : Thread nD τ) (win0_19.stage (cfg0.slots t 19)) fullShare X) ∗ (∃ X, ⌜left (arrs m c) 20 t (Y 20) X⌝ ∗ owns (c : Thread nD τ) (win0_20.stage (cfg0.slots t 20)) fullShare X) ∗ (∃ X, ⌜left (arrs m c) 21 t (Y 21) X⌝ ∗ owns (c : Thread nD τ) (win0_21.stage (cfg0.slots t 21)) fullShare X) ∗ (∃ X, ⌜left (arrs m c) 22 t (Y 22) X⌝ ∗ owns (c : Thread nD τ) (win0_22.stage (cfg0.slots t 22)) fullShare X))) := by
  unfold between
  iintro ⟨⟨%stash, %ft, %h1, %x, %hsum, %v, %hI, S0, S1, S2, S3, S4, S5, Hg⟩, HO, H0, H1, H2, H3, H4, H5, H6, H7, H8, H9, H10, H11, H12, H13, H14, H15, H16, H17, H18, H19, H20, H21, H22⟩
  obtain ⟨S', hS', hrun⟩ := point_sound (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (arrs m c) c t (inOf Y) (found_in m c t Y h)
    (stOf Y stash ft h1 x hsum v) (found_out m c t Y h stash ft h1 x hsum v hI) (fun _ =>
        iprop(between (arrs m c) c (t.val + 1) ∗ O' ∗ (∃ X, ⌜left (arrs m c) 0 t (Y 0) X⌝ ∗ owns (c : Thread nD τ) (win0_0.stage (cfg0.slots t 0)) fullShare X) ∗ (∃ X, ⌜left (arrs m c) 1 t (Y 1) X⌝ ∗ owns (c : Thread nD τ) (win0_1.stage (cfg0.slots t 1)) fullShare X) ∗ (∃ X, ⌜left (arrs m c) 2 t (Y 2) X⌝ ∗ owns (c : Thread nD τ) (win0_2.stage (cfg0.slots t 2)) fullShare X) ∗ (∃ X, ⌜left (arrs m c) 3 t (Y 3) X⌝ ∗ owns (c : Thread nD τ) (win0_3.stage (cfg0.slots t 3)) fullShare X) ∗ (∃ X, ⌜left (arrs m c) 4 t (Y 4) X⌝ ∗ owns (c : Thread nD τ) (win0_4.stage (cfg0.slots t 4)) fullShare X) ∗ (∃ X, ⌜left (arrs m c) 5 t (Y 5) X⌝ ∗ owns (c : Thread nD τ) (win0_5.stage (cfg0.slots t 5)) fullShare X) ∗ (∃ X, ⌜left (arrs m c) 6 t (Y 6) X⌝ ∗ owns (c : Thread nD τ) (win0_6.stage (cfg0.slots t 6)) fullShare X) ∗ (∃ X, ⌜left (arrs m c) 7 t (Y 7) X⌝ ∗ owns (c : Thread nD τ) (win0_7.stage (cfg0.slots t 7)) fullShare X) ∗ (∃ X, ⌜left (arrs m c) 8 t (Y 8) X⌝ ∗ owns (c : Thread nD τ) (win0_8.stage (cfg0.slots t 8)) fullShare X) ∗ (∃ X, ⌜left (arrs m c) 9 t (Y 9) X⌝ ∗ owns (c : Thread nD τ) (win0_9.stage (cfg0.slots t 9)) fullShare X) ∗ (∃ X, ⌜left (arrs m c) 10 t (Y 10) X⌝ ∗ owns (c : Thread nD τ) (win0_10.stage (cfg0.slots t 10)) fullShare X) ∗ (∃ X, ⌜left (arrs m c) 11 t (Y 11) X⌝ ∗ owns (c : Thread nD τ) (win0_11.stage (cfg0.slots t 11)) fullShare X) ∗ (∃ X, ⌜left (arrs m c) 12 t (Y 12) X⌝ ∗ owns (c : Thread nD τ) (win0_12.stage (cfg0.slots t 12)) fullShare X) ∗ (∃ X, ⌜left (arrs m c) 13 t (Y 13) X⌝ ∗ owns (c : Thread nD τ) (win0_13.stage (cfg0.slots t 13)) fullShare X) ∗ (∃ X, ⌜left (arrs m c) 14 t (Y 14) X⌝ ∗ owns (c : Thread nD τ) (win0_14.stage (cfg0.slots t 14)) fullShare X) ∗ (∃ X, ⌜left (arrs m c) 15 t (Y 15) X⌝ ∗ owns (c : Thread nD τ) (win0_15.stage (cfg0.slots t 15)) fullShare X) ∗ (∃ X, ⌜left (arrs m c) 16 t (Y 16) X⌝ ∗ owns (c : Thread nD τ) (win0_16.stage (cfg0.slots t 16)) fullShare X) ∗ (∃ X, ⌜left (arrs m c) 17 t (Y 17) X⌝ ∗ owns (c : Thread nD τ) (win0_17.stage (cfg0.slots t 17)) fullShare X) ∗ (∃ X, ⌜left (arrs m c) 18 t (Y 18) X⌝ ∗ owns (c : Thread nD τ) (win0_18.stage (cfg0.slots t 18)) fullShare X) ∗ (∃ X, ⌜left (arrs m c) 19 t (Y 19) X⌝ ∗ owns (c : Thread nD τ) (win0_19.stage (cfg0.slots t 19)) fullShare X) ∗ (∃ X, ⌜left (arrs m c) 20 t (Y 20) X⌝ ∗ owns (c : Thread nD τ) (win0_20.stage (cfg0.slots t 20)) fullShare X) ∗ (∃ X, ⌜left (arrs m c) 21 t (Y 21) X⌝ ∗ owns (c : Thread nD τ) (win0_21.stage (cfg0.slots t 21)) fullShare X) ∗ (∃ X, ⌜left (arrs m c) 22 t (Y 22) X⌝ ∗ owns (c : Thread nD τ) (win0_22.stage (cfg0.slots t 22)) fullShare X)))
  unfold between at hrun
  iapply hrun
  isplitl [H0 H1 H2 H3 H4 H5 H6 H7 H8 H9 H10 H11 H12 H13 H14 H15 H16]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  isplitl [H17 H18 H19 H20 H21 H22 S0 S1 S2 S3 S4 S5]
  · isplitl [H17]; · iexact H17
    isplitl [H18]; · iexact H18
    isplitl [H19]; · iexact H19
    isplitl [H20]; · iexact H20
    isplitl [H21]; · iexact H21
    isplitl [H22]; · iexact H22
    isplitl [S0]; · iexact S0
    isplitl [S1]; · iexact S1
    isplitl [S2]; · iexact S2
    isplitl [S3]; · iexact S3
    isplitl [S4]; · iexact S4
    iexact S5
  iintro ⟨⟨H0, H1, H2, H3, H4, H5, H6, H7, H8, H9, H10, H11, H12, H13, H14, H15, H16⟩, H17, H18, H19, H20, H21, H22, S0, S1, S2, S3, S4, S5⟩
  isplitl [S0 S1 S2 S3 S4 S5 Hg]
  · iexists S'.stash, S'.ft, S'.h1, S'.x, S'.hsum, S'.v
    isplitr; · ipureintro; exact hS'.inv
    isplitl [S0]; · iexact S0
    isplitl [S1]; · iexact S1
    isplitl [S2]; · iexact S2
    isplitl [S3]; · iexact S3
    isplitl [S4]; · iexact S4
    isplitl [S5]; · iexact S5
    iexact Hg
  isplitl [HO]; · iapply hO; iexact HO
  isplitl [H0]
  · iexists _; isplitr; swap; · iexact H0
    ipureintro; exact rfl
  isplitl [H1]
  · iexists _; isplitr; swap; · iexact H1
    ipureintro; exact rfl
  isplitl [H2]
  · iexists _; isplitr; swap; · iexact H2
    ipureintro; exact rfl
  isplitl [H3]
  · iexists _; isplitr; swap; · iexact H3
    ipureintro; exact rfl
  isplitl [H4]
  · iexists _; isplitr; swap; · iexact H4
    ipureintro; exact rfl
  isplitl [H5]
  · iexists _; isplitr; swap; · iexact H5
    ipureintro; exact rfl
  isplitl [H6]
  · iexists _; isplitr; swap; · iexact H6
    ipureintro; exact rfl
  isplitl [H7]
  · iexists _; isplitr; swap; · iexact H7
    ipureintro; exact rfl
  isplitl [H8]
  · iexists _; isplitr; swap; · iexact H8
    ipureintro; exact rfl
  isplitl [H9]
  · iexists _; isplitr; swap; · iexact H9
    ipureintro; exact rfl
  isplitl [H10]
  · iexists _; isplitr; swap; · iexact H10
    ipureintro; exact rfl
  isplitl [H11]
  · iexists _; isplitr; swap; · iexact H11
    ipureintro; exact rfl
  isplitl [H12]
  · iexists _; isplitr; swap; · iexact H12
    ipureintro; exact rfl
  isplitl [H13]
  · iexists _; isplitr; swap; · iexact H13
    ipureintro; exact rfl
  isplitl [H14]
  · iexists _; isplitr; swap; · iexact H14
    ipureintro; exact rfl
  isplitl [H15]
  · iexists _; isplitr; swap; · iexact H15
    ipureintro; exact rfl
  isplitl [H16]
  · iexists _; isplitr; swap; · iexact H16
    ipureintro; exact rfl
  isplitl [H17]
  · iexists _; isplitr; swap; · iexact H17
    ipureintro; exact hS'.emb
  isplitl [H18]
  · iexists _; isplitr; swap; · iexact H18
    ipureintro; exact hS'.resid
  isplitl [H19]
  · iexists _; isplitr; swap; · iexact H19
    ipureintro; exact hS'.ret
  isplitl [H20]
  · iexists _; isplitr; swap; · iexact H20
    ipureintro; exact hS'.logit
  isplitl [H21]
  · iexists _; isplitr; swap; · iexact H21
    ipureintro; exact hS'.npo
  iexists _; isplitr; swap; · iexact H22
  ipureintro; exact hS'.apo

/-- The body table's row at the point. -/
theorem defs₀_row (t : Fin cfg0.N) : defs₀ (F := F) .tc cfg0.body (cfg0.bodyArgs t (cfg0.slots t)) = bodyAt0 t := by
  unfold defs₀; rw [Defs.onTc_tc]

/-- The library's body obligation. -/
theorem body_obligation (c : Dev nD) : (rdat m c).BodyObligation (defs₀ (F := F)) Variants.none () Set.univ := fun t Y h => by
  rw [bigSep_W0, bigSep_W0, defs₀_row]
  exact triple_restated (body_point m c t Y h ((rdat m c).owesAt () t.castSucc) ((rdat m c).owesAt () t.succ) .rfl) rfl .rfl fun _ => .rfl

/-! ## The launch -/

/-- Before the first point nothing is asked of the scratch. -/
theorem inv_zero (A : Arr F) (stash : Vec F S1024x4096 .f32) (ft : Vec F S4096x128 .f32) (h1 : Vec F S4096x64 .f32) (x : Vec F S4096x128 .f32) (hsum : Vec F S1x64 .f32) (v : Vec F S64x1 .f32) : A.Inv 0 stash ft h1 x hsum v where
  ft1 := fun _ j hj h => by omega
  h1 := fun j hj h => by omega
  x := fun j hj h => by omega
  hs := fun h => by omega
  v := fun h => by omega
  stash := fun j hj h => by omega
  ft2 := fun j hj h => by omega

theorem enter (c : Dev nD) : (Pipeline.ΦA (U := UR sig nD τ) (Val := Elt F) spec0 c : sProp 𝕄) ⊢ between (arrs m c) c 0 := by
  unfold Pipeline.ΦA between
  rw [scopedRest0_eq]; simp only [owns_whole]
  iintro ⟨⟨⟨%f0, S0⟩, ⟨%f1, S1⟩, ⟨%f2, S2⟩, ⟨%f3, S3⟩, ⟨%f4, S4⟩, ⟨%f5, S5⟩⟩, Hg⟩
  iexists f0, f1, f2, f3, f4, f5
  isplitr; · ipureintro; exact inv_zero _ f0 f1 f2 f3 f4 f5
  isplitl [S0]; · iexact S0
  isplitl [S1]; · iexact S1
  isplitl [S2]; · iexact S2
  isplitl [S3]; · iexact S3
  isplitl [S4]; · iexact S4
  isplitl [S5]; · iexact S5
  iexact Hg

theorem leave (c : Dev nD) (n : ℕ) : between (arrs m c) c n ⊢ (Pipeline.ΦA (U := UR sig nD τ) (Val := Elt F) spec0 c : sProp 𝕄) := by
  unfold Pipeline.ΦA between
  rw [scopedRest0_eq]; simp only [owns_whole]
  iintro ⟨%f0, %f1, %f2, %f3, %f4, %f5, %hI, S0, S1, S2, S3, S4, S5, Hg⟩
  isplitr [Hg]
  · isplitl [S0]; · iexists f0; iexact S0
    isplitl [S1]; · iexists f1; iexact S1
    isplitl [S2]; · iexists f2; iexact S2
    isplitl [S3]; · iexists f3; iexact S3
    isplitl [S4]; · iexists f4; iexact S4
    iexists f5; iexact S5
  iexact Hg

set_option backward.isDefEq.respectTransparency.types false in
/-- Every weakly fair execution of @main from zero counters terminates; at the end every array holds what the proof data
    allow, every other unscoped buffer what it held at the launch, and every counter is zero. -/
theorem run_main :
    θ_run defs (onTc (τ := τ) (main (F := F))) (s₀ m ρ)
      (fun r => RDat.FramePost (cfgs 0) (rdat m) (V m) r ∧ r.2.sem = fun _ => 0) :=
  RDat.θ_run_frame_track cfgs (0 : Fin 1) launch0 defs₀ Variants.none (rdat m) m ρ main
    (hbody := body_obligation m) (hshare := fun c => (rdat m c).share_full fun _ => rfl)
    (howed := fun _ _ => rfl) (V := V m) (hmain := hmain m Variants.none) (hA := A_eq m)
    (hin := enter m) (hout := fun c => leave m c _) (Q' := _)

variable {m ρ}

theorem final_arg0 {r : PUnit × MemSt nD τ sig (Elt F)} (h : RDat.FramePost (cfgs 0) (rdat m) (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)
theorem final_arg1 {r : PUnit × MemSt nD τ sig (Elt F)} (h : RDat.FramePost (cfgs 0) (rdat m) (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)
theorem final_arg2 {r : PUnit × MemSt nD τ sig (Elt F)} (h : RDat.FramePost (cfgs 0) (rdat m) (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)
theorem final_arg3 {r : PUnit × MemSt nD τ sig (Elt F)} (h : RDat.FramePost (cfgs 0) (rdat m) (V m) r) (c : Dev nD) :
    r.2.mem ((c : Thread nD τ).loc main_arg3) = m ((c : Thread nD τ).loc main_arg3) :=
  (RDat.FramePost.arr_in h c 3 rfl).trans (V_main_arg3 m c)
theorem final_arg4 {r : PUnit × MemSt nD τ sig (Elt F)} (h : RDat.FramePost (cfgs 0) (rdat m) (V m) r) (c : Dev nD) :
    r.2.mem ((c : Thread nD τ).loc main_arg4) = m ((c : Thread nD τ).loc main_arg4) :=
  (RDat.FramePost.arr_in h c 13 rfl).trans (V_main_arg4 m c)
theorem final_arg5 {r : PUnit × MemSt nD τ sig (Elt F)} (h : RDat.FramePost (cfgs 0) (rdat m) (V m) r) (c : Dev nD) :
    r.2.mem ((c : Thread nD τ).loc main_arg5) = m ((c : Thread nD τ).loc main_arg5) :=
  (RDat.FramePost.arr_in h c 15 rfl).trans (V_main_arg5 m c)
theorem final_arg6 {r : PUnit × MemSt nD τ sig (Elt F)} (h : RDat.FramePost (cfgs 0) (rdat m) (V m) r) (c : Dev nD) :
    r.2.mem ((c : Thread nD τ).loc main_arg6) = m ((c : Thread nD τ).loc main_arg6) :=
  (RDat.FramePost.arr_in h c 4 rfl).trans (V_main_arg6 m c)
theorem final_arg7 {r : PUnit × MemSt nD τ sig (Elt F)} (h : RDat.FramePost (cfgs 0) (rdat m) (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)
theorem final_arg8 {r : PUnit × MemSt nD τ sig (Elt F)} (h : RDat.FramePost (cfgs 0) (rdat m) (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)
theorem final_arg9 {r : PUnit × MemSt nD τ sig (Elt F)} (h : RDat.FramePost (cfgs 0) (rdat m) (V m) r) (c : Dev nD) :
    r.2.mem ((c : Thread nD τ).loc main_arg9) = m ((c : Thread nD τ).loc main_arg9) :=
  (RDat.FramePost.arr_in h c 7 rfl).trans (V_main_arg9 m c)
theorem final_arg10 {r : PUnit × MemSt nD τ sig (Elt F)} (h : RDat.FramePost (cfgs 0) (rdat m) (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)
theorem final_arg11 {r : PUnit × MemSt nD τ sig (Elt F)} (h : RDat.FramePost (cfgs 0) (rdat m) (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)
theorem final_arg12 {r : PUnit × MemSt nD τ sig (Elt F)} (h : RDat.FramePost (cfgs 0) (rdat m) (V m) r) (c : Dev nD) :
    r.2.mem ((c : Thread nD τ).loc main_arg12) = m ((c : Thread nD τ).loc main_arg12) :=
  (RDat.FramePost.arr_in h c 10 rfl).trans (V_main_arg12 m c)
theorem final_arg13 {r : PUnit × MemSt nD τ sig (Elt F)} (h : RDat.FramePost (cfgs 0) (rdat m) (V m) r) (c : Dev nD) :
    r.2.mem ((c : Thread nD τ).loc main_arg13) = m ((c : Thread nD τ).loc main_arg13) :=
  ((h c).2 main_arg13 (Pipeline.mem_restRefs_of main_arg13 (by decide) (by decide))).trans (V_main_arg13 m c)
theorem final_arg14 {r : PUnit × MemSt nD τ sig (Elt F)} (h : RDat.FramePost (cfgs 0) (rdat m) (V m) r) (c : Dev nD) :
    r.2.mem ((c : Thread nD τ).loc main_arg14) = m ((c : Thread nD τ).loc main_arg14) :=
  (RDat.FramePost.arr_in h c 12 rfl).trans (V_main_arg14 m c)
theorem final_arg15 {r : PUnit × MemSt nD τ sig (Elt F)} (h : RDat.FramePost (cfgs 0) (rdat m) (V m) r) (c : Dev nD) :
    r.2.mem ((c : Thread nD τ).loc main_arg15) = m ((c : Thread nD τ).loc main_arg15) :=
  (RDat.FramePost.arr_in h c 14 rfl).trans (V_main_arg15 m c)
theorem final_arg16 {r : PUnit × MemSt nD τ sig (Elt F)} (h : RDat.FramePost (cfgs 0) (rdat m) (V m) r) (c : Dev nD) :
    r.2.mem ((c : Thread nD τ).loc main_arg16) = m ((c : Thread nD τ).loc main_arg16) :=
  (RDat.FramePost.arr_in h c 16 rfl).trans (V_main_arg16 m c)

/-- Every argument holds at the end what it held at the launch. -/
theorem final_args {r : PUnit × MemSt nD τ sig (Elt F)} (h : RDat.FramePost (cfgs 0) (rdat m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  ⟨final_arg0 h c, final_arg1 h c, final_arg2 h c, final_arg3 h c, final_arg4 h c, final_arg5 h c, final_arg6 h c, final_arg7 h c, final_arg8 h c, final_arg9 h c, final_arg10 h c, final_arg11 h c, final_arg12 h c, final_arg13 h c, final_arg14 h c, final_arg15 h c, final_arg16 h c⟩

end Cert.KernelIdeal.Hand
-- ==== Proof.Spec.lean ====
/-
  What both programs compute, written over the extended reals with matrices as functions of a row and a column: two
  graph layers on each of the two feature matrices, the discriminator's scores, and the residual of the embedding.
  The kernel and the reference spell the residual differently (`resid`, `residHost`); on finite data they agree.
-/
module

public import Idealize.ShloMosaic.Lib.Pointwise

@[expose] public section

noncomputable section

namespace Cert.Spec

open Idealize.ShloMosaic
open scoped BigOperators

/-- A matrix of extended reals. -/
abbrev M (r c : ℕ) := Fin r → Fin c → EReal

/-- The leaky linear unit with slope `a` below zero. -/
def leaky (a x : EReal) : EReal := if 0 ≤ x then x else a * x
/-- The matrix product. -/
def mul {r k c : ℕ} (x : M r k) (w : M k c) : M r c := fun i j => ∑ q, x i q * w q j
/-- One graph layer: the adjacency matrix times the features times the weights, plus the bias, through the unit. -/
def layer {n k h : ℕ} (adj : M n n) (x : M n k) (w : M k h) (b : Fin h → EReal) (a : EReal) : M n h :=
  fun i j => leaky a (mul adj (mul x w) i j + b j)
/-- The discriminator's vector: the weights times the squashed column means. -/
def weigh {n h : ℕ} (c : EReal) (wb : M h h) (x : M n h) : Fin h → EReal :=
  fun i => ∑ k, wb i k * Ideal.logistic ((∑ r, x r k) * c)
/-- The scores of the rows. -/
def score {n h : ℕ} (v : Fin h → EReal) (bb : EReal) (x : M n h) : Fin n → EReal := fun i => ∑ k, v k * x i k + bb
/-- A row's sum without its diagonal element. -/
def off {n : ℕ} (r : M n n) (i : Fin n) : EReal := ∑ k, r i k - r i i
/-- The embedding less its neighbours' mean, as the kernel computes it. -/
def resid {n h : ℕ} (r : M n n) (e : M n h) : M n h := fun i j =>
  e i j - if off r i = 0 then 0 else Ideal.div (∑ k, r i k * e k j - r i i * e i j) (if off r i = 0 then 1 else off r i)
/-- The logits of a residual. -/
def logits {n h : ℕ} (wf : Fin h → EReal) (x : M n h) : Fin n → EReal := fun i => ∑ k, wf k * x i k

/-- The raw matrix without its diagonal, as the reference computes it. -/
def bare {n : ℕ} (r : M n n) : M n n := fun i k => r i k * (1 - if i = k then 1 else 0)
/-- The same, each row divided by its sum, an infinite quotient replaced by zero. -/
def normal {n : ℕ} (r : M n n) : M n n := fun i k =>
  if max (Ideal.div (bare r i k) (∑ q, bare r i q)) (-Ideal.div (bare r i k) (∑ q, bare r i q)) = ⊤ then 0
  else Ideal.div (bare r i k) (∑ q, bare r i q)
/-- The embedding less its neighbours' mean, as the reference computes it. -/
def residHost {n h : ℕ} (r : M n n) (e : M n h) : M n h := fun i j => e i j - ∑ k, e k j * normal r i k

/-- A finite extended real. -/
def Fin' (x : EReal) : Prop := ∃ r : ℝ, x = (r : EReal)

/-- The programs' inputs as matrices, but for the two prompts and their weights. -/
structure In where
  s1 : M 4096 256
  s2 : M 4096 256
  adj : M 4096 4096
  raw : M 4096 4096
  w1 : M 256 64
  b1 : Fin 64 → EReal
  a1 : EReal
  w2 : M 64 64
  b2 : Fin 64 → EReal
  a2 : EReal
  wb : M 64 64
  bb : EReal
  wf : Fin 64 → EReal

namespace In
variable (I : In)
/-- The first layer on features `x`, and the second layer on that. -/
def h (x : M 4096 256) : M 4096 64 := layer I.adj x I.w1 I.b1 I.a1
def e (x : M 4096 256) : M 4096 64 := layer I.adj (I.h x) I.w2 I.b2 I.a2
/-- The discriminator's vector. -/
def v : Fin 64 → EReal := weigh (Ideal.ofBits .f32 0x39800000#32) I.wb (I.h I.s1)
/-- The scores: the first features' hidden rows, then the second features' embedded rows. -/
def ret (n : Fin 8192) : EReal :=
  if h : n.val < 4096 then score I.v I.bb (I.h I.s1) ⟨n.val, h⟩ else score I.v I.bb (I.e I.s2) ⟨n.val - 4096, by omega⟩
/-- The inputs that the residual is computed from are finite. -/
structure Finite : Prop where
  s1 : ∀ i j, Fin' (I.s1 i j)
  adj : ∀ i j, Fin' (I.adj i j)
  raw : ∀ i j, Fin' (I.raw i j)
  w1 : ∀ i j, Fin' (I.w1 i j)
  b1 : ∀ j, Fin' (I.b1 j)
  a1 : Fin' I.a1
  w2 : ∀ i j, Fin' (I.w2 i j)
  b2 : ∀ j, Fin' (I.b2 j)
  a2 : Fin' I.a2
end In

/-! ### On finite data -/

theorem Fin'.add {x y : EReal} (hx : Fin' x) (hy : Fin' y) : Fin' (x + y) := by
  obtain ⟨a, rfl⟩ := hx; obtain ⟨b, rfl⟩ := hy; exact ⟨a + b, by push_cast; rfl⟩
theorem Fin'.mul {x y : EReal} (hx : Fin' x) (hy : Fin' y) : Fin' (x * y) := by
  obtain ⟨a, rfl⟩ := hx; obtain ⟨b, rfl⟩ := hy; exact ⟨a * b, by push_cast; rfl⟩
theorem coe_sum' {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]
theorem Fin'.sum {ι : Type} (s : Finset ι) (f : ι → EReal) (h : ∀ i, Fin' (f i)) : Fin' (∑ i ∈ s, f i) := by
  choose g hg using h
  exact ⟨∑ i ∈ s, g i, by rw [coe_sum']; exact Finset.sum_congr rfl fun i _ => hg i⟩
theorem Fin'.leaky {a x : EReal} (ha : Fin' a) (hx : Fin' x) : Fin' (leaky a x) := by
  unfold Spec.leaky; split
  · exact hx
  · exact ha.mul hx
theorem fin_mul {r k c : ℕ} {x : M r k} {w : M k c} (hx : ∀ i j, Fin' (x i j)) (hw : ∀ i j, Fin' (w i j)) (i : Fin r) (j : Fin c) :
    Fin' (mul x w i j) := Fin'.sum _ _ fun q => (hx i q).mul (hw q j)
theorem fin_layer {n k h : ℕ} {adj : M n n} {x : M n k} {w : M k h} {b : Fin h → EReal} {a : EReal} (hadj : ∀ i j, Fin' (adj i j))
    (hx : ∀ i j, Fin' (x i j)) (hw : ∀ i j, Fin' (w i j)) (hb : ∀ j, Fin' (b j)) (ha : Fin' a) (i : Fin n) (j : Fin h) :
    Fin' (layer adj x w b a i j) :=
  Fin'.leaky ha ((fin_mul hadj (fun i j => fin_mul hx hw i j) i j).add (hb j))

theorem bare_sum {n : ℕ} (ρ : Fin n → Fin n → ℝ) (i : Fin n) (f : Fin n → ℝ) :
    ∑ k, ρ i k * (1 - if i = k then (1 : ℝ) else 0) * f k = ∑ k, ρ i k * f k - ρ i i * f i := by
  have : ∀ k, ρ i k * (1 - if i = k then (1 : ℝ) else 0) * f k = ρ i k * f k - (if i = k then ρ i i * f i else 0) := by
    intro k; by_cases h : i = k
    · subst h; simp
    · simp [h]
  rw [Finset.sum_congr rfl fun k _ => this k, Finset.sum_sub_distrib]
  simp

theorem ereal_if {p : Prop} [Decidable p] : (1 : EReal) - (if p then 1 else 0) = ((1 - if p then (1 : ℝ) else 0 : ℝ) : EReal) := by
  rw [EReal.coe_sub]; split <;> rfl

/-- The two spellings of the residual agree on finite data. -/
theorem resid_eq {n h : ℕ} (r : M n n) (e : M n h) (hr : ∀ i j, Fin' (r i j)) (he : ∀ i j, Fin' (e i j)) : resid r e = residHost r e := by
  choose ρ hρ using hr
  choose ε hε using he
  funext i j
  have hb : ∀ k, bare r i k = ((ρ i k * (1 - if i = k then (1 : ℝ) else 0) : ℝ) : EReal) := by
    intro k; unfold bare; rw [hρ, ereal_if, ← EReal.coe_mul]
  have hoff : off r i = ((∑ k, ρ i k - ρ i i : ℝ) : EReal) := by
    unfold off; rw [hρ i i, Finset.sum_congr rfl fun k _ => hρ i k, ← coe_sum', ← EReal.coe_sub]
  have hsum : ∑ q, bare r i q = ((∑ k, ρ i k - ρ i i : ℝ) : EReal) := by
    rw [Finset.sum_congr rfl fun k _ => hb k, ← coe_sum']
    have := bare_sum ρ i fun _ => 1
    simp only [mul_one] at this
    rw [this]
  have hnum : ∑ k, r i k * e k j - r i i * e i j = ((∑ k, ρ i k * ε k j - ρ i i * ε i j : ℝ) : EReal) := by
    rw [hρ i i, hε i j, Finset.sum_congr rfl fun k _ => show r i k * e k j = ((ρ i k * ε k j : ℝ) : EReal) by rw [hρ, hε, EReal.coe_mul],
      ← coe_sum', ← EReal.coe_mul, ← EReal.coe_sub]
  unfold resid residHost
  congr 1
  by_cases hc : (∑ k, ρ i k - ρ i i : ℝ) = 0
  · have hz : off r i = 0 := by rw [hoff, hc]; rfl
    rw [if_pos hz]
    symm
    refine Finset.sum_eq_zero fun k _ => ?_
    have : normal r i k = 0 := by
      unfold normal
      rw [hsum, hc]
      simp only [EReal.coe_zero, Ideal.div, if_true]
      split_ifs <;> simp_all
    rw [this, mul_zero]
  · have hz : off r i ≠ 0 := by rw [hoff]; exact_mod_cast hc
    have hz' : ((∑ k, ρ i k - ρ i i : ℝ) : EReal) ≠ 0 := by exact_mod_cast hc
    rw [if_neg hz, if_neg hz, hnum, hoff]
    generalize hcc : (∑ k, ρ i k - ρ i i : ℝ) = c at *
    have hn : ∀ k, normal r i k = ((ρ i k * (1 - if i = k then (1 : ℝ) else 0) * c⁻¹ : ℝ) : EReal) := by
      intro k
      unfold normal
      rw [hsum, hb]
      have : Ideal.div ((ρ i k * (1 - if i = k then (1 : ℝ) else 0) : ℝ) : EReal) (c : EReal)
          = ((ρ i k * (1 - if i = k then (1 : ℝ) else 0) * c⁻¹ : ℝ) : EReal) := by
        unfold Ideal.div; rw [if_neg hz', ← EReal.coe_inv, ← EReal.coe_mul]
      rw [this, if_neg]
      rw [← EReal.coe_neg]
      intro hm
      rcases max_choice ((ρ i k * (1 - if i = k then (1 : ℝ) else 0) * c⁻¹ : ℝ) : EReal) ((-(ρ i k * (1 - if i = k then (1 : ℝ) else 0) * c⁻¹) : ℝ) : EReal) with h | h <;>
        rw [h] at hm <;> exact EReal.coe_ne_top _ hm
    rw [Finset.sum_congr rfl fun k _ => show e k j * normal r i k = ((ρ i k * (1 - if i = k then (1 : ℝ) else 0) * (ε k j * c⁻¹) : ℝ) : EReal) by
      rw [hn, hε, ← EReal.coe_mul]; congr 1; ring, ← coe_sum', bare_sum ρ i fun k => ε k j * c⁻¹]
    unfold Ideal.div
    rw [if_neg hz', ← EReal.coe_inv, ← EReal.coe_mul]
    congr 1
    rw [sub_mul, Finset.sum_mul]
    congr 1
    · exact Finset.sum_congr rfl fun k _ => by ring
    · ring

/-- So they agree on the embedding of finite inputs. -/
theorem In.Finite.resid_eq {I : In} (h : I.Finite) : resid I.raw (I.e I.s1) = residHost I.raw (I.e I.s1) :=
  Spec.resid_eq _ _ h.raw fun i j => fin_layer h.adj (fun i j => fin_layer h.adj h.s1 h.w1 h.b1 h.a1 i j) h.w2 h.b2 h.a2 i j

end Cert.Spec
-- ==== Proof.Pay.lean ====
/-
  The kernel's payloads over the extended reals, each read at one element.
-/
module

public import proofs.«01_k».proof.Proof.Data
public import proofs.«01_k».proof.Proof.Spec

@[expose] public section

noncomputable section

namespace Cert.KernelIdeal.Pay

open Cert.KernelIdeal Cert.KernelIdeal.Gen Idealize.ShloMosaic
open scoped BigOperators

/-- Column `h` of the left half of 128 columns, and of the right half. -/
def lo (h : Fin 64) : Fin 128 := ⟨h.val, by omega⟩
def hi (h : Fin 64) : Fin 128 := ⟨64 + h.val, by omega⟩

/-- A layer's row before the cut into halves: the common form of three payloads. -/
def unit (a : EReal) (x : Fin 4096 → EReal) (w : Fin 4096 → EReal) (b : EReal) : EReal := Spec.leaky a (∑ k, x k * w k + b)

section Layers
variable (s t : Vec Ideal S512x256 .f32) (w u : Vec Ideal S256x64 .f32)
variable (b c : Vec Ideal S1x64 .f32) (x : Vec Ideal S512x4096 .f32) (f : Vec Ideal S4096x128 .f32) (a : Vec Ideal S1x1 .f32)
variable (i : Fin 512) (h : Fin 64)

theorem pay1_lo : k0_pay1 (F := Ideal) s w t u (ix2 i (lo h)) = ∑ k, s (ix2 i k) * w (ix2 k h) := by
  pointwise [k0_pay1]
  exact dif_pos h.isLt
theorem pay1_hi : k0_pay1 (F := Ideal) s w t u (ix2 i (hi h)) = ∑ k, t (ix2 i k) * u (ix2 k h) := by
  pointwise [k0_pay1]
  rw [dif_neg (by show ¬ 64 + h.val < 64; omega)]
  have e : ∀ p, (⟨(hi h).val - 64, p⟩ : Fin 64) = h := fun p => Fin.ext (by show 64 + h.val - 64 = h.val; omega)
  simp only [e]

theorem pay14_lo : k0_pay14 (F := Ideal) b c x f a (ix2 i (lo h)) = unit (a (ix2 0 0)) (fun k => x (ix2 i k)) (fun k => f (ix2 k (lo h))) (b (ix2 0 h)) := by
  unfold unit Spec.leaky
  pointwise [k0_pay14]
  rw [dif_pos (show (lo h).val < 64 from h.isLt)]
  rfl
theorem pay14_hi : k0_pay14 (F := Ideal) b c x f a (ix2 i (hi h)) = unit (a (ix2 0 0)) (fun k => x (ix2 i k)) (fun k => f (ix2 k (hi h))) (c (ix2 0 h)) := by
  unfold unit Spec.leaky
  pointwise [k0_pay14]
  rw [dif_neg (by show ¬ 64 + h.val < 64; omega)]
  have e : ∀ p, (⟨(hi h).val - 64, p⟩ : Fin 64) = h := fun p => Fin.ext (by show 64 + h.val - 64 = h.val; omega)
  simp only [e]
theorem pay18_eq : k0_pay18 (F := Ideal) x b c f a = k0_pay14 b c x f a := by
  funext z
  rw [ValueIdx.eq_ix2 z, ← ix2_eq_valueIdx]
  pointwise [k0_pay18, k0_pay14]
theorem pay21_eq : k0_pay21 (F := Ideal) x b c f a = k0_pay14 b c x f a := by
  funext z
  rw [ValueIdx.eq_ix2 z, ← ix2_eq_valueIdx]
  pointwise [k0_pay21, k0_pay14]
theorem pay13_eq : k0_pay13 (F := Ideal) x = x := by
  funext z
  rw [ValueIdx.eq_ix2 z, ← ix2_eq_valueIdx]
  pointwise [k0_pay13]
theorem pay17_eq : k0_pay17 (F := Ideal) x = x := by
  funext z
  rw [ValueIdx.eq_ix2 z, ← ix2_eq_valueIdx]
  pointwise [k0_pay17]

/-- The left half of a layer's rows. -/
theorem pay15_apply : k0_pay15 (F := Ideal) b c x f a (ix2 i h) = k0_pay14 b c x f a (ix2 i (lo h)) := by
  unfold k0_pay15; generalize k0_pay14 b c x f a = y; pointwise []; rfl
theorem pay19_apply : k0_pay19 (F := Ideal) x b c f a (ix2 i h) = k0_pay14 b c x f a (ix2 i (lo h)) := by
  unfold k0_pay19; rw [pay18_eq]; generalize k0_pay14 b c x f a = y; pointwise []; rfl
theorem pay22_apply : k0_pay22 (F := Ideal) x b c f a (ix2 i h) = k0_pay14 b c x f a (ix2 i (lo h)) := by
  unfold k0_pay22; rw [pay21_eq]; generalize k0_pay14 b c x f a = y; pointwise []; rfl
/-- The left half beside ones. -/
theorem pay20_lo : k0_pay20 (F := Ideal) x b c f a (ix2 i (lo h)) = k0_pay14 b c x f a (ix2 i (lo h)) := by
  unfold k0_pay20; rw [pay18_eq]; generalize k0_pay14 b c x f a = y; pointwise []
  exact dif_pos h.isLt
theorem pay20_hi : k0_pay20 (F := Ideal) x b c f a (ix2 i (hi h)) = 1 := by
  unfold k0_pay20; rw [pay18_eq]; generalize k0_pay14 b c x f a = y; pointwise []
  exact dif_neg (by show ¬ 64 + h.val < 64; omega)
theorem pay23_lo : k0_pay23 (F := Ideal) x b c f a (ix2 i (lo h)) = k0_pay14 b c x f a (ix2 i (lo h)) := by
  unfold k0_pay23; rw [pay21_eq]; generalize k0_pay14 b c x f a = y; pointwise []
  exact dif_pos h.isLt
theorem pay23_hi : k0_pay23 (F := Ideal) x b c f a (ix2 i (hi h)) = 1 := by
  unfold k0_pay23; rw [pay21_eq]; generalize k0_pay14 b c x f a = y; pointwise []
  exact dif_neg (by show ¬ 64 + h.val < 64; omega)

/-- The two halves times the second weights. -/
theorem pay4_lo (p q : Vec Ideal S64x64 .f32) :
    k0_pay4 (F := Ideal) (k0_pay16 b c x f a p q) (ix2 i (lo h)) = ∑ k, k0_pay14 b c x f a (ix2 i (lo k)) * p (ix2 k h) := by
  unfold k0_pay16; generalize k0_pay14 b c x f a = y; pointwise [k0_pay4]
  rw [dif_pos (show (lo h).val < 64 from h.isLt)]
  rfl
theorem pay4_hi (p q : Vec Ideal S64x64 .f32) :
    k0_pay4 (F := Ideal) (k0_pay16 b c x f a p q) (ix2 i (hi h)) = ∑ k, k0_pay14 b c x f a (ix2 i (hi k)) * q (ix2 k h) := by
  unfold k0_pay16; generalize k0_pay14 b c x f a = y; pointwise [k0_pay4]
  rw [dif_neg (by show ¬ 64 + h.val < 64; omega)]
  have e : ∀ p, (⟨(hi h).val - 64, p⟩ : Fin 64) = h := fun p => Fin.ext (by show 64 + h.val - 64 = h.val; omega)
  simp only [e]
  rfl
end Layers

/-! ### The column sums, the discriminator's vector and the scores -/

theorem pay5_apply (h : Fin 64) : k0_pay5 (F := Ideal) (ix2 0 h) = 0 := by
  pointwise [k0_pay5]
theorem pay6_apply (y : Vec Ideal S512x128 .f32) (w : Vec Ideal S1x64 .f32) (h : Fin 64) :
    k0_pay6 (F := Ideal) y w (ix2 0 h) = w (ix2 0 h) + ∑ r, y (ix2 r (lo h)) := by
  pointwise [k0_pay6]
  rfl
theorem pay7_apply (x : Vec Ideal S1x64 .f32) (w : Vec Ideal S64x64 .f32) (h : Fin 64) :
    k0_pay7 (F := Ideal) x w (ix2 h 0) = ∑ k, w (ix2 h k) * Ideal.logistic (x (ix2 0 k) * Ideal.ofBits .f32 0x39800000#32) := by
  pointwise [k0_pay7]

section Scores
variable (v : Vec Ideal S64x1 .f32) (bb : Vec Ideal S1x1 .f32) (i : Fin 512)
theorem pay9_apply (h : Vec Ideal S512x64 .f32) : k0_pay9 (F := Ideal) v bb h (ix2 0 i) = ∑ k, v (ix2 k 0) * h (ix2 i k) + bb (ix2 0 0) := by
  pointwise [k0_pay9, k0_pay8]
theorem pay25_apply (h : Vec Ideal S512x64 .f32) : k0_pay25 (F := Ideal) v bb h (ix2 0 i) = ∑ k, v (ix2 k 0) * h (ix2 i k) + bb (ix2 0 0) := by
  pointwise [k0_pay25, k0_pay24]
theorem pay10_apply (y : Vec Ideal S512x128 .f32) : k0_pay10 (F := Ideal) y v bb (ix2 0 i) = ∑ k, v (ix2 k 0) * y (ix2 i (hi k)) + bb (ix2 0 0) := by
  pointwise [k0_pay10, k0_pay8]
  rfl
theorem pay26_apply (b c : Vec Ideal S1x64 .f32) (x : Vec Ideal S512x4096 .f32) (f : Vec Ideal S4096x128 .f32) (a : Vec Ideal S1x1 .f32) :
    k0_pay26 (F := Ideal) x b c f a v bb (ix2 0 i) = ∑ k, v (ix2 k 0) * k0_pay14 b c x f a (ix2 i (hi k)) + bb (ix2 0 0) := by
  unfold k0_pay26; rw [pay21_eq]; generalize k0_pay14 b c x f a = y; pointwise [k0_pay24]
  rfl
end Scores

/-! ### The residual and the logits -/

/-- The sum over a row of a square block, kept on the diagonal only. -/
theorem diag (q : Vec Ideal S512x512 .f32) (i : Fin 512) :
    ∑ x, Scalar.select (IntOp.cmpi .eq (BitVec.ofNat 32 i.val) (BitVec.ofNat 32 (x : Fin 512).val)) (q (ix2 i x)) (0 : EReal) = q (ix2 i i) := by
  rw [Finset.sum_eq_single i]
  · simp [Scalar.select, IntOp.cmpi]
  · intro k _ hk
    have h' : BitVec.ofNat 32 i.val ≠ BitVec.ofNat 32 k.val := by
      intro e
      have := congrArg BitVec.toNat e
      simp only [BitVec.toNat_ofNat] at this
      exact hk (Fin.ext (by omega))
    simp only [Scalar.select, IntOp.cmpi, beq_eq_false_iff_ne.mpr h']
    rfl
  · intro h; exact absurd (Finset.mem_univ i) h

theorem pay11_apply (x : Vec Ideal S512x4096 .f32) (w : Vec Ideal S4096x128 .f32) (q : Vec Ideal S512x512 .f32) (o : Vec Ideal S512x64 .f32)
    (i : Fin 512) (h : Fin 64) (C : EReal) (hC : ∑ k, x (ix2 i k) * w (ix2 k (hi 0)) - q (ix2 i i) = C) :
    k0_pay11 (F := Ideal) x w q o (ix2 i h)
      = o (ix2 i h) - if C = 0 then 0 else Ideal.div (∑ k, x (ix2 i k) * w (ix2 k (lo h)) - q (ix2 i i) * o (ix2 i h)) (if C = 0 then 1 else C) := by
  subst hC
  pointwise [k0_pay11]
  rw [diag]
  rfl
theorem pay12_apply (x : Vec Ideal S512x4096 .f32) (w : Vec Ideal S4096x128 .f32) (q : Vec Ideal S512x512 .f32) (o : Vec Ideal S512x64 .f32)
    (f : Vec Ideal S64x1 .f32) (i : Fin 512) : k0_pay12 (F := Ideal) x w q o f (ix2 0 i) = ∑ k, f (ix2 k 0) * k0_pay11 x w q o (ix2 i k) := by
  unfold k0_pay12; generalize k0_pay11 x w q o = y; pointwise []

end Cert.KernelIdeal.Pay
-- ==== Proof.Value.lean ====
/-
  The arrays the kernel builds block by block, over the extended reals, are the ones of `Spec`.
-/
module

public import proofs.«01_k».proof.Proof.Pay

@[expose] public section

noncomputable section

namespace Cert.KernelIdeal.Hand

open Cert.KernelIdeal Cert.KernelIdeal.Gen Cert.KernelIdeal.Pay Idealize.ShloMosaic
open scoped BigOperators

/-- Row `p` of block `j`. -/
def row (j : ℕ) (p : Fin 512) : Fin 4096 := ⟨(512 * j + p.val) % 4096, Nat.mod_lt _ (by decide)⟩

theorem eq_row (i : Fin 4096) : i = row (i.val / 512) ⟨i.val % 512, Nat.mod_lt _ (by decide)⟩ :=
  Fin.ext (by show i.val = (512 * (i.val / 512) + i.val % 512) % 4096; omega)

theorem blk_apply {n : ℕ} {α : Type} (X : (⟨2, ![4096, n]⟩ : Shape).Idx → α) (j : ℕ) (p : Fin 512) (q : Fin n) : blk X j (ix2 p q) = X (ix2 (row j p) q) := by
  rw [ix2_eq_valueIdx, ix2_eq_valueIdx]; rfl
theorem rows_apply {n : ℕ} {α : Type} (B : ℕ → (⟨2, ![512, n]⟩ : Shape).Idx → α) (j : ℕ) (hj : j < 8) (p : Fin 512) (q : Fin n) :
    rows B (ix2 (row j p) q) = B j (ix2 p q) := by
  rw [← blk_apply (rows B) j p q, blk_rows B j hj]
theorem cols_apply {N : ℕ} {α : Type} (B : ℕ → (⟨2, ![1, 512]⟩ : Shape).Idx → α) (n : Fin N) :
    cols N B (ix2 0 n) = B (n.val / 512) (ix2 0 (⟨n.val % 512, Nat.mod_lt _ (by decide)⟩ : Fin 512)) := by
  rw [ix2_eq_valueIdx, ix2_eq_valueIdx]; rfl
/-- A property of every row of every block is one of every row. -/
theorem forall_row {P : Fin 4096 → Prop} (h : ∀ j, j < 8 → ∀ p, P (row j p)) (i : Fin 4096) : P i := by
  rw [eq_row i]; exact h _ (by omega) _

namespace Arr
variable (A : Arr Ideal)

/-- The kernel's operands as matrices. -/
def inp : Spec.In where
  s1 := fun i k => A.s1 (ix2 i k)
  s2 := fun i k => A.s2 (ix2 i k)
  adj := fun i k => A.adj (ix2 i k)
  raw := fun i k => A.raw (ix2 i k)
  w1 := fun i k => A.W1 (ix2 i k)
  b1 := fun j => A.b1 (ix2 0 j)
  a1 := A.a1 (ix2 0 0)
  w2 := fun i k => A.W2 (ix2 i k)
  b2 := fun j => A.b2 (ix2 0 j)
  a2 := A.a2 (ix2 0 0)
  wb := fun i k => A.Wb (ix2 i k)
  bb := A.bb (ix2 0 0)
  wf := fun k => A.Wf (ix2 k 0)

/-! ### The two layers -/

theorem ft_lo (h : Fin 64) : ∀ i, A.FT (ix2 i (lo h)) = Spec.mul A.inp.s1 A.inp.w1 i h := by
  refine forall_row fun j hj p => ?_
  unfold FT FTB
  rw [rows_apply _ j hj, pay1_lo]
  simp only [blk_apply]
  rfl
theorem ft_hi (h : Fin 64) : ∀ i, A.FT (ix2 i (hi h)) = Spec.mul A.inp.s2 A.inp.w1 i h := by
  refine forall_row fun j hj p => ?_
  unfold FT FTB
  rw [rows_apply _ j hj, pay1_hi]
  simp only [blk_apply]
  rfl
theorem layer1_lo (j : ℕ) (p : Fin 512) (h : Fin 64) : k0_pay14 A.b1 A.b1 (blk A.adj j) A.FT A.a1 (ix2 p (lo h)) = A.inp.h A.inp.s1 (row j p) h := by
  rw [pay14_lo]
  simp only [blk_apply, ft_lo]
  rfl
theorem layer1_hi (j : ℕ) (p : Fin 512) (h : Fin 64) : k0_pay14 A.b1 A.b1 (blk A.adj j) A.FT A.a1 (ix2 p (hi h)) = A.inp.h A.inp.s2 (row j p) h := by
  rw [pay14_hi]
  simp only [blk_apply, ft_hi]
  rfl
theorem h1b_apply (j : ℕ) (p : Fin 512) (h : Fin 64) : A.H1B j (ix2 p h) = A.inp.h A.inp.s1 (row j p) h := by
  unfold H1B; rw [pay15_apply, layer1_lo]
theorem x_lo (h : Fin 64) : ∀ i, A.X (ix2 i (lo h)) = Spec.mul (A.inp.h A.inp.s1) A.inp.w2 i h := by
  refine forall_row fun j hj p => ?_
  unfold X XB
  rw [rows_apply _ j hj, pay4_lo]
  exact Finset.sum_congr rfl fun k _ => congrArg (· * _) (A.layer1_lo j p k)
theorem x_hi (h : Fin 64) : ∀ i, A.X (ix2 i (hi h)) = Spec.mul (A.inp.h A.inp.s2) A.inp.w2 i h := by
  refine forall_row fun j hj p => ?_
  unfold X XB
  rw [rows_apply _ j hj, pay4_hi]
  exact Finset.sum_congr rfl fun k _ => congrArg (· * _) (A.layer1_hi j p k)
theorem layer2_lo (j : ℕ) (p : Fin 512) (h : Fin 64) : k0_pay14 A.b2 A.b2 (blk A.adj j) A.X A.a2 (ix2 p (lo h)) = A.inp.e A.inp.s1 (row j p) h := by
  rw [pay14_lo]
  simp only [blk_apply, x_lo]
  rfl
theorem layer2_hi (j : ℕ) (p : Fin 512) (h : Fin 64) : k0_pay14 A.b2 A.b2 (blk A.adj j) A.X A.a2 (ix2 p (hi h)) = A.inp.e A.inp.s2 (row j p) h := by
  rw [pay14_hi]
  simp only [blk_apply, x_hi]
  rfl
theorem embb_apply (j : ℕ) (p : Fin 512) (h : Fin 64) : A.EMBB j (ix2 p h) = A.inp.e A.inp.s1 (row j p) h := by
  unfold EMBB kept
  split
  · rw [pay19_apply, pay17_eq, layer2_lo]
  · rw [pay22_apply, pay13_eq, layer2_lo]
theorem emb_apply (h : Fin 64) : ∀ i, rows A.EMBB (ix2 i h) = A.inp.e A.inp.s1 i h :=
  forall_row fun j hj p => by rw [rows_apply _ j hj, embb_apply]
theorem ft2_lo (h : Fin 64) : ∀ i, A.FT2 (ix2 i (lo h)) = A.inp.e A.inp.s1 i h := by
  refine forall_row fun j hj p => ?_
  unfold FT2
  rw [rows_apply _ j hj]
  unfold FT2B kept
  split
  · rw [pay20_lo, pay17_eq, layer2_lo]
  · rw [pay23_lo, pay13_eq, layer2_lo]
theorem ft2_hi (h : Fin 64) : ∀ i, A.FT2 (ix2 i (hi h)) = 1 := by
  refine forall_row fun j hj p => ?_
  unfold FT2
  rw [rows_apply _ j hj]
  unfold FT2B kept
  split
  · rw [pay20_hi]
  · rw [pay23_hi]

/-! ### The scores -/

theorem hs_apply (h : Fin 64) (k : ℕ) : A.HS k (ix2 0 h) = ∑ j ∈ Finset.range k, ∑ p, A.inp.h A.inp.s1 (row j p) h := by
  induction k with
  | zero => exact pay5_apply h
  | succ k ih =>
    rw [Finset.sum_range_succ, ← ih]
    show k0_pay6 _ (A.HS k) (ix2 0 h) = _
    rw [pay6_apply]
    exact congrArg (_ + ·) (Finset.sum_congr rfl fun p _ => A.layer1_lo k p h)
theorem hs8_apply (h : Fin 64) : A.HS 8 (ix2 0 h) = ∑ i, A.inp.h A.inp.s1 i h := by
  rw [hs_apply, Fin.sum_univ_tiles 8 512 rfl, Finset.sum_range]
  refine Finset.sum_congr rfl fun j _ => Finset.sum_congr rfl fun p _ => ?_
  have : row j.val p = ⟨j.val * 512 + p.val, by omega⟩ := Fin.ext (by show (512 * j.val + p.val) % 4096 = j.val * 512 + p.val; omega)
  rw [this]
theorem v_apply (h : Fin 64) : A.V (ix2 h 0) = A.inp.v h := by
  unfold V
  rw [pay7_apply]
  simp only [hs8_apply]
  rfl
theorem retb_lo (b : ℕ) (hb : b < 8) (p : Fin 512) : A.RETB b (ix2 0 p) = Spec.score A.inp.v A.inp.bb (A.inp.h A.inp.s1) (row b p) := by
  unfold RETB
  rw [if_pos hb]
  split
  · rw [pay9_apply]; simp only [v_apply, h1b_apply]; rfl
  · rw [pay25_apply]; simp only [v_apply, h1b_apply]; rfl
theorem retb_hi (b : ℕ) (hb : ¬ b < 8) (p : Fin 512) : A.RETB b (ix2 0 p) = Spec.score A.inp.v A.inp.bb (A.inp.e A.inp.s2) (row (b - 8) p) := by
  unfold RETB kept
  rw [if_neg hb]
  split
  · rw [pay10_apply, pay18_eq, pay17_eq]; simp only [v_apply]; exact congrArg (· + _) (Finset.sum_congr rfl fun k _ => congrArg (_ * ·) (A.layer2_hi (b - 8) p k))
  · rw [pay26_apply, pay13_eq]; simp only [v_apply]; exact congrArg (· + _) (Finset.sum_congr rfl fun k _ => congrArg (_ * ·) (A.layer2_hi (b - 8) p k))
theorem ret_apply (n : Fin 8192) : cols 8192 A.RETB (ix2 0 n) = A.inp.ret n := by
  rw [cols_apply]
  unfold Spec.In.ret
  split_ifs with h
  · rw [retb_lo _ _ (by omega), ← eq_row ⟨n.val, h⟩]
  · rw [retb_hi _ _ (by omega)]
    refine congrArg (Spec.score A.inp.v A.inp.bb (A.inp.e A.inp.s2)) ?_
    refine Fin.ext ?_
    unfold row
    dsimp only
    omega

/-! ### The residual and the logits -/

theorem sq_apply (j : ℕ) (p : Fin 512) : A.sq j (ix2 p p) = A.inp.raw (row j p) (row j p) := by
  show A.sq j (ix2 p p) = A.raw (ix2 (row j p) (row j p))
  rw [ix2_eq_valueIdx, ix2_eq_valueIdx]; rfl
theorem own_apply (j : ℕ) (p : Fin 512) (h : Fin 64) : A.own j (ix2 p h) = A.inp.e A.inp.s1 (row j p) h := by
  rw [← ft2_lo, ix2_eq_valueIdx, ix2_eq_valueIdx]; rfl
theorem resb_apply (j : ℕ) (p : Fin 512) (h : Fin 64) :
    k0_pay11 (blk A.raw j) A.FT2 (A.sq j) (A.own j) (ix2 p h) = Spec.resid A.inp.raw (A.inp.e A.inp.s1) (row j p) h := by
  rw [pay11_apply _ _ _ _ _ _ (Spec.off A.inp.raw (row j p)) (by simp only [blk_apply, ft2_hi, mul_one, sq_apply]; rfl)]
  simp only [blk_apply, ft2_lo, sq_apply, own_apply]
  rfl
theorem resid_apply (h : Fin 64) : ∀ i, rows A.RESB (ix2 i h) = Spec.resid A.inp.raw (A.inp.e A.inp.s1) i h :=
  forall_row fun j hj p => by rw [rows_apply _ j hj]; exact A.resb_apply j p h
theorem logit_apply (n : Fin 4096) : cols 4096 A.LOGB (ix2 0 n) = Spec.logits A.inp.wf (Spec.resid A.inp.raw (A.inp.e A.inp.s1)) n := by
  rw [cols_apply]
  unfold LOGB
  rw [pay12_apply]
  rw [Finset.sum_congr rfl fun k _ => congrArg (A.Wf (ix2 k 0) * ·) (A.resb_apply (n.val / 512) _ k), ← eq_row n]
  rfl
end Arr
end Cert.KernelIdeal.Hand
-- ==== Proof.Ref.lean ====
/-
  The reference's results over the extended reals, read at one element.
-/
module

public import proofs.«01_k».proof.Proof.Gen.ReferenceIdeal.Run
public import proofs.«01_k».proof.Proof.Spec

@[expose] public section

noncomputable section

namespace Cert.ReferenceIdeal.Hand

open Cert.ReferenceIdeal Cert.ReferenceIdeal.Gen Idealize.ShloMosaic Idealize.ShloMosaic.TcCoe Idealize.SL.Sem
open scoped BigOperators

section Parts
variable {F : FTy → Type} [FloatOps F]

/-- One layer, of features already multiplied by the weights. -/
def lay (adj : FVec F S1x4096x4096 .f32) (x : FVec F S1x4096x64 .f32) (b : FVec F S64 .f32) (a : FVec F S_ .f32) : FVec F S1x4096x64 .f32 :=
  select (cmpf .oge (addf (Host.dotGeneral dot_S1x4096x4096_S1x4096x64_S1x4096x64_2_1_1_2_0_0 none adj x) (broadcastInDim S1x4096x64 ![0, 1, 2] bcast_S1x1x64_S1x4096x64_0_1_2 (broadcastInDim S1x1x64 ![2] bcast_S64_S1x1x64_2 b))) (broadcastInDim S1x4096x64 ![] bcast_S_S1x4096x64 (constant S_ .f32 0x00000000#32)))
    (addf (Host.dotGeneral dot_S1x4096x4096_S1x4096x64_S1x4096x64_2_1_1_2_0_0 none adj x) (broadcastInDim S1x4096x64 ![0, 1, 2] bcast_S1x1x64_S1x4096x64_0_1_2 (broadcastInDim S1x1x64 ![2] bcast_S64_S1x1x64_2 b)))
    (mulf (broadcastInDim S1x4096x64 ![] bcast_S_S1x4096x64 a) (addf (Host.dotGeneral dot_S1x4096x4096_S1x4096x64_S1x4096x64_2_1_1_2_0_0 none adj x) (broadcastInDim S1x4096x64 ![0, 1, 2] bcast_S1x1x64_S1x4096x64_0_1_2 (broadcastInDim S1x1x64 ![2] bcast_S64_S1x1x64_2 b))))
/-- The first features' product with the weights, and the hidden ones'. -/
def fst (s : FVec F S1x4096x256 .f32) (w : FVec F S256x64 .f32) : FVec F S1x4096x64 .f32 := Host.dotGeneral dot_S1x4096x256_S256x64_S1x4096x64_2_0_01_1_n_n none s w
def snd (s : FVec F S1x4096x64 .f32) (w : FVec F S64x64 .f32) : FVec F S1x4096x64 .f32 := Host.dotGeneral dot_S1x4096x64_S64x64_S1x4096x64_2_0_01_1_n_n none s w
/-- The squashed column means. -/
def squash (h : FVec F S1x4096x64 .f32) : FVec F S1x64 .f32 :=
  Host.divf (broadcastInDim S1x64 ![] bcast_S_S1x64 (constant S_ .f32 0x3F800000#32)) (addf (broadcastInDim S1x64 ![] bcast_S_S1x64 (constant S_ .f32 0x3F800000#32)) (Host.exp (Host.negf (Host.divf (Host.reduceAdd h (constant S_ .f32 0x00000000#32) reducesTo_S1x4096x64_S1x64_d1 h_S_) (broadcastInDim S1x64 ![] bcast_S_S1x64 (constant S_ .f32 0x45800000#32))))))
/-- The scores of `x`'s rows against the vector `c`. -/
def sc (x : FVec F S1x4096x64 .f32) (c : FVec F S1x64 .f32) (wb : FVec F S64x64 .f32) (bb : FVec F S_ .f32) : FVec F S1x4096 .f32 :=
  addf (Host.dotGeneral dot_S1x4096x64_S1x64_S1x4096_2_1_1_n_0_0 none x (Host.dotGeneral dot_S1x64_S64x64_S1x64_1_1_0_0_n_n none c wb)) (broadcastInDim S1x4096 ![] bcast_S_S1x4096 bb)
/-- The raw matrix without its diagonal. -/
def bareV (r : FVec F S4096x4096 .f32) : FVec F S4096x4096 .f32 :=
  mulf r (subf (broadcastInDim S4096x4096 ![] bcast_S_S4096x4096 (constant S_ .f32 0x3F800000#32)) (uitofp .f32 (cmpi .eq (addi (iotaInDim S4096x4096 32 0) (broadcastInDim S4096x4096 ![] bcast_S_S4096x4096 (constantI S_ 32 0#32))) (iotaInDim S4096x4096 32 1))))
/-- Its rows divided by their sums. -/
def quot (r : FVec F S4096x4096 .f32) : FVec F S4096x4096 .f32 :=
  Host.divf r (broadcastInDim S4096x4096 ![0, 1] bcast_S4096x1_S4096x4096_0_1 (broadcastInDim S4096x1 ![0] bcast_S4096_S4096x1_0 (Host.reduceAdd r (constant S_ .f32 0x00000000#32) reducesTo_S4096x4096_S4096_d1 h_S_)))
def noInf (q : FVec F S4096x4096 .f32) : FVec F S4096x4096 .f32 :=
  select (cmpf .oeq (Host.absf q) (broadcastInDim S4096x4096 ![] bcast_S_S4096x4096 (constant S_ .f32 0x7F800000#32))) (broadcastInDim S4096x4096 ![] bcast_S_S4096x4096 (id (constant S_ .f32 0x00000000#32))) q
def noNan (q : FVec F S4096x4096 .f32) : FVec F S4096x4096 .f32 :=
  select (cmpf .une q q) (broadcastInDim S4096x4096 ![] bcast_S_S4096x4096 (id (constant S_ .f32 0x00000000#32))) q
/-- The residual of an embedding. -/
def res (e : FVec F S1x4096x64 .f32) (r : FVec F S4096x4096 .f32) : FVec F S1x4096x64 .f32 :=
  subf e (transpose S1x4096x64 [0, 2, 1] (Host.dotGeneral dot_S1x4096x64_S4096x4096_S1x64x4096_1_1_02_0_n_n none e (noNan (noInf (quot (bareV r))))) transposes_S1x64x4096_S1x4096x64_0_2_1)

variable (m : (ℓ : Loc nD τ sig) → Buf (Elt F) ℓ) (c : Dev nD)
def h1 : FVec F S1x4096x64 .f32 := lay (m ((c.tc : Thread nD τ).loc main_arg2)) (fst (m ((c.tc : Thread nD τ).loc main_arg0)) (m ((c.tc : Thread nD τ).loc main_arg6))) (m ((c.tc : Thread nD τ).loc main_arg7)) (m ((c.tc : Thread nD τ).loc main_arg8))
def h2 : FVec F S1x4096x64 .f32 := lay (m ((c.tc : Thread nD τ).loc main_arg2)) (fst (m ((c.tc : Thread nD τ).loc main_arg1)) (m ((c.tc : Thread nD τ).loc main_arg6))) (m ((c.tc : Thread nD τ).loc main_arg7)) (m ((c.tc : Thread nD τ).loc main_arg8))
def e1 : FVec F S1x4096x64 .f32 := lay (m ((c.tc : Thread nD τ).loc main_arg2)) (snd (h1 m c) (m ((c.tc : Thread nD τ).loc main_arg9))) (m ((c.tc : Thread nD τ).loc main_arg10)) (m ((c.tc : Thread nD τ).loc main_arg11))
def e2 : FVec F S1x4096x64 .f32 := lay (m ((c.tc : Thread nD τ).loc main_arg2)) (snd (h2 m c) (m ((c.tc : Thread nD τ).loc main_arg9))) (m ((c.tc : Thread nD τ).loc main_arg10)) (m ((c.tc : Thread nD τ).loc main_arg11))

theorem out2 : Value.res_out2 m c = shapeCast S4096x64 (e1 m c) shapeCasts_S1x4096x64_S4096x64 := rfl
theorem out3 : Value.res_out3 m c = shapeCast S4096x64 (res (e1 m c) (m ((c.tc : Thread nD τ).loc main_arg3))) shapeCasts_S1x4096x64_S4096x64 := rfl
theorem out1 : Value.res_out1 m c = shapeCast S1x4096 (Host.dotGeneral dot_S1x4096x64_S64x1_S1x4096x1_2_0_01_1_n_n none (res (e1 m c) (m ((c.tc : Thread nD τ).loc main_arg3))) (m ((c.tc : Thread nD τ).loc main_arg14))) shapeCasts_S1x4096x1_S1x4096 := rfl
theorem out0 : Value.res_out0 m c = concatenate S1x8192 1 [⟨S1x4096, sc (h1 m c) (squash (h1 m c)) (m ((c.tc : Thread nD τ).loc main_arg12)) (m ((c.tc : Thread nD τ).loc main_arg13))⟩, ⟨S1x4096, sc (e2 m c) (squash (h1 m c)) (m ((c.tc : Thread nD τ).loc main_arg12)) (m ((c.tc : Thread nD τ).loc main_arg13))⟩] concatenates_S1x4096_S1x4096_S1x8192_d1 := rfl
end Parts

theorem lay_apply (adj : FVec Ideal S1x4096x4096 .f32) (x : FVec Ideal S1x4096x64 .f32) (b : FVec Ideal S64 .f32) (a : FVec Ideal S_ .f32) (i : Fin 4096) (j : Fin 64) :
    lay adj x b a (ix3 0 i j) = Spec.leaky (a ix0) (∑ k, adj (ix3 0 i k) * x (ix3 0 k j) + b (ix1 j)) := by
  unfold Spec.leaky
  pointwise [lay]
theorem fst_apply (s : FVec Ideal S1x4096x256 .f32) (w : FVec Ideal S256x64 .f32) (i : Fin 4096) (j : Fin 64) :
    fst s w (ix3 0 i j) = ∑ k, s (ix3 0 i k) * w (ix2 k j) := by
  pointwise [fst]
theorem snd_apply (s : FVec Ideal S1x4096x64 .f32) (w : FVec Ideal S64x64 .f32) (i : Fin 4096) (j : Fin 64) :
    snd s w (ix3 0 i j) = ∑ k, s (ix3 0 i k) * w (ix2 k j) := by
  pointwise [snd]
/-- Dividing by 4096 is multiplying by the kernel's literal. -/
theorem div_4096 (x : EReal) : Ideal.div x (Ideal.ofBits .f32 0x45800000#32) = x * Ideal.ofBits .f32 0x39800000#32 := by
  have h1 : Ideal.ofBits .f32 0x45800000#32 = ((4096 : ℝ) : EReal) := by
    simp [Ideal.ofBits, Ideal.ieee, -EReal.coe_mul]; norm_num
  have h2 : Ideal.ofBits .f32 0x39800000#32 = (((4096 : ℝ)⁻¹ : ℝ) : EReal) := by
    simp [Ideal.ofBits, Ideal.ieee, -EReal.coe_mul]; norm_num
  have h3 : ((4096 : ℝ) : EReal) ≠ 0 := by norm_num
  rw [h1, h2, Ideal.div, if_neg h3, EReal.coe_inv]
theorem squash_apply (h : FVec Ideal S1x4096x64 .f32) (j : Fin 64) :
    squash h (ix2 0 j) = Ideal.logistic ((∑ i, h (ix3 0 i j)) * Ideal.ofBits .f32 0x39800000#32) := by
  pointwise [squash]
  unfold Ideal.logistic
  rw [div_4096]
theorem sc_apply (x : FVec Ideal S1x4096x64 .f32) (c : FVec Ideal S1x64 .f32) (wb : FVec Ideal S64x64 .f32) (bb : FVec Ideal S_ .f32) (i : Fin 4096) :
    sc x c wb bb (ix2 0 i) = ∑ k, (∑ q, wb (ix2 k q) * c (ix2 0 q)) * x (ix3 0 i k) + bb ix0 := by
  pointwise [sc]
  congr 1
  refine Finset.sum_congr rfl fun k _ => ?_
  rw [mul_comm]
  congr 1
  exact Finset.sum_congr rfl fun q _ => mul_comm _ _
theorem bare_apply (r : FVec Ideal S4096x4096 .f32) (i k : Fin 4096) : bareV r (ix2 i k) = Spec.bare (fun i k => r (ix2 i k)) i k := by
  unfold Spec.bare
  pointwise [bareV]
  congr 2
  have h : ((BitVec.ofNat 32 i.val + 0#32) == BitVec.ofNat 32 k.val) = decide (i = k) := by
    rw [BitVec.add_zero]
    by_cases h : i = k
    · subst h; simp
    · have h' : BitVec.ofNat 32 i.val ≠ BitVec.ofNat 32 k.val := by
        intro e
        have := congrArg BitVec.toNat e
        simp only [BitVec.toNat_ofNat] at this
        exact h (Fin.ext (by omega))
      simp [h, h']
  show (((IntOp.cmpi .eq (IntOp.addi (BitVec.ofNat 32 i.val) 0#32) (BitVec.ofNat 32 k.val)).toNat : ℝ) : EReal) = _
  unfold IntOp.cmpi IntOp.addi
  simp only [h]
  by_cases h : i = k <;> simp [h]
theorem quot_apply (r : FVec Ideal S4096x4096 .f32) (i k : Fin 4096) : quot r (ix2 i k) = Ideal.div (r (ix2 i k)) (∑ q, r (ix2 i q)) := by
  pointwise [quot]
theorem noInf_apply (r : FVec Ideal S4096x4096 .f32) (i k : Fin 4096) : noInf r (ix2 i k) = if max (r (ix2 i k)) (-r (ix2 i k)) = ⊤ then 0 else r (ix2 i k) := by
  have htop : Ideal.ofBits .f32 0x7F800000#32 = ⊤ := by simp [Ideal.ofBits, Ideal.ieee]
  pointwise [noInf]
  rw [htop]
  show (if max (r (ix2 i k)) (-r (ix2 i k)) = ⊤ then Ideal.ofBits .f32 0x00000000#32 else r (ix2 i k)) = _
  rw [Ideal.ofBits_zero_f32]
theorem noNan_apply (r : FVec Ideal S4096x4096 .f32) (i k : Fin 4096) : noNan r (ix2 i k) = r (ix2 i k) := by
  pointwise [noNan]
  rw [if_neg (fun h => h rfl)]
theorem res_apply (e : FVec Ideal S1x4096x64 .f32) (r : FVec Ideal S4096x4096 .f32) (i : Fin 4096) (j : Fin 64) :
    res e r (ix3 0 i j) = e (ix3 0 i j) - ∑ k, e (ix3 0 k j) * noNan (noInf (quot (bareV r))) (ix2 i k) := by
  pointwise [res]

section Results
variable (m : (ℓ : Loc nD τ sig) → Buf (Elt Ideal) ℓ) (c : Dev nD)

/-- The reference's inputs as matrices. -/
def inp : Spec.In where
  s1 := fun i k => (m ((c.tc : Thread nD τ).loc main_arg0) : FVec Ideal S1x4096x256 .f32) (ix3 0 i k)
  s2 := fun i k => (m ((c.tc : Thread nD τ).loc main_arg1) : FVec Ideal S1x4096x256 .f32) (ix3 0 i k)
  adj := fun i k => (m ((c.tc : Thread nD τ).loc main_arg2) : FVec Ideal S1x4096x4096 .f32) (ix3 0 i k)
  raw := fun i k => (m ((c.tc : Thread nD τ).loc main_arg3) : FVec Ideal S4096x4096 .f32) (ix2 i k)
  w1 := fun i k => (m ((c.tc : Thread nD τ).loc main_arg6) : FVec Ideal S256x64 .f32) (ix2 i k)
  b1 := fun j => (m ((c.tc : Thread nD τ).loc main_arg7) : FVec Ideal S64 .f32) (ix1 j)
  a1 := (m ((c.tc : Thread nD τ).loc main_arg8) : FVec Ideal S_ .f32) ix0
  w2 := fun i k => (m ((c.tc : Thread nD τ).loc main_arg9) : FVec Ideal S64x64 .f32) (ix2 i k)
  b2 := fun j => (m ((c.tc : Thread nD τ).loc main_arg10) : FVec Ideal S64 .f32) (ix1 j)
  a2 := (m ((c.tc : Thread nD τ).loc main_arg11) : FVec Ideal S_ .f32) ix0
  wb := fun i k => (m ((c.tc : Thread nD τ).loc main_arg12) : FVec Ideal S64x64 .f32) (ix2 i k)
  bb := (m ((c.tc : Thread nD τ).loc main_arg13) : FVec Ideal S_ .f32) ix0
  wf := fun k => (m ((c.tc : Thread nD τ).loc main_arg14) : FVec Ideal S64x1 .f32) (ix2 k 0)

theorem h1_apply (i : Fin 4096) (j : Fin 64) : h1 m c (ix3 0 i j) = (inp m c).h (inp m c).s1 i j := by
  unfold h1; rw [lay_apply]; simp only [fst_apply]; rfl
theorem h2_apply (i : Fin 4096) (j : Fin 64) : h2 m c (ix3 0 i j) = (inp m c).h (inp m c).s2 i j := by
  unfold h2; rw [lay_apply]; simp only [fst_apply]; rfl
theorem e1_apply (i : Fin 4096) (j : Fin 64) : e1 m c (ix3 0 i j) = (inp m c).e (inp m c).s1 i j := by
  unfold e1; rw [lay_apply]; simp only [snd_apply, h1_apply]; rfl
theorem e2_apply (i : Fin 4096) (j : Fin 64) : e2 m c (ix3 0 i j) = (inp m c).e (inp m c).s2 i j := by
  unfold e2; rw [lay_apply]; simp only [snd_apply, h2_apply]; rfl
theorem normal_apply (r : FVec Ideal S4096x4096 .f32) (i k : Fin 4096) :
    noNan (noInf (quot (bareV r))) (ix2 i k) = Spec.normal (fun i k => r (ix2 i k)) i k := by
  rw [noNan_apply, noInf_apply, quot_apply]
  simp only [bare_apply]
  rfl
theorem res1_apply (i : Fin 4096) (j : Fin 64) :
    res (e1 m c) (m ((c.tc : Thread nD τ).loc main_arg3)) (ix3 0 i j) = Spec.residHost (inp m c).raw ((inp m c).e (inp m c).s1) i j := by
  rw [res_apply]; simp only [normal_apply, e1_apply]; rfl

theorem emb_apply (i : Fin 4096) (j : Fin 64) : (Value.res_out2 m c : FVec Ideal S4096x64 .f32) (ix2 i j) = (inp m c).e (inp m c).s1 i j := by
  rw [out2, ← e1_apply]
  generalize e1 m c = e
  pointwise []
theorem resid_apply (i : Fin 4096) (j : Fin 64) :
    (Value.res_out3 m c : FVec Ideal S4096x64 .f32) (ix2 i j) = Spec.residHost (inp m c).raw ((inp m c).e (inp m c).s1) i j := by
  rw [out3, ← res1_apply]
  generalize res (e1 m c) _ = e
  pointwise []
theorem logit_apply (i : Fin 4096) :
    (Value.res_out1 m c : FVec Ideal S1x4096 .f32) (ix2 0 i) = Spec.logits (inp m c).wf (Spec.residHost (inp m c).raw ((inp m c).e (inp m c).s1)) i := by
  rw [out1]
  have h := fun j => res1_apply m c i j
  generalize res (e1 m c) _ = e at h ⊢
  unfold Spec.logits
  simp only [← h]
  pointwise []
  exact Finset.sum_congr (M := EReal) rfl fun k _ => mul_comm (G := EReal) _ ((inp m c).wf k)
theorem ret_apply (n : Fin 8192) : (Value.res_out0 m c : FVec Ideal S1x8192 .f32) (ix2 0 n) = (inp m c).ret n := by
  rw [out0]
  have hs : ∀ (x : FVec Ideal S1x4096x64 .f32) (X : Spec.M 4096 64), (∀ i j, x (ix3 0 i j) = X i j) → ∀ i : Fin 4096,
      sc x (squash (h1 m c)) (m ((c.tc : Thread nD τ).loc main_arg12)) (m ((c.tc : Thread nD τ).loc main_arg13)) (ix2 0 i)
        = Spec.score (inp m c).v (inp m c).bb X i := by
    intro x X hX i
    rw [sc_apply]
    simp only [squash_apply, hX, h1_apply]
    rfl
  have hs1 := hs _ _ (h1_apply m c)
  have hs2 := hs _ _ (e2_apply m c)
  generalize sc (h1 m c) _ _ _ = x at hs1 ⊢
  generalize sc (e2 m c) _ _ _ = y at hs2 ⊢
  unfold Spec.In.ret
  simp only [← hs1, ← hs2]
  pointwise []
end Results

end Cert.ReferenceIdeal.Hand
-- ==== Proof.Match.lean ====
/-
  The kernel's arrays when its region is entered, and the finite arguments of the precondition.
-/
module

public import proofs.«01_k».proof.Defs
public import proofs.«01_k».proof.Proof.Run
public import proofs.«01_k».proof.Proof.Value
public import proofs.«01_k».proof.Proof.Ref

@[expose] public section

set_option maxRecDepth 16384

noncomputable section

namespace Cert.KernelIdeal.Hand

open Cert.KernelIdeal Cert.KernelIdeal.Gen
open Idealize.ShloMosaic Idealize.ShloMosaic.TcCoe Idealize.SL.Sem

/-! ### The arrays the host reshapes before the region -/

section Entry
variable {F : FTy → Type} [FloatOps F] (m : (ℓ : Loc nD τ sig) → Buf (Elt F) ℓ) (c : Dev nD)

theorem V_s1 : V m c main_v0 = shapeCast S4096x256 (m ((c : Thread nD τ).loc main_arg0)) shapeCasts_S1x4096x256_S4096x256 := by
  show StableHlo.after hostOps0 _ (Proc.devRef .tc main_v0) = _
  after_results
  rfl
theorem V_s2 : V m c main_v1 = shapeCast S4096x256 (m ((c : Thread nD τ).loc main_arg1)) shapeCasts_S1x4096x256_S4096x256 := by
  show StableHlo.after hostOps0 _ (Proc.devRef .tc main_v1) = _
  after_results
  rfl
theorem V_adj : V m c main_v2 = shapeCast S4096x4096 (m ((c : Thread nD τ).loc main_arg2)) shapeCasts_S1x4096x4096_S4096x4096 := by
  show StableHlo.after hostOps0 _ (Proc.devRef .tc main_v2) = _
  after_results
  rfl
theorem V_b1 : V m c main_v3 = shapeCast S1x64 (m ((c : Thread nD τ).loc main_arg7)) shapeCasts_S64_S1x64 := by
  show StableHlo.after hostOps0 _ (Proc.devRef .tc main_v3) = _
  after_results
  rfl
theorem V_b2 : V m c main_v4 = shapeCast S1x64 (m ((c : Thread nD τ).loc main_arg10)) shapeCasts_S64_S1x64 := by
  show StableHlo.after hostOps0 _ (Proc.devRef .tc main_v4) = _
  after_results
  rfl
theorem V_a1 : V m c main_v5 = shapeCast S1x1 (m ((c : Thread nD τ).loc main_arg8)) shapeCasts_S_S1x1 := by
  show StableHlo.after hostOps0 _ (Proc.devRef .tc main_v5) = _
  after_results
  rfl
theorem V_a2 : V m c main_v6 = shapeCast S1x1 (m ((c : Thread nD τ).loc main_arg11)) shapeCasts_S_S1x1 := by
  show StableHlo.after hostOps0 _ (Proc.devRef .tc main_v6) = _
  after_results
  rfl
theorem V_bb : V m c main_v7 = shapeCast S1x1 (m ((c : Thread nD τ).loc main_arg13)) shapeCasts_S_S1x1 := by
  show StableHlo.after hostOps0 _ (Proc.devRef .tc main_v7) = _
  after_results
  rfl

end Entry

/-! ### The reshapes read at one element -/

section Casts
theorem cast_s (x : FVec Ideal S1x4096x256 .f32) (i : Fin 4096) (k : Fin 256) :
    shapeCast S4096x256 x shapeCasts_S1x4096x256_S4096x256 (ix2 i k) = x (ix3 0 i k) := by
  pointwise []
theorem cast_adj (x : FVec Ideal S1x4096x4096 .f32) (i k : Fin 4096) :
    shapeCast S4096x4096 x shapeCasts_S1x4096x4096_S4096x4096 (ix2 i k) = x (ix3 0 i k) := by
  pointwise []
theorem cast_b (x : FVec Ideal S64 .f32) (j : Fin 64) :
    shapeCast S1x64 x shapeCasts_S64_S1x64 (ix2 0 j) = x (ix1 j) := by
  pointwise []
theorem cast_a (x : FVec Ideal S_ .f32) :
    shapeCast S1x1 x shapeCasts_S_S1x1 (ix2 0 0) = x ix0 := by
  pointwise []

end Casts

/-! ### The inputs of the account, from the arguments -/

variable (m : (ℓ : Loc nD τ sig) → Buf (Elt Ideal) ℓ) (c : Dev nD)

/-- The arguments, as the account's inputs. -/
def args : Spec.In where
  s1 := fun i k => (m ((c : Thread nD τ).loc main_arg0) : FVec Ideal S1x4096x256 .f32) (ix3 0 i k)
  s2 := fun i k => (m ((c : Thread nD τ).loc main_arg1) : FVec Ideal S1x4096x256 .f32) (ix3 0 i k)
  adj := fun i k => (m ((c : Thread nD τ).loc main_arg2) : FVec Ideal S1x4096x4096 .f32) (ix3 0 i k)
  raw := fun i k => (m ((c : Thread nD τ).loc main_arg3) : FVec Ideal S4096x4096 .f32) (ix2 i k)
  w1 := fun i k => (m ((c : Thread nD τ).loc main_arg6) : FVec Ideal S256x64 .f32) (ix2 i k)
  b1 := fun j => (m ((c : Thread nD τ).loc main_arg7) : FVec Ideal S64 .f32) (ix1 j)
  a1 := (m ((c : Thread nD τ).loc main_arg8) : FVec Ideal S_ .f32) ix0
  w2 := fun i k => (m ((c : Thread nD τ).loc main_arg9) : FVec Ideal S64x64 .f32) (ix2 i k)
  b2 := fun j => (m ((c : Thread nD τ).loc main_arg10) : FVec Ideal S64 .f32) (ix1 j)
  a2 := (m ((c : Thread nD τ).loc main_arg11) : FVec Ideal S_ .f32) ix0
  wb := fun i k => (m ((c : Thread nD τ).loc main_arg12) : FVec Ideal S64x64 .f32) (ix2 i k)
  bb := (m ((c : Thread nD τ).loc main_arg13) : FVec Ideal S_ .f32) ix0
  wf := fun k => (m ((c : Thread nD τ).loc main_arg14) : FVec Ideal S64x1 .f32) (ix2 k 0)

theorem in_ext {I J : Spec.In} (s1 : I.s1 = J.s1) (s2 : I.s2 = J.s2) (adj : I.adj = J.adj) (raw : I.raw = J.raw) (w1 : I.w1 = J.w1)
    (b1 : I.b1 = J.b1) (a1 : I.a1 = J.a1) (w2 : I.w2 = J.w2) (b2 : I.b2 = J.b2) (a2 : I.a2 = J.a2) (wb : I.wb = J.wb) (bb : I.bb = J.bb)
    (wf : I.wf = J.wf) : I = J := by
  cases I; cases J; cases s1; cases s2; cases adj; cases raw; cases w1; cases b1; cases a1; cases w2; cases b2; cases a2; cases wb; cases bb; cases wf; rfl

theorem inp_eq : (arrs m c).inp = args m c :=
  in_ext
    (funext fun i => funext fun k => (congrFun (V_s1 m c) (ix2 i k)).trans (cast_s _ i k))
    (funext fun i => funext fun k => (congrFun (V_s2 m c) (ix2 i k)).trans (cast_s _ i k))
    (funext fun i => funext fun k => (congrFun (V_adj m c) (ix2 i k)).trans (cast_adj _ i k))
    (funext fun i => funext fun k => congrFun (V_main_arg3 m c) (ix2 i k))
    (funext fun i => funext fun k => congrFun (V_main_arg6 m c) (ix2 i k))
    (funext fun j => (congrFun (V_b1 m c) (ix2 0 j)).trans (cast_b _ j))
    ((congrFun (V_a1 m c) (ix2 0 0)).trans (cast_a _))
    (funext fun i => funext fun k => congrFun (V_main_arg9 m c) (ix2 i k))
    (funext fun j => (congrFun (V_b2 m c) (ix2 0 j)).trans (cast_b _ j))
    ((congrFun (V_a2 m c) (ix2 0 0)).trans (cast_a _))
    (funext fun i => funext fun k => congrFun (V_main_arg12 m c) (ix2 i k))
    ((congrFun (V_bb m c) (ix2 0 0)).trans (cast_a _))
    (funext fun k => congrFun (V_main_arg14 m c) (ix2 k 0))

/-! ### The two prompts' products -/

/-- A product into a zero block is the reference's product. -/
theorem prod_eq (x : FVec Ideal S1x64 .f32) (w : FVec Ideal S64x64 .f32) :
    matmul dot_S1x64_S64x64_S1x64_1_0_0_1_n_n none x w (constant S1x64 .f32 0x00000000#32)
      = Host.dotGeneral Cert.ReferenceIdeal.dot_S1x64_S64x64_S1x64_1_0_0_1_n_n none x w := by
  funext z
  rw [ValueIdx.eq_ix2 z, ← ix2_eq_valueIdx]
  pointwise []

theorem np_eq : (arrs m c).NPO = Host.dotGeneral (F := Ideal) (φ₁ := .f32) (φ₂ := .f32) Cert.ReferenceIdeal.dot_S1x64_S64x64_S1x64_1_0_0_1_n_n none
    (m ((c : Thread nD τ).loc main_arg4) : FVec Ideal S1x64 .f32) (m ((c : Thread nD τ).loc main_arg15) : FVec Ideal S64x64 .f32) := by
  refine Eq.trans ?_ (prod_eq _ _)
  show k0_pay2 (V m c main_arg4) (V m c main_arg15) = _
  rw [V_main_arg4, V_main_arg15]; rfl
theorem ap_eq : (arrs m c).APO = Host.dotGeneral (F := Ideal) (φ₁ := .f32) (φ₂ := .f32) Cert.ReferenceIdeal.dot_S1x64_S64x64_S1x64_1_0_0_1_n_n none
    (m ((c : Thread nD τ).loc main_arg5) : FVec Ideal S1x64 .f32) (m ((c : Thread nD τ).loc main_arg16) : FVec Ideal S64x64 .f32) := by
  refine Eq.trans ?_ (prod_eq _ _)
  show k0_pay3 (V m c main_arg5) (V m c main_arg16) = _
  rw [V_main_arg5, V_main_arg16]; rfl

/-! ### The precondition -/

/-- The predicate's side conditions hold. -/
theorem preFacts : Cert.Pre_finite_embedding.Facts where
  bcast_S_S1x4096x256 := by decide
  bcast_S_S1x4096x4096 := by decide
  bcast_S_S4096x4096 := by decide
  bcast_S_S256x64 := by decide
  bcast_S_S64 := by decide
  bcast_S_S64x64 := by decide

/-- A value whose size is below the upper end is a real number. -/
theorem real_of_lt {x : EReal} (h : max x (-x) < ⊤) : Spec.Fin' x := by
  induction x with
  | bot => simp at h
  | top => simp at h
  | coe r => exact ⟨r, rfl⟩

/-- Where the predicate's mask of an array is all ones, its elements are real numbers. -/
theorem real_of_mask {s : Shape} {x k : FVec Ideal s .f32} (h : cmpf .olt (Host.absf x) k = fun _ => 1#1)
    (z : s.Idx) (hk : k z = Ideal.ofBits .f32 0x7F800000#32) : Spec.Fin' (x z) := by
  have e : Ideal.cmp .olt (max (x z) (-(x z)) : EReal) (k z) = 1#1 := congrFun h z
  rw [hk, show Ideal.ofBits .f32 0x7F800000#32 = (⊤ : EReal) by simp [Ideal.ofBits, Ideal.ieee]] at e
  refine real_of_lt ?_
  by_contra hn
  simp [Ideal.cmp, hn] at e

theorem args_finite (h : Cert.Pre_KernelIdeal_finite_embedding (hPre_finite_embedding := preFacts) m) : (args m c).Finite where
  s1 i k := real_of_mask (h c).1 (ix3 0 i k) rfl
  adj i k := real_of_mask (h c).2.1 (ix3 0 i k) rfl
  raw i k := real_of_mask (h c).2.2.1 (ix2 i k) rfl
  w1 i k := real_of_mask (h c).2.2.2.1 (ix2 i k) rfl
  b1 j := real_of_mask (h c).2.2.2.2.1 (ix1 j) rfl
  a1 := real_of_mask (h c).2.2.2.2.2.1 ix0 rfl
  w2 i k := real_of_mask (h c).2.2.2.2.2.2.1 (ix2 i k) rfl
  b2 j := real_of_mask (h c).2.2.2.2.2.2.2.1 (ix1 j) rfl
  a2 := real_of_mask (h c).2.2.2.2.2.2.2.2 ix0 rfl

end Cert.KernelIdeal.Hand
-- ==== Proof.Final.lean ====
/-
  What the six results hold after the run: the blocks of `Data`, put together.
-/
module

public import proofs.«01_k».proof.Proof.Run

@[expose] public section

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat RDat Cfg Window)

variable {F : FTy → Type} [FloatOps F]
variable {m : (ℓ : Loc nD τ sig) → Buf (Elt F) ℓ}

/-! ### The two results written back block by block -/

theorem size17 : ∀ t : Fin grid0.N, win0_17.xsize (grid0.coords t) 0 = 512 ∧ win0_17.xsize (grid0.coords t) 1 = 64 := by decide +kernel
theorem size18 : ∀ t : Fin grid0.N, win0_18.xsize (grid0.coords t) 0 = 512 ∧ win0_18.xsize (grid0.coords t) 1 = 64 := by decide +kernel
/-- The point that writes block `b` of the embedding back. -/
theorem point17 : ∀ b : Fin 8, ∃ t : Fin grid0.N, win0_17.flush t = true ∧ cc0_transform_17 (grid0.coords t) 0 = b.val ∧ cc0_transform_17 (grid0.coords t) 1 = 0 := by decide +kernel
theorem point18 : ∀ b : Fin 8, ∃ t : Fin grid0.N, win0_18.flush t = true ∧ cc0_transform_18 (grid0.coords t) 0 = b.val ∧ cc0_transform_18 (grid0.coords t) 1 = 0 := by decide +kernel

theorem final_emb {r : PUnit × MemSt nD τ sig (Elt F)} (h : RDat.FramePost (cfgs 0) (rdat m) (V m) r) (c : Dev nD) :
    r.2.mem ((c : Thread nD τ).loc main_v8_0) = rows (arrs m c).EMBB := by
  obtain ⟨after, hL, hA⟩ := h.exists_exact c
  refine (hA 17).trans (((rdat m c).withAfter after).arrAt_eq_of_cover 17 (rows (arrs m c).EMBB) (fun t hf => ?_) fun i => ?_)
  · obtain ⟨Y, -, hY⟩ := hL 17 t hf
    have hY' : (arrs m c).OEmb t.val (after 17 t) := hY
    have hN : t.val < 32 := N_0 ▸ t.isLt
    have ht := (flush17 t).1 hf
    have hr := rb_lt t.val
    have e := hY' (by omega)
    have tr : ∀ a, cc0_transform_17 (grid0.coords t) a = (![if t.val < 24 then rb t.val else 5, 0] : Fin 2 → ℕ) a := fun a => by
      rw [tr17_eq t, if_neg (by omega)]
    have hb : (if t.val < 24 then rb t.val else 5) < 8 := by split_ifs <;> omega
    generalize (if t.val < 24 then rb t.val else 5) = b at e tr hb
    funext y
    have h0 : (y 0).val < 512 := Nat.lt_of_lt_of_eq (y 0).isLt (size17 t).1
    have h1 : (y 1).val < 64 := Nat.lt_of_lt_of_eq (y 1).isLt (size17 t).2
    let z : (⟨2, ![512, 64]⟩ : Shape).Idx := ix2 (⟨(y 0).val, h0⟩ : Fin 512) (⟨(y 1).val, h1⟩ : Fin 64)
    have hz : (arrs m c).EMBB b z = rows (arrs m c).EMBB (ix2 (⟨(512 * b + (y 0).val) % 4096, Nat.mod_lt _ (by decide)⟩ : Fin 4096) (⟨(y 1).val, h1⟩ : Fin 64)) :=
      (congrFun (blk_rows (arrs m c).EMBB b hb) z).symm
    refine Eq.trans (b := (arrs m c).EMBB b z) ?_ (hz.trans ?_)
    · show after 17 t _ = _
      rw [e]
      refine congrArg ((arrs m c).EMBB b) (funext fun a => Fin.ext ?_)
      match a with
      | 0 => rfl
      | 1 => rfl
    · refine congrArg (rows (arrs m c).EMBB) (funext fun a => Fin.ext ?_)
      match a with
      | 0 =>
        show (512 * b + (y 0).val) % 4096 = cc0_transform_17 (grid0.coords t) 0 * 512 + 1 * (y 0).val
        rw [show cc0_transform_17 (grid0.coords t) 0 = b from tr 0]; omega
      | 1 =>
        show (y 1).val = cc0_transform_17 (grid0.coords t) 1 * 64 + 1 * (y 1).val
        rw [show cc0_transform_17 (grid0.coords t) 1 = 0 from tr 1]; omega
  · have i0 : (i 0 : ℕ) < 4096 := (i 0).isLt
    have i1 : (i 1 : ℕ) < 64 := (i 1).isLt
    obtain ⟨t, hf, ht0, ht1⟩ := point17 ⟨(i 0 : ℕ) / 512, by omega⟩
    refine ⟨t, hf, ?_⟩
    show i ∈ ((View.whole main_v8_0).slice (win0_17.rect t)).set
    rw [View.set_slice_whole, Rect.mem_set_unit]
    intro a
    match a with
    | ⟨0, _⟩ =>
      show cc0_transform_17 (grid0.coords t) 0 * 512 ≤ (i 0 : ℕ) ∧ (i 0 : ℕ) < cc0_transform_17 (grid0.coords t) 0 * 512 + win0_17.xsize (grid0.coords t) 0
      rw [ht0, (size17 t).1]; dsimp only; omega
    | ⟨1, _⟩ =>
      show cc0_transform_17 (grid0.coords t) 1 * 64 ≤ (i 1 : ℕ) ∧ (i 1 : ℕ) < cc0_transform_17 (grid0.coords t) 1 * 64 + win0_17.xsize (grid0.coords t) 1
      rw [ht1, (size17 t).2]; omega

theorem final_resid {r : PUnit × MemSt nD τ sig (Elt F)} (h : RDat.FramePost (cfgs 0) (rdat m) (V m) r) (c : Dev nD) :
    r.2.mem ((c : Thread nD τ).loc main_v8_1) = rows (arrs m c).RESB := by
  obtain ⟨after, hL, hA⟩ := h.exists_exact c
  refine (hA 18).trans (((rdat m c).withAfter after).arrAt_eq_of_cover 18 (rows (arrs m c).RESB) (fun t hf => ?_) fun i => ?_)
  · obtain ⟨Y, -, hY⟩ := hL 18 t hf
    have hY' : (arrs m c).ORes t.val (after 18 t) := hY
    have hN : t.val < 32 := N_0 ▸ t.isLt
    have ht := (flush18 t).1 hf
    have e := hY' ht
    have tr : ∀ a, cc0_transform_18 (grid0.coords t) a = (![t.val % 8, 0] : Fin 2 → ℕ) a := fun a => by
      rw [tr18_eq t, if_neg (by omega)]
    have hb : t.val % 8 < 8 := Nat.mod_lt _ (by decide)
    generalize t.val % 8 = b at e tr hb
    funext y
    have h0 : (y 0).val < 512 := Nat.lt_of_lt_of_eq (y 0).isLt (size18 t).1
    have h1 : (y 1).val < 64 := Nat.lt_of_lt_of_eq (y 1).isLt (size18 t).2
    let z : (⟨2, ![512, 64]⟩ : Shape).Idx := ix2 (⟨(y 0).val, h0⟩ : Fin 512) (⟨(y 1).val, h1⟩ : Fin 64)
    have hz : (arrs m c).RESB b z = rows (arrs m c).RESB (ix2 (⟨(512 * b + (y 0).val) % 4096, Nat.mod_lt _ (by decide)⟩ : Fin 4096) (⟨(y 1).val, h1⟩ : Fin 64)) :=
      (congrFun (blk_rows (arrs m c).RESB b hb) z).symm
    refine Eq.trans (b := (arrs m c).RESB b z) ?_ (hz.trans ?_)
    · show after 18 t _ = _
      rw [e]
      refine congrArg ((arrs m c).RESB b) (funext fun a => Fin.ext ?_)
      match a with
      | 0 => rfl
      | 1 => rfl
    · refine congrArg (rows (arrs m c).RESB) (funext fun a => Fin.ext ?_)
      match a with
      | 0 =>
        show (512 * b + (y 0).val) % 4096 = cc0_transform_18 (grid0.coords t) 0 * 512 + 1 * (y 0).val
        rw [show cc0_transform_18 (grid0.coords t) 0 = b from tr 0]; omega
      | 1 =>
        show (y 1).val = cc0_transform_18 (grid0.coords t) 1 * 64 + 1 * (y 1).val
        rw [show cc0_transform_18 (grid0.coords t) 1 = 0 from tr 1]; omega
  · have i0 : (i 0 : ℕ) < 4096 := (i 0).isLt
    have i1 : (i 1 : ℕ) < 64 := (i 1).isLt
    obtain ⟨t, hf, ht0, ht1⟩ := point18 ⟨(i 0 : ℕ) / 512, by omega⟩
    refine ⟨t, hf, ?_⟩
    show i ∈ ((View.whole main_v8_1).slice (win0_18.rect t)).set
    rw [View.set_slice_whole, Rect.mem_set_unit]
    intro a
    match a with
    | ⟨0, _⟩ =>
      show cc0_transform_18 (grid0.coords t) 0 * 512 ≤ (i 0 : ℕ) ∧ (i 0 : ℕ) < cc0_transform_18 (grid0.coords t) 0 * 512 + win0_18.xsize (grid0.coords t) 0
      rw [ht0, (size18 t).1]; dsimp only; omega
    | ⟨1, _⟩ =>
      show cc0_transform_18 (grid0.coords t) 1 * 64 ≤ (i 1 : ℕ) ∧ (i 1 : ℕ) < cc0_transform_18 (grid0.coords t) 1 * 64 + win0_18.xsize (grid0.coords t) 1
      rw [ht1, (size18 t).2]; omega

/-! ### The four results written back once, at the last point -/

/-- The last point. -/
def last : Fin grid0.N := ⟨31, by rw [N_0]; decide⟩

theorem final_ret {r : PUnit × MemSt nD τ sig (Elt F)} (h : RDat.FramePost (cfgs 0) (rdat m) (V m) r) (c : Dev nD) :
    r.2.mem ((c : Thread nD τ).loc main_v8_2) = cols 8192 (arrs m c).RETB := by
  obtain ⟨X, ⟨Y, -, hX⟩, hG⟩ := ((h c).1 19).emb_eq_of_wholeAt (t₀ := last) (by decide +kernel)
  have e : X = cols 8192 (arrs m c).RETB := eq_cols (N := 8192) X _ fun b hb => hX b (by omega) (by
    have := ord_lt ⟨b % 8, Nat.mod_lt _ (by decide)⟩
    show 16 + ord (b % 8) ≤ 31
    dsimp only at this; omega)
  funext i
  exact (hG i).trans (congrFun e i)
theorem final_logit {r : PUnit × MemSt nD τ sig (Elt F)} (h : RDat.FramePost (cfgs 0) (rdat m) (V m) r) (c : Dev nD) :
    r.2.mem ((c : Thread nD τ).loc main_v8_3) = cols 4096 (arrs m c).LOGB := by
  obtain ⟨X, ⟨Y, -, hX⟩, hG⟩ := ((h c).1 20).emb_eq_of_wholeAt (t₀ := last) (by decide +kernel)
  have e : X = cols 4096 (arrs m c).LOGB := eq_cols (N := 4096) X _ fun b hb => hX b (by omega) (by
    show 24 + b ≤ 31
    omega)
  funext i
  exact (hG i).trans (congrFun e i)
theorem final_np {r : PUnit × MemSt nD τ sig (Elt F)} (h : RDat.FramePost (cfgs 0) (rdat m) (V m) r) (c : Dev nD) :
    r.2.mem ((c : Thread nD τ).loc main_v8_4) = (arrs m c).NPO := by
  obtain ⟨X, ⟨Y, -, hX⟩, hG⟩ := ((h c).1 21).emb_eq_of_wholeAt (t₀ := last) (by decide +kernel)
  have e : X = (arrs m c).NPO := hX
  funext i
  exact (hG i).trans (congrFun e i)
theorem final_ap {r : PUnit × MemSt nD τ sig (Elt F)} (h : RDat.FramePost (cfgs 0) (rdat m) (V m) r) (c : Dev nD) :
    r.2.mem ((c : Thread nD τ).loc main_v8_5) = (arrs m c).APO := by
  obtain ⟨X, ⟨Y, -, hX⟩, hG⟩ := ((h c).1 22).emb_eq_of_wholeAt (t₀ := last) (by decide +kernel)
  have e : X = (arrs m c).APO := hX
  funext i
  exact (hG i).trans (congrFun e i)

end Cert.KernelIdeal.Hand
-- ==== Proof.Agree.lean ====
/-
  The kernel's results are the reference's, from the same arguments.
-/
module

public import proofs.«01_k».proof.Proof.Match
public import proofs.«01_k».proof.Proof.Final

@[expose] public section

set_option maxRecDepth 16384

noncomputable section

namespace Cert.KernelIdeal.Hand

open Cert.KernelIdeal Cert.KernelIdeal.Gen
open Idealize.ShloMosaic Idealize.ShloMosaic.TcCoe Idealize.SL.Sem

/-- Two arrays of two axes that agree at every row and column are equal. -/
theorem ext2 {α : Type} {a b : ℕ} {X Y : (⟨2, ![a, b]⟩ : Shape).Idx → α} (h : ∀ i j, X (ix2 i j) = Y (ix2 i j)) : X = Y := by
  funext z
  rw [ValueIdx.eq_ix2 z, ← ix2_eq_valueIdx]
  exact h _ _
/-- Two rows that agree at every column are equal. -/
theorem ext_row {α : Type} {b : ℕ} {X Y : (⟨2, ![1, b]⟩ : Shape).Idx → α} (h : ∀ j, X (ix2 0 j) = Y (ix2 0 j)) : X = Y :=
  ext2 fun i j => by rw [Subsingleton.elim i 0]; exact h j

variable {m : (ℓ : Loc nD τ sig) → Buf (Elt Ideal) ℓ}
  {m' : (ℓ : Loc Cert.ReferenceIdeal.nD Cert.ReferenceIdeal.τ Cert.ReferenceIdeal.sig) → Buf (Elt Ideal) ℓ} {c : Dev nD}

theorem emb_eq (h : Cert.ReferenceIdeal.Hand.inp m' c = args m c) :
    rows (arrs m c).EMBB = Cert.ReferenceIdeal.Value.res_out2 m' c :=
  ext2 (a := 4096) (b := 64) fun i j => by
    rw [Arr.emb_apply, inp_eq, ← h]
    exact (Cert.ReferenceIdeal.Hand.emb_apply m' c i j).symm

theorem resid_eq (h : Cert.ReferenceIdeal.Hand.inp m' c = args m c) (hf : (args m c).Finite) :
    rows (arrs m c).RESB = Cert.ReferenceIdeal.Value.res_out3 m' c :=
  ext2 (a := 4096) (b := 64) fun i j => by
    rw [Arr.resid_apply, inp_eq, hf.resid_eq, ← h]
    exact (Cert.ReferenceIdeal.Hand.resid_apply m' c i j).symm

theorem ret_eq (h : Cert.ReferenceIdeal.Hand.inp m' c = args m c) :
    cols 8192 (arrs m c).RETB = Cert.ReferenceIdeal.Value.res_out0 m' c :=
  ext_row (b := 8192) fun n => by
    rw [Arr.ret_apply, inp_eq, ← h]
    exact (Cert.ReferenceIdeal.Hand.ret_apply m' c n).symm

theorem logit_eq (h : Cert.ReferenceIdeal.Hand.inp m' c = args m c) (hf : (args m c).Finite) :
    cols 4096 (arrs m c).LOGB = Cert.ReferenceIdeal.Value.res_out1 m' c :=
  ext_row (b := 4096) fun n => by
    rw [Arr.logit_apply, inp_eq, hf.resid_eq, ← h]
    exact (Cert.ReferenceIdeal.Hand.logit_apply m' c n).symm

end Cert.KernelIdeal.Hand
-- ==== Proof.lean ====
/-
  The claims of the statement, assembled: the kernel as printed and the kernel over the extended reals run and keep their
  arguments (`KRun`, `Run`), the reference does, and on finite arguments the two programs end with the same results (`Agree`).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KRun
public import proofs.«01_k».proof.Proof.Run
public import proofs.«01_k».proof.Proof.Agree
public import Idealize.ShloMosaic.Adequacy
public import Idealize.ShloMosaic.Init

@[expose] public section

noncomputable section

namespace Cert.Proof

open Idealize.ShloMosaic Idealize.SL.Sem Cert.Kernel

/-- The kernel as printed runs, keeps its arguments and ends with every counter at zero. -/
theorem kernel_frame : Cert.quiescent_Kernel (hKernel := Cert.Kernel.Gen.facts) := fun m g _ =>
  (θ_run Cert.Kernel.defs _ _).mono (fun _ h => ⟨fun c => Cert.Kernel.Hand.final_args h.1 c, h.2⟩) (Cert.Kernel.Hand.run_main m g)

/-- The kernel over the extended reals does, too. -/
theorem ideal_frame : Cert.quiescent_KernelIdeal (hKernelIdeal := Cert.KernelIdeal.Gen.facts) := fun m g _ =>
  (θ_run Cert.KernelIdeal.defs _ _).mono (fun _ h => ⟨fun c => Cert.KernelIdeal.Hand.final_args h.1 c, h.2⟩) (Cert.KernelIdeal.Hand.run_main m g)

/-- The reference over the extended reals does, too. -/
theorem reference_frame : Cert.quiescent_ReferenceIdeal (hReferenceIdeal := Cert.ReferenceIdeal.Gen.facts) := fun m g _ =>
  (θ_run Cert.ReferenceIdeal.defs _ _).mono (fun r h => ⟨fun c => (h c).2.2.2.2.2.2, sem_eq_zero_of_no_sems (by decide) r.2⟩)
    (Cert.ReferenceIdeal.Value.run (F := Ideal) m g)

/-- The same, of arguments the predicate holds of. -/
theorem ideal_frame_pre : Cert.quiescent_KernelIdeal_pre_finite_embedding (hKernelIdeal := Cert.KernelIdeal.Gen.facts)
    (hPre_finite_embedding := Cert.KernelIdeal.Hand.preFacts) := fun m g _ => ideal_frame m g trivial
theorem reference_frame_pre : Cert.quiescent_ReferenceIdeal_pre_finite_embedding (hReferenceIdeal := Cert.ReferenceIdeal.Gen.facts)
    (hPre_finite_embedding := Cert.KernelIdeal.Hand.preFacts) := fun m g _ => reference_frame m g trivial

/-- Arguments that agree give the account the same inputs. -/
theorem inputs {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ} {c : Dev Cert.KernelIdeal.nD}
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    : Cert.ReferenceIdeal.Hand.inp m' c = Cert.KernelIdeal.Hand.args m c :=
  Cert.KernelIdeal.Hand.in_ext
    (funext fun i => funext fun k => congrFun h0 (ix3 0 i k))
    (funext fun i => funext fun k => congrFun h1 (ix3 0 i k))
    (funext fun i => funext fun k => congrFun h2 (ix3 0 i k))
    (funext fun i => funext fun k => congrFun h3 (ix2 i k))
    (funext fun i => funext fun k => congrFun h6 (ix2 i k))
    (funext fun j => congrFun h7 (ix1 j))
    (congrFun h8 ix0)
    (funext fun i => funext fun k => congrFun h9 (ix2 i k))
    (funext fun j => congrFun h10 (ix1 j))
    (congrFun h11 ix0)
    (funext fun i => funext fun k => congrFun h12 (ix2 i k))
    (congrFun h13 ix0)
    (funext fun k => congrFun h14 (ix2 k 0))

/-- On finite arguments, the kernel and the reference end with the same results. -/
theorem algebraic : Cert.algebraic_KernelIdeal_ReferenceIdeal_pre_finite_embedding (hKernelIdeal := Cert.KernelIdeal.Gen.facts)
    (hReferenceIdeal := Cert.ReferenceIdeal.Gen.facts) (hPre_finite_embedding := Cert.KernelIdeal.Hand.preFacts) := by
  intro m g m' g' hp ha
  have hin : ∀ c : Dev Cert.KernelIdeal.nD, Cert.ReferenceIdeal.Hand.inp m' c = Cert.KernelIdeal.Hand.args m c := fun c => by
    obtain ⟨h0, h1, h2, h3, -, -, h6, h7, h8, h9, h10, h11, h12, h13, h14, -, -⟩ := ha c
    exact inputs h0 h1 h2 h3 h6 h7 h8 h9 h10 h11 h12 h13 h14
  have hf : ∀ c : Dev Cert.KernelIdeal.nD, (Cert.KernelIdeal.Hand.args m c).Finite := fun c => Cert.KernelIdeal.Hand.args_finite m c hp
  have hnp : ∀ c : Dev Cert.KernelIdeal.nD, (Cert.KernelIdeal.Hand.arrs m c).NPO
      = Host.dotGeneral (F := Ideal) (φ₁ := .f32) (φ₂ := .f32) Cert.ReferenceIdeal.dot_S1x64_S64x64_S1x64_1_0_0_1_n_n none
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg15)) := fun c => by
    obtain ⟨-, -, -, -, h4, -, -, -, -, -, -, -, -, -, -, h15, -⟩ := ha c
    rw [h4, h15]; exact Cert.KernelIdeal.Hand.np_eq m c
  have hap : ∀ c : Dev Cert.KernelIdeal.nD, (Cert.KernelIdeal.Hand.arrs m c).APO
      = Host.dotGeneral (F := Ideal) (φ₁ := .f32) (φ₂ := .f32) Cert.ReferenceIdeal.dot_S1x64_S64x64_S1x64_1_0_0_1_n_n none
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg16)) := fun c => by
    obtain ⟨-, -, -, -, -, h5, -, -, -, -, -, -, -, -, -, -, h16⟩ := ha c
    rw [h5, h16]; exact Cert.KernelIdeal.Hand.ap_eq m c
  refine ⟨fun c => Cert.KernelIdeal.Hand.cols 8192 (Cert.KernelIdeal.Hand.arrs m c).RETB,
    fun c => Cert.KernelIdeal.Hand.cols 4096 (Cert.KernelIdeal.Hand.arrs m c).LOGB,
    fun c => Cert.KernelIdeal.Hand.rows (Cert.KernelIdeal.Hand.arrs m c).EMBB,
    fun c => Cert.KernelIdeal.Hand.rows (Cert.KernelIdeal.Hand.arrs m c).RESB,
    fun c => (Cert.KernelIdeal.Hand.arrs m c).NPO, fun c => (Cert.KernelIdeal.Hand.arrs m c).APO, ?_, ?_⟩
  · exact (θ_run Cert.KernelIdeal.defs _ _).mono (fun _ h c => ⟨Cert.KernelIdeal.Hand.final_ret h.1 c, Cert.KernelIdeal.Hand.final_logit h.1 c,
      Cert.KernelIdeal.Hand.final_emb h.1 c, Cert.KernelIdeal.Hand.final_resid h.1 c, Cert.KernelIdeal.Hand.final_np h.1 c,
      Cert.KernelIdeal.Hand.final_ap h.1 c, Cert.KernelIdeal.Hand.final_args h.1 c⟩) (Cert.KernelIdeal.Hand.run_main m g)
  · exact (θ_run Cert.ReferenceIdeal.defs _ _).mono (fun _ h c => by
      obtain ⟨r0, r1, r2, r3, r4, r5, rest⟩ := h c
      exact ⟨r0.trans (Cert.KernelIdeal.Hand.ret_eq (hin c)).symm, r1.trans (Cert.KernelIdeal.Hand.logit_eq (hin c) (hf c)).symm,
        r2.trans (Cert.KernelIdeal.Hand.emb_eq (hin c)).symm, r3.trans (Cert.KernelIdeal.Hand.resid_eq (hin c) (hf c)).symm,
        r4.trans (hnp c).symm, r5.trans (hap c).symm, rest⟩) (Cert.ReferenceIdeal.Value.run (F := Ideal) m' g')

theorem claim : Cert.Claim := ⟨Cert.Kernel.Gen.facts, Cert.KernelIdeal.Gen.facts, Cert.ReferenceIdeal.Gen.facts, Cert.KernelIdeal.Hand.preFacts,
  kernel_frame, ideal_frame, ideal_frame_pre, reference_frame, reference_frame_pre, trivial, algebraic⟩

end Cert.Proof

end
